-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_qk [hPre_finite_qk : Cert.Pre_finite_qk.Facts] (m : (ℓ : Loc Cert.AttnIdeal.nD Cert.AttnIdeal.τ Cert.AttnIdeal.sig) → Buf (Elt Ideal) ℓ) : Prop :=
  ∀ c : Dev Cert.AttnIdeal.nD,
    (Cert.Pre_finite_qk.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_qk [hPre_finite_qk : Cert.Pre_finite_qk.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_qk.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))) = (fun _ => 1#1)

def Pre_Experts [hPre_routed : Cert.Pre_routed.Facts] (m : (ℓ : Loc Cert.Experts.nD Cert.Experts.τ Cert.Experts.sig) → Buf (Elt Bits) ℓ) : Prop :=
  ∀ c : Dev Cert.Experts.nD,
    (Cert.Pre_routed.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7)) (m ((c.tc : Thread Cert.Experts.nD Cert.Experts.τ).loc Cert.Experts.main_arg8))) = (fun _ => 1#1)

def Pre_ExpertsIdeal [hPre_routed : Cert.Pre_routed.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_routed.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_routed [hPre_routed : Cert.Pre_routed.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_routed.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6)) (m ((c.tc : Thread Cert.ExpertsRefIdeal.nD Cert.ExpertsRefIdeal.τ).loc Cert.ExpertsRefIdeal.main_arg7)) (m ((c.tc : Thread Cert.ExpertsRefIdeal.nD Cert.ExpertsRefIdeal.τ).loc Cert.ExpertsRefIdeal.main_arg8))) = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_finite_qk [hAttnIdeal : Cert.AttnIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_qk m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_finite_qk [hAttnRefIdeal : Cert.AttnRefIdeal.Facts] [hPre_finite_qk : Cert.Pre_finite_qk.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_qk m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_Experts [hExperts : Cert.Experts.Facts] [hPre_routed : Cert.Pre_routed.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6)
      ∧ r.2.mem ((c.tc : Thread Cert.Experts.nD Cert.Experts.τ).loc Cert.Experts.main_arg7) = m ((c.tc : Thread Cert.Experts.nD Cert.Experts.τ).loc Cert.Experts.main_arg7)
      ∧ r.2.mem ((c.tc : Thread Cert.Experts.nD Cert.Experts.τ).loc Cert.Experts.main_arg8) = m ((c.tc : Thread Cert.Experts.nD Cert.Experts.τ).loc Cert.Experts.main_arg8))
      ∧ r.2.sem = fun _ => 0)

def quiescent_ExpertsIdeal [hExpertsIdeal : Cert.ExpertsIdeal.Facts] [hPre_routed : Cert.Pre_routed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
      ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6)
      ∧ r.2.mem ((c.tc : Thread Cert.ExpertsRefIdeal.nD Cert.ExpertsRefIdeal.τ).loc Cert.ExpertsRefIdeal.main_arg7) = m ((c.tc : Thread Cert.ExpertsRefIdeal.nD Cert.ExpertsRefIdeal.τ).loc Cert.ExpertsRefIdeal.main_arg7)
      ∧ r.2.mem ((c.tc : Thread Cert.ExpertsRefIdeal.nD Cert.ExpertsRefIdeal.τ).loc Cert.ExpertsRefIdeal.main_arg8) = m ((c.tc : Thread Cert.ExpertsRefIdeal.nD Cert.ExpertsRefIdeal.τ).loc Cert.ExpertsRefIdeal.main_arg8))
      ∧ r.2.sem = fun _ => 0)

def quiescent_ExpertsRefIdeal_pre_routed [hExpertsRefIdeal : Cert.ExpertsRefIdeal.Facts] [hPre_routed : Cert.Pre_routed.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_routed m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6)
      ∧ r.2.mem ((c.tc : Thread Cert.ExpertsRefIdeal.nD Cert.ExpertsRefIdeal.τ).loc Cert.ExpertsRefIdeal.main_arg7) = m ((c.tc : Thread Cert.ExpertsRefIdeal.nD Cert.ExpertsRefIdeal.τ).loc Cert.ExpertsRefIdeal.main_arg7)
      ∧ r.2.mem ((c.tc : Thread Cert.ExpertsRefIdeal.nD Cert.ExpertsRefIdeal.τ).loc Cert.ExpertsRefIdeal.main_arg8) = m ((c.tc : Thread Cert.ExpertsRefIdeal.nD Cert.ExpertsRefIdeal.τ).loc Cert.ExpertsRefIdeal.main_arg8))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2)
      ∧ r.2.mem ((c.tc : Thread Cert.Kv.nD Cert.Kv.τ).loc Cert.Kv.main_arg3) = m ((c.tc : Thread Cert.Kv.nD Cert.Kv.τ).loc Cert.Kv.main_arg3)
      ∧ r.2.mem ((c.tc : Thread Cert.Kv.nD Cert.Kv.τ).loc Cert.Kv.main_arg4) = m ((c.tc : Thread Cert.Kv.nD Cert.Kv.τ).loc Cert.Kv.main_arg4)
      ∧ r.2.mem ((c.tc : Thread Cert.Kv.nD Cert.Kv.τ).loc Cert.Kv.main_arg5) = m ((c.tc : Thread Cert.Kv.nD Cert.Kv.τ).loc Cert.Kv.main_arg5)
      ∧ r.2.mem ((c.tc : Thread Cert.Kv.nD Cert.Kv.τ).loc Cert.Kv.main_arg6) = m ((c.tc : Thread Cert.Kv.nD Cert.Kv.τ).loc Cert.Kv.main_arg6))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
      ∧ r.2.mem ((c.tc : Thread Cert.KvIdeal.nD Cert.KvIdeal.τ).loc Cert.KvIdeal.main_arg3) = m ((c.tc : Thread Cert.KvIdeal.nD Cert.KvIdeal.τ).loc Cert.KvIdeal.main_arg3)
      ∧ r.2.mem ((c.tc : Thread Cert.KvIdeal.nD Cert.KvIdeal.τ).loc Cert.KvIdeal.main_arg4) = m ((c.tc : Thread Cert.KvIdeal.nD Cert.KvIdeal.τ).loc Cert.KvIdeal.main_arg4)
      ∧ r.2.mem ((c.tc : Thread Cert.KvIdeal.nD Cert.KvIdeal.τ).loc Cert.KvIdeal.main_arg5) = m ((c.tc : Thread Cert.KvIdeal.nD Cert.KvIdeal.τ).loc Cert.KvIdeal.main_arg5)
      ∧ r.2.mem ((c.tc : Thread Cert.KvIdeal.nD Cert.KvIdeal.τ).loc Cert.KvIdeal.main_arg6) = m ((c.tc : Thread Cert.KvIdeal.nD Cert.KvIdeal.τ).loc Cert.KvIdeal.main_arg6))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2)
      ∧ r.2.mem ((c.tc : Thread Cert.KvRefIdeal.nD Cert.KvRefIdeal.τ).loc Cert.KvRefIdeal.main_arg3) = m ((c.tc : Thread Cert.KvRefIdeal.nD Cert.KvRefIdeal.τ).loc Cert.KvRefIdeal.main_arg3)
      ∧ r.2.mem ((c.tc : Thread Cert.KvRefIdeal.nD Cert.KvRefIdeal.τ).loc Cert.KvRefIdeal.main_arg4) = m ((c.tc : Thread Cert.KvRefIdeal.nD Cert.KvRefIdeal.τ).loc Cert.KvRefIdeal.main_arg4)
      ∧ r.2.mem ((c.tc : Thread Cert.KvRefIdeal.nD Cert.KvRefIdeal.τ).loc Cert.KvRefIdeal.main_arg5) = m ((c.tc : Thread Cert.KvRefIdeal.nD Cert.KvRefIdeal.τ).loc Cert.KvRefIdeal.main_arg5)
      ∧ r.2.mem ((c.tc : Thread Cert.KvRefIdeal.nD Cert.KvRefIdeal.τ).loc Cert.KvRefIdeal.main_arg6) = m ((c.tc : Thread Cert.KvRefIdeal.nD Cert.KvRefIdeal.τ).loc Cert.KvRefIdeal.main_arg6))
      ∧ r.2.sem = fun _ => 0)

def preserves_Attn_AttnIdeal : Prop :=
  True

def algebraic_AttnIdeal_AttnRefIdeal_pre_finite_qk [hAttnIdeal : Cert.AttnIdeal.Facts] [hAttnRefIdeal : Cert.AttnRefIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_qk m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v46)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v46) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v21) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_Experts_ExpertsIdeal : Prop :=
  True

def algebraic_ExpertsIdeal_ExpertsRefIdeal [hExpertsIdeal : Cert.ExpertsIdeal.Facts] [hExpertsRefIdeal : Cert.ExpertsRefIdeal.Facts] [hPre_routed : Cert.Pre_routed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)
      ∧ m' ((c.tc : Thread Cert.ExpertsRefIdeal.nD Cert.ExpertsRefIdeal.τ).loc Cert.ExpertsRefIdeal.main_arg7) = m ((c.tc : Thread Cert.ExpertsIdeal.nD Cert.ExpertsIdeal.τ).loc Cert.ExpertsIdeal.main_arg7)
      ∧ m' ((c.tc : Thread Cert.ExpertsRefIdeal.nD Cert.ExpertsRefIdeal.τ).loc Cert.ExpertsRefIdeal.main_arg8) = m ((c.tc : Thread Cert.ExpertsIdeal.nD Cert.ExpertsIdeal.τ).loc Cert.ExpertsIdeal.main_arg8)) →
    ∃ (v0 : (c : Dev Cert.ExpertsIdeal.nD) → Buf (Elt Ideal) ((c.tc : Thread Cert.ExpertsIdeal.nD Cert.ExpertsIdeal.τ).loc Cert.ExpertsIdeal.main_v19)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v19) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
          ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
          ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v60) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6)
          ∧ r.2.mem ((c.tc : Thread Cert.ExpertsRefIdeal.nD Cert.ExpertsRefIdeal.τ).loc Cert.ExpertsRefIdeal.main_arg7) = m' ((c.tc : Thread Cert.ExpertsRefIdeal.nD Cert.ExpertsRefIdeal.τ).loc Cert.ExpertsRefIdeal.main_arg7)
          ∧ r.2.mem ((c.tc : Thread Cert.ExpertsRefIdeal.nD Cert.ExpertsRefIdeal.τ).loc Cert.ExpertsRefIdeal.main_arg8) = m' ((c.tc : Thread Cert.ExpertsRefIdeal.nD Cert.ExpertsRefIdeal.τ).loc Cert.ExpertsRefIdeal.main_arg8))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v6)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v6) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v25) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)
      ∧ m' ((c.tc : Thread Cert.KvRefIdeal.nD Cert.KvRefIdeal.τ).loc Cert.KvRefIdeal.main_arg2) = m ((c.tc : Thread Cert.KvIdeal.nD Cert.KvIdeal.τ).loc Cert.KvIdeal.main_arg2)
      ∧ m' ((c.tc : Thread Cert.KvRefIdeal.nD Cert.KvRefIdeal.τ).loc Cert.KvRefIdeal.main_arg3) = m ((c.tc : Thread Cert.KvIdeal.nD Cert.KvIdeal.τ).loc Cert.KvIdeal.main_arg3)
      ∧ m' ((c.tc : Thread Cert.KvRefIdeal.nD Cert.KvRefIdeal.τ).loc Cert.KvRefIdeal.main_arg4) = m ((c.tc : Thread Cert.KvIdeal.nD Cert.KvIdeal.τ).loc Cert.KvIdeal.main_arg4)
      ∧ m' ((c.tc : Thread Cert.KvRefIdeal.nD Cert.KvRefIdeal.τ).loc Cert.KvRefIdeal.main_arg5) = m ((c.tc : Thread Cert.KvIdeal.nD Cert.KvIdeal.τ).loc Cert.KvIdeal.main_arg5)
      ∧ m' ((c.tc : Thread Cert.KvRefIdeal.nD Cert.KvRefIdeal.τ).loc Cert.KvRefIdeal.main_arg6) = m ((c.tc : Thread Cert.KvIdeal.nD Cert.KvIdeal.τ).loc Cert.KvIdeal.main_arg6)) →
    ∃ (v0 : (c : Dev Cert.KvIdeal.nD) → Buf (Elt Ideal) ((c.tc : Thread Cert.KvIdeal.nD Cert.KvIdeal.τ).loc Cert.KvIdeal.main_v18_3)) (v1 : (c : Dev Cert.KvIdeal.nD) → Buf (Elt Ideal) ((c.tc : Thread Cert.KvIdeal.nD Cert.KvIdeal.τ).loc Cert.KvIdeal.main_v18_4)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v18_3) = v0 c
          ∧ r.2.mem ((c.tc : Thread Cert.KvIdeal.nD Cert.KvIdeal.τ).loc Cert.KvIdeal.main_v18_4) = v1 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
          ∧ r.2.mem ((c.tc : Thread Cert.KvIdeal.nD Cert.KvIdeal.τ).loc Cert.KvIdeal.main_arg3) = m ((c.tc : Thread Cert.KvIdeal.nD Cert.KvIdeal.τ).loc Cert.KvIdeal.main_arg3)
          ∧ r.2.mem ((c.tc : Thread Cert.KvIdeal.nD Cert.KvIdeal.τ).loc Cert.KvIdeal.main_arg4) = m ((c.tc : Thread Cert.KvIdeal.nD Cert.KvIdeal.τ).loc Cert.KvIdeal.main_arg4)
          ∧ r.2.mem ((c.tc : Thread Cert.KvIdeal.nD Cert.KvIdeal.τ).loc Cert.KvIdeal.main_arg5) = m ((c.tc : Thread Cert.KvIdeal.nD Cert.KvIdeal.τ).loc Cert.KvIdeal.main_arg5)
          ∧ r.2.mem ((c.tc : Thread Cert.KvIdeal.nD Cert.KvIdeal.τ).loc Cert.KvIdeal.main_arg6) = m ((c.tc : Thread Cert.KvIdeal.nD Cert.KvIdeal.τ).loc Cert.KvIdeal.main_arg6))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v47) = v0 c
          ∧ r.2.mem ((c.tc : Thread Cert.KvRefIdeal.nD Cert.KvRefIdeal.τ).loc Cert.KvRefIdeal.main_v30) = v1 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1)
          ∧ r.2.mem ((c.tc : Thread Cert.KvRefIdeal.nD Cert.KvRefIdeal.τ).loc Cert.KvRefIdeal.main_arg2) = m' ((c.tc : Thread Cert.KvRefIdeal.nD Cert.KvRefIdeal.τ).loc Cert.KvRefIdeal.main_arg2)
          ∧ r.2.mem ((c.tc : Thread Cert.KvRefIdeal.nD Cert.KvRefIdeal.τ).loc Cert.KvRefIdeal.main_arg3) = m' ((c.tc : Thread Cert.KvRefIdeal.nD Cert.KvRefIdeal.τ).loc Cert.KvRefIdeal.main_arg3)
          ∧ r.2.mem ((c.tc : Thread Cert.KvRefIdeal.nD Cert.KvRefIdeal.τ).loc Cert.KvRefIdeal.main_arg4) = m' ((c.tc : Thread Cert.KvRefIdeal.nD Cert.KvRefIdeal.τ).loc Cert.KvRefIdeal.main_arg4)
          ∧ r.2.mem ((c.tc : Thread Cert.KvRefIdeal.nD Cert.KvRefIdeal.τ).loc Cert.KvRefIdeal.main_arg5) = m' ((c.tc : Thread Cert.KvRefIdeal.nD Cert.KvRefIdeal.τ).loc Cert.KvRefIdeal.main_arg5)
          ∧ r.2.mem ((c.tc : Thread Cert.KvRefIdeal.nD Cert.KvRefIdeal.τ).loc Cert.KvRefIdeal.main_arg6) = m' ((c.tc : Thread Cert.KvRefIdeal.nD Cert.KvRefIdeal.τ).loc Cert.KvRefIdeal.main_arg6))

def Claim : Prop :=
  ∃ (hAttn : Cert.Attn.Facts) (hAttnIdeal : Cert.AttnIdeal.Facts) (hAttnRefIdeal : Cert.AttnRefIdeal.Facts) (hExperts : Cert.Experts.Facts) (hExpertsIdeal : Cert.ExpertsIdeal.Facts) (hExpertsRefIdeal : Cert.ExpertsRefIdeal.Facts) (hOut : Cert.Out.Facts) (hOutIdeal : Cert.OutIdeal.Facts) (hOutRefIdeal : Cert.OutRefIdeal.Facts) (hKv : Cert.Kv.Facts) (hKvIdeal : Cert.KvIdeal.Facts) (hKvRefIdeal : Cert.KvRefIdeal.Facts) (hPre_finite_qk : Cert.Pre_finite_qk.Facts) (hPre_routed : Cert.Pre_routed.Facts),
    quiescent_Attn (hAttn := hAttn)
    ∧ quiescent_AttnIdeal (hAttnIdeal := hAttnIdeal)
    ∧ quiescent_AttnIdeal_pre_finite_qk (hAttnIdeal := hAttnIdeal) (hPre_finite_qk := hPre_finite_qk)
    ∧ quiescent_AttnRefIdeal (hAttnRefIdeal := hAttnRefIdeal)
    ∧ quiescent_AttnRefIdeal_pre_finite_qk (hAttnRefIdeal := hAttnRefIdeal) (hPre_finite_qk := hPre_finite_qk)
    ∧ quiescent_Experts (hExperts := hExperts) (hPre_routed := hPre_routed)
    ∧ quiescent_ExpertsIdeal (hExpertsIdeal := hExpertsIdeal) (hPre_routed := hPre_routed)
    ∧ quiescent_ExpertsRefIdeal (hExpertsRefIdeal := hExpertsRefIdeal)
    ∧ quiescent_ExpertsRefIdeal_pre_routed (hExpertsRefIdeal := hExpertsRefIdeal) (hPre_routed := hPre_routed)
    ∧ quiescent_Out (hOut := hOut)
    ∧ quiescent_OutIdeal (hOutIdeal := hOutIdeal)
    ∧ quiescent_OutRefIdeal (hOutRefIdeal := hOutRefIdeal)
    ∧ quiescent_Kv (hKv := hKv)
    ∧ quiescent_KvIdeal (hKvIdeal := hKvIdeal)
    ∧ quiescent_KvRefIdeal (hKvRefIdeal := hKvRefIdeal)
    ∧ preserves_Attn_AttnIdeal
    ∧ algebraic_AttnIdeal_AttnRefIdeal_pre_finite_qk (hAttnIdeal := hAttnIdeal) (hAttnRefIdeal := hAttnRefIdeal) (hPre_finite_qk := hPre_finite_qk)
    ∧ preserves_Experts_ExpertsIdeal
    ∧ algebraic_ExpertsIdeal_ExpertsRefIdeal (hExpertsIdeal := hExpertsIdeal) (hExpertsRefIdeal := hExpertsRefIdeal) (hPre_routed := hPre_routed)
    ∧ preserves_Out_OutIdeal
    ∧ algebraic_OutIdeal_OutRefIdeal (hOutIdeal := hOutIdeal) (hOutRefIdeal := hOutRefIdeal)
    ∧ preserves_Kv_KvIdeal
    ∧ algebraic_KvIdeal_KvRefIdeal (hKvIdeal := hKvIdeal) (hKvRefIdeal := hKvRefIdeal)
-- ==== Pre_finite_qk.lean ====
abbrev S2x4096x16x64 : Shape := ⟨4, ![2, 4096, 16, 64]⟩
abbrev S2x4096x4x64 : Shape := ⟨4, ![2, 4096, 4, 64]⟩
abbrev S2x512x4x64 : Shape := ⟨4, ![2, 512, 4, 64]⟩
abbrev S_ : Shape := ⟨0, ![]⟩

class Facts : Prop where
  bcast_S_S2x4096x16x64 : S_.BroadcastsInDim S2x4096x16x64 (![] : Fin 0 → Fin S2x4096x16x64.rank)
  reducesTo_S2x4096x16x64_S_d0_1_2_3 : S2x4096x16x64.ReducesTo [0, 1, 2, 3] S_
  h_S_ : 0 < S_.numel
  bcast_S_S2x4096x4x64 : S_.BroadcastsInDim S2x4096x4x64 (![] : Fin 0 → Fin S2x4096x4x64.rank)
  reducesTo_S2x4096x4x64_S_d0_1_2_3 : S2x4096x4x64.ReducesTo [0, 1, 2, 3] S_
  bcast_S_S2x512x4x64 : S_.BroadcastsInDim S2x512x4x64 (![] : Fin 0 → Fin S2x512x4x64.rank)
  reducesTo_S2x512x4x64_S_d0_1_2_3 : S2x512x4x64.ReducesTo [0, 1, 2, 3] S_

variable [Facts]

def fn {F : FTy → Type} [FloatOps F] (main_arg0 : FVec F S2x4096x16x64 .f32) (main_arg1 : FVec F S2x4096x4x64 .f32) (main_arg2 : FVec F S2x4096x4x64 .f32) (main_arg3 : FVec F S2x512x4x64 .f32) (main_arg4 : FVec F S2x512x4x64 .f32) : IVec S_ 1 :=
  let main_v0 : FVec F S2x4096x16x64 .f32 := Host.absf main_arg0
  let main_cst : FVec F S_ .f32 := constant S_ .f32 0x7F800000#32
  let main_v1 : FVec F S2x4096x16x64 .f32 := broadcastInDim S2x4096x16x64 ![] bcast_S_S2x4096x16x64 main_cst
  let main_v2 : IVec S2x4096x16x64 1 := cmpf .olt main_v0 main_v1
  let main_c : IVec S_ 1 := constantI S_ 1 1#1
  let main_v3 : IVec S_ 1 := (fun x v => Host.reduce IntOp.andi x v reducesTo_S2x4096x16x64_S_d0_1_2_3 h_S_) main_v2 main_c
  let main_v4 : FVec F S2x4096x4x64 .f32 := Host.absf main_arg1
  let main_cst_0 : FVec F S_ .f32 := constant S_ .f32 0x7F800000#32
  let main_v5 : FVec F S2x4096x4x64 .f32 := broadcastInDim S2x4096x4x64 ![] bcast_S_S2x4096x4x64 main_cst_0
  let main_v6 : IVec S2x4096x4x64 1 := cmpf .olt main_v4 main_v5
  let main_c_1 : IVec S_ 1 := constantI S_ 1 1#1
  let main_v7 : IVec S_ 1 := (fun x v => Host.reduce IntOp.andi x v reducesTo_S2x4096x4x64_S_d0_1_2_3 h_S_) main_v6 main_c_1
  let main_v8 : IVec S_ 1 := andi main_v3 main_v7
  let main_v9 : FVec F S2x512x4x64 .f32 := Host.absf main_arg3
  let main_cst_2 : FVec F S_ .f32 := constant S_ .f32 0x7F800000#32
  let main_v10 : FVec F S2x512x4x64 .f32 := broadcastInDim S2x512x4x64 ![] bcast_S_S2x512x4x64 main_cst_2
  let main_v11 : IVec S2x512x4x64 1 := cmpf .olt main_v9 main_v10
  let main_c_3 : IVec S_ 1 := constantI S_ 1 1#1
  let main_v12 : IVec S_ 1 := (fun x v => Host.reduce IntOp.andi x v reducesTo_S2x512x4x64_S_d0_1_2_3 h_S_) main_v11 main_c_3
  let main_v13 : IVec S_ 1 := andi main_v8 main_v12
  main_v13
-- ==== Pre_routed.lean ====
abbrev S28160x1024 : Shape := ⟨2, ![28160, 1024]⟩
abbrev S28160x2 : Shape := ⟨2, ![28160, 2]⟩
abbrev S28160 : Shape := ⟨1, ![28160]⟩
abbrev S8x128 : Shape := ⟨2, ![8, 128]⟩
abbrev S4x6x3x1x1024 : Shape := ⟨5, ![4, 6, 3, 1, 1024]⟩
abbrev S4x1024 : Shape := ⟨2, ![4, 1024]⟩
abbrev S4x16x1024x256 : Shape := ⟨4, ![4, 16, 1024, 256]⟩
abbrev S4x16x256x1024 : Shape := ⟨4, ![4, 16, 256, 1024]⟩
abbrev S1x128 : Shape := ⟨2, ![1, 128]⟩
abbrev S128 : Shape := ⟨1, ![128]⟩
abbrev S1x1 : Shape := ⟨2, ![1, 1]⟩
abbrev S_ : Shape := ⟨0, ![]⟩

class Facts : Prop where
  slices_S8x128_S1x128_0_0 : S8x128.Slices ![0, 0] S1x128
  shapeCasts_S1x128_S128 : S1x128.ShapeCasts S128
  slices_S8x128_S1x128_1_0 : S8x128.Slices ![1, 0] S1x128
  slices_S8x128_S1x1_2_0 : S8x128.Slices ![2, 0] S1x1
  shapeCasts_S1x1_S_ : S1x1.ShapeCasts S_
  bcast_S_S128 : S_.BroadcastsInDim S128 (![] : Fin 0 → Fin S128.rank)
  reducesTo_S128_S_d0 : S128.ReducesTo [0] S_
  h_S_ : 0 < S_.numel

variable [Facts]

def fn_part1 {F : FTy → Type} [FloatOps F] (main_v5 : IVec S_ 32) (main_v18 : IVec S128 1) (main_v19 : IVec S128 32) : IVec S_ 1 :=
  let main_v20 : IVec S128 32 := broadcastInDim S128 ![] bcast_S_S128 main_v5
  let main_v21 : IVec S128 1 := cmpi .sge main_v19 main_v20
  let main_v22 : IVec S128 1 := ori main_v18 main_v21
  let main_c_3 : IVec S_ 1 := constantI S_ 1 1#1
  let main_v23 : IVec S_ 1 := (fun x v => Host.reduce IntOp.andi x v reducesTo_S128_S_d0 h_S_) main_v22 main_c_3
  let main_c_4 : IVec S_ 32 := constantI S_ 32 1#32
  let main_v24 : IVec S_ 1 := cmpi .sge main_v5 main_c_4
  let main_v25 : IVec S_ 1 := andi main_v23 main_v24
  let main_c_5 : IVec S_ 32 := constantI S_ 32 55#32
  let main_v26 : IVec S_ 1 := cmpi .sle main_v5 main_c_5
  let main_v27 : IVec S_ 1 := andi main_v25 main_v26
  main_v27

def fn {F : FTy → Type} [FloatOps F] (main_arg0 : FVec F S28160x1024 .f32) (main_arg1 : FVec F S28160x2 .f32) (main_arg2 : IVec S28160 32) (main_arg3 : IVec S8x128 32) (main_arg4 : FVec F S4x6x3x1x1024 .f32) (main_arg5 : FVec F S4x1024 .f32) (main_arg6 : FVec F S4x16x1024x256 .f32) (main_arg7 : FVec F S4x16x1024x256 .f32) (main_arg8 : FVec F S4x16x256x1024 .f32) : IVec S_ 1 :=
  let main_v0 : IVec S1x128 32 := (extractStridedSlice S1x128 ![0, 0] · slices_S8x128_S1x128_0_0) main_arg3
  let main_v1 : IVec S128 32 := shapeCast S128 main_v0 shapeCasts_S1x128_S128
  let main_v2 : IVec S1x128 32 := (extractStridedSlice S1x128 ![1, 0] · slices_S8x128_S1x128_1_0) main_arg3
  let main_v3 : IVec S128 32 := shapeCast S128 main_v2 shapeCasts_S1x128_S128
  let main_v4 : IVec S1x1 32 := (extractStridedSlice S1x1 ![2, 0] · slices_S8x128_S1x1_2_0) main_arg3
  let main_v5 : IVec S_ 32 := shapeCast S_ main_v4 shapeCasts_S1x1_S_
  let main_c : IVec S_ 32 := constantI S_ 32 0#32
  let main_v6 : IVec S128 32 := broadcastInDim S128 ![] bcast_S_S128 main_c
  let main_v7 : IVec S128 1 := cmpi .sge main_v1 main_v6
  let main_c_0 : IVec S_ 32 := constantI S_ 32 16#32
  let main_v8 : IVec S128 32 := broadcastInDim S128 ![] bcast_S_S128 main_c_0
  let main_v9 : IVec S128 1 := cmpi .slt main_v1 main_v8
  let main_v10 : IVec S128 1 := andi main_v7 main_v9
  let main_c_1 : IVec S_ 32 := constantI S_ 32 0#32
  let main_v11 : IVec S128 32 := broadcastInDim S128 ![] bcast_S_S128 main_c_1
  let main_v12 : IVec S128 1 := cmpi .sge main_v3 main_v11
  let main_v13 : IVec S128 1 := andi main_v10 main_v12
  let main_c_2 : IVec S_ 32 := constantI S_ 32 16#32
  let main_v14 : IVec S128 32 := broadcastInDim S128 ![] bcast_S_S128 main_c_2
  let main_v15 : IVec S128 1 := cmpi .slt main_v3 main_v14
  let main_v16 : IVec S128 1 := andi main_v13 main_v15
  let main_v17 : IVec S128 1 := cmpi .ne main_v1 main_v3
  let main_v18 : IVec S128 1 := andi main_v16 main_v17
  let main_v19 : IVec S128 32 := iotaInDim S128 32 0
  fn_part1 (F := F) main_v5 main_v18 main_v19
-- ==== Attn.lean ====
abbrev S2x4096x16x64 : Shape := ⟨4, ![2, 4096, 16, 64]⟩
abbrev S2x4096x4x64 : Shape := ⟨4, ![2, 4096, 4, 64]⟩
abbrev S2x512x4x64 : Shape := ⟨4, ![2, 512, 4, 64]⟩
abbrev S_ : Shape := ⟨0, ![]⟩
abbrev S8192x1024 : Shape := ⟨2, ![8192, 1024]⟩
abbrev S8192x4x64 : Shape := ⟨3, ![8192, 4, 64]⟩
abbrev S4x64x8192 : Shape := ⟨3, ![4, 64, 8192]⟩
abbrev S4x128x8192 : Shape := ⟨3, ![4, 128, 8192]⟩
abbrev S4x1x128x8192 : Shape := ⟨4, ![4, 1, 128, 8192]⟩
abbrev S4x2x128x8192 : Shape := ⟨4, ![4, 2, 128, 8192]⟩
abbrev S4x8192x64 : Shape := ⟨3, ![4, 8192, 64]⟩
abbrev S4x8192x1 : Shape := ⟨3, ![4, 8192, 1]⟩
abbrev S4x8192x63 : Shape := ⟨3, ![4, 8192, 63]⟩
abbrev S4x8192x128 : Shape := ⟨3, ![4, 8192, 128]⟩
abbrev S4x1x8192x128 : Shape := ⟨4, ![4, 1, 8192, 128]⟩
abbrev S4x2x8192x128 : Shape := ⟨4, ![4, 2, 8192, 128]⟩
abbrev S1024x4x64 : Shape := ⟨3, ![1024, 4, 64]⟩
abbrev S4x64x1024 : Shape := ⟨3, ![4, 64, 1024]⟩
abbrev S4x128x1024 : Shape := ⟨3, ![4, 128, 1024]⟩
abbrev S4x1x128x1024 : Shape := ⟨4, ![4, 1, 128, 1024]⟩
abbrev S4x2x128x1024 : Shape := ⟨4, ![4, 2, 128, 1024]⟩
abbrev S4x1024x64 : Shape := ⟨3, ![4, 1024, 64]⟩
abbrev S4x1024x1 : Shape := ⟨3, ![4, 1024, 1]⟩
abbrev S4x1024x63 : Shape := ⟨3, ![4, 1024, 63]⟩
abbrev S4x1024x128 : Shape := ⟨3, ![4, 1024, 128]⟩
abbrev S4x1x1024x128 : Shape := ⟨4, ![4, 1, 1024, 128]⟩
abbrev S4x2x1024x128 : Shape := ⟨4, ![4, 2, 1024, 128]⟩
abbrev S1024x256 : Shape := ⟨2, ![1024, 256]⟩
abbrev S1x2x128x4096 : Shape := ⟨4, ![1, 2, 128, 4096]⟩
abbrev S1x2x4096x128 : Shape := ⟨4, ![1, 2, 4096, 128]⟩
abbrev S1x2x128x512 : Shape := ⟨4, ![1, 2, 128, 512]⟩
abbrev S1x2x512x128 : Shape := ⟨4, ![1, 2, 512, 128]⟩
abbrev S1024x128 : Shape := ⟨2, ![1024, 128]⟩
abbrev S1024x1 : Shape := ⟨2, ![1024, 1]⟩
abbrev S1x1x128x512 : Shape := ⟨4, ![1, 1, 128, 512]⟩
abbrev S128x512 : Shape := ⟨2, ![128, 512]⟩
abbrev S1024x512 : Shape := ⟨2, ![1024, 512]⟩
abbrev S1024 : Shape := ⟨1, ![1024]⟩
abbrev S1x1x512x128 : Shape := ⟨4, ![1, 1, 512, 128]⟩
abbrev S512x128 : Shape := ⟨2, ![512, 128]⟩

abbrev nBuf : Space → Nat
  | .hbm => 60
  | .vmem => 12
  | .smem => 0
  | _ => 0

abbrev bufTy : (tb : Table) → Fin (tcTables nBuf tb) → BufTy
  | .hbm, ⟨0, _⟩ => ⟨S2x4096x16x64, .f32⟩
  | .hbm, ⟨1, _⟩ => ⟨S2x4096x4x64, .f32⟩
  | .hbm, ⟨2, _⟩ => ⟨S2x4096x4x64, .f32⟩
  | .hbm, ⟨3, _⟩ => ⟨S2x512x4x64, .f32⟩
  | .hbm, ⟨4, _⟩ => ⟨S2x512x4x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .bf16⟩
  | .hbm, ⟨13, _⟩ => ⟨S8192x4x64, .f32⟩
  | .hbm, ⟨14, _⟩ => ⟨S4x64x8192, .f32⟩
  | .hbm, ⟨15, _⟩ => ⟨S_, .f32⟩
  | .hbm, ⟨16, _⟩ => ⟨S4x64x8192, .f32⟩
  | .hbm, ⟨17, _⟩ => ⟨S4x128x8192, .f32⟩
  | .hbm, ⟨18, _⟩ => ⟨S4x128x8192, .f32⟩
  | .hbm, ⟨19, _⟩ => ⟨S4x1x128x8192, .f32⟩
  | .hbm, ⟨20, _⟩ => ⟨S4x1x128x8192, .f32⟩
  | .hbm, ⟨21, _⟩ => ⟨S4x2x128x8192, .f32⟩
  | .hbm, ⟨22, _⟩ => ⟨S4x2x128x8192, .bf16⟩
  | .hbm, ⟨23, _⟩ => ⟨S8192x4x64, .f32⟩
  | .hbm, ⟨24, _⟩ => ⟨S4x8192x64, .f32⟩
  | .hbm, ⟨25, _⟩ => ⟨S_, .f32⟩
  | .hbm, ⟨26, _⟩ => ⟨S4x8192x1, .f32⟩
  | .hbm, ⟨27, _⟩ => ⟨S_, .f32⟩
  | .hbm, ⟨28, _⟩ => ⟨S4x8192x63, .f32⟩
  | .hbm, ⟨29, _⟩ => ⟨S4x8192x64, .f32⟩
  | .hbm, ⟨30, _⟩ => ⟨S4x8192x128, .f32⟩
  | .hbm, ⟨31, _⟩ => ⟨S4x8192x128, .f32⟩
  | .hbm, ⟨32, _⟩ => ⟨S4x1x8192x128, .f32⟩
  | .hbm, ⟨33, _⟩ => ⟨S4x1x8192x128, .f32⟩
  | .hbm, ⟨34, _⟩ => ⟨S4x2x8192x128, .f32⟩
  | .hbm, ⟨35, _⟩ => ⟨S4x2x8192x128, .bf16⟩
  | .hbm, ⟨36, _⟩ => ⟨S1024x4x64, .f32⟩
  | .hbm, ⟨37, _⟩ => ⟨S4x64x1024, .f32⟩
  | .hbm, ⟨38, _⟩ => ⟨S_, .f32⟩
  | .hbm, ⟨39, _⟩ => ⟨S4x64x1024, .f32⟩
  | .hbm, ⟨40, _⟩ => ⟨S4x128x1024, .f32⟩
  | .hbm, ⟨41, _⟩ => ⟨S4x128x1024, .f32⟩
  | .hbm, ⟨42, _⟩ => ⟨S4x1x128x1024, .f32⟩
  | .hbm, ⟨43, _⟩ => ⟨S4x1x128x1024, .f32⟩
  | .hbm, ⟨44, _⟩ => ⟨S4x2x128x1024, .f32⟩
  | .hbm, ⟨45, _⟩ => ⟨S4x2x128x1024, .bf16⟩
  | .hbm, ⟨46, _⟩ => ⟨S1024x4x64, .f32⟩
  | .hbm, ⟨47, _⟩ => ⟨S4x1024x64, .f32⟩
  | .hbm, ⟨48, _⟩ => ⟨S_, .f32⟩
  | .hbm, ⟨49, _⟩ => ⟨S4x1024x1, .f32⟩
  | .hbm, ⟨50, _⟩ => ⟨S_, .f32⟩
  | .hbm, ⟨51, _⟩ => ⟨S4x1024x63, .f32⟩
  | .hbm, ⟨52, _⟩ => ⟨S4x1024x64, .f32⟩
  | .hbm, ⟨53, _⟩ => ⟨S4x1024x128, .f32⟩
  | .hbm, ⟨54, _⟩ => ⟨S4x1024x128, .f32⟩
  | .hbm, ⟨55, _⟩ => ⟨S4x1x1024x128, .f32⟩
  | .hbm, ⟨56, _⟩ => ⟨S4x1x1024x128, .f32⟩
  | .hbm, ⟨57, _⟩ => ⟨S4x2x1024x128, .f32⟩
  | .hbm, ⟨58, _⟩ => ⟨S4x2x1024x128, .bf16⟩
  | .hbm, ⟨59, _⟩ => ⟨S8192x1024, .bf16⟩
  | .local _ .vmem, ⟨0, _⟩ => ⟨S1024x256, .bf16⟩
  | .local _ .vmem, ⟨1, _⟩ => ⟨S1024x256, .bf16⟩
  | .local _ .vmem, ⟨2, _⟩ => ⟨S1x2x128x4096, .bf16⟩
  | .local _ .vmem, ⟨3, _⟩ => ⟨S1x2x128x4096, .bf16⟩
  | .local _ .vmem, ⟨4, _⟩ => ⟨S1x2x4096x128, .bf16⟩
  | .local _ .vmem, ⟨5, _⟩ => ⟨S1x2x4096x128, .bf16⟩
  | .local _ .vmem, ⟨6, _⟩ => ⟨S1x2x128x512, .bf16⟩
  | .local _ .vmem, ⟨7, _⟩ => ⟨S1x2x128x512, .bf16⟩
  | .local _ .vmem, ⟨8, _⟩ => ⟨S1x2x512x128, .bf16⟩
  | .local _ .vmem, ⟨9, _⟩ => ⟨S1x2x512x128, .bf16⟩
  | .local _ .vmem, ⟨10, _⟩ => ⟨S1024x256, .bf16⟩
  | .local _ .vmem, ⟨11, _⟩ => ⟨S1024x256, .bf16⟩
  | _, _ => ⟨S2x4096x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat, arg0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, arg0.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat, arg0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, arg0.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== AttnRefIdeal.lean ====
abbrev S2x4096x16x64 : Shape := ⟨4, ![2, 4096, 16, 64]⟩
abbrev S2x4096x4x64 : Shape := ⟨4, ![2, 4096, 4, 64]⟩
abbrev S2x512x4x64 : Shape := ⟨4, ![2, 512, 4, 64]⟩
abbrev S2x4608x4x64 : Shape := ⟨4, ![2, 4608, 4, 64]⟩
abbrev S2x4096x4x4x64 : Shape := ⟨5, ![2, 4096, 4, 4, 64]⟩
abbrev S2x4x4608x4096x4 : Shape := ⟨5, ![2, 4, 4608, 4096, 4]⟩
abbrev S2x4x4x4096x4608 : Shape := ⟨5, ![2, 4, 4, 4096, 4608]⟩
abbrev S_ : Shape := ⟨0, ![]⟩
abbrev S2x4x4x4096 : Shape := ⟨4, ![2, 4, 4, 4096]⟩
abbrev S2x4x4x4096x1 : Shape := ⟨5, ![2, 4, 4, 4096, 1]⟩
abbrev S2x4x64x4x4096 : Shape := ⟨5, ![2, 4, 64, 4, 4096]⟩
abbrev S8192x1024 : Shape := ⟨2, ![8192, 1024]⟩

abbrev nBuf : Space → Nat
  | .hbm => 31
  | .vmem => 0
  | .smem => 0
  | _ => 0

abbrev bufTy : (tb : Table) → Fin (tcTables nBuf tb) → BufTy
  | .hbm, ⟨0, _⟩ => ⟨S2x4096x16x64, .f32⟩
  | .hbm, ⟨1, _⟩ => ⟨S2x4096x4x64, .f32⟩
  | .hbm, ⟨2, _⟩ => ⟨S2x4096x4x64, .f32⟩
  | .hbm, ⟨3, _⟩ => ⟨S2x512x4x64, .f32⟩
  | .hbm, ⟨4, _⟩ => ⟨S2x512x4x64, .f32⟩
  | .hbm, ⟨5, _⟩ => ⟨S2x4608x4x64, .f32⟩
  | .hbm, ⟨6, _⟩ => ⟨S2x4608x4x64, .f32⟩
  | .hbm, ⟨7, _⟩ => ⟨S2x4096x4x4x64, .f32⟩
  | .hbm, ⟨8, _⟩ => ⟨S2x4x4608x4096x4, .f32⟩
  | .hbm, ⟨9, _⟩ => ⟨S2x4x4x4096x4608, .f32⟩
  | .hbm, ⟨10, _⟩ => ⟨S_, .f32⟩
  | .hbm, ⟨11, _⟩ => ⟨S2x4x4x4096x4608, .f32⟩
  | .hbm, ⟨12, _⟩ => ⟨S2x4x4x4096x4608, .f32⟩
  | .hbm, ⟨13, _⟩ => ⟨S_, .f32⟩
  | .hbm, ⟨14, _⟩ => ⟨S2x4x4x4096, .f32⟩
  | .hbm, ⟨15, _⟩ => ⟨S_, .f32⟩
  | .hbm, ⟨16, _⟩ => ⟨S2x4x4x4096, .f32⟩
  | .hbm, ⟨17, _⟩ => ⟨S2x4x4x4096, .f32⟩
  | .hbm, ⟨18, _⟩ => ⟨S2x4x4x4096x1, .f32⟩
  | .hbm, ⟨19, _⟩ => ⟨S2x4x4x4096x4608, .f32⟩
  | .hbm, ⟨20, _⟩ => ⟨S2x4x4x4096x4608, .f32⟩
  | .hbm, ⟨21, _⟩ => ⟨S2x4x4x4096x4608, .f32⟩
  | .hbm, ⟨22, _⟩ => ⟨S_, .f32⟩
  | .hbm, ⟨23, _⟩ => ⟨S2x4x4x4096, .f32⟩
  | .hbm, ⟨24, _⟩ => ⟨S2x4x4x4096x1, .f32⟩
  | .hbm, ⟨25, _⟩ => ⟨S2x4x4x4096x4608, .f32⟩
  | .hbm, ⟨26, _⟩ => ⟨S2x4x4x4096x4608, .f32⟩
  | .hbm, ⟨27, _⟩ => ⟨S2x4x64x4x4096, .f32⟩
  | .hbm, ⟨28, _⟩ => ⟨S2x4096x4x4x64, .f32⟩
  | .hbm, ⟨29, _⟩ => ⟨S8192x1024, .f32⟩
  | .hbm, ⟨30, _⟩ => ⟨S8192x1024, .bf16⟩
  | _, _ => ⟨S2x4096x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Experts.lean ====
abbrev S28160x1024 : Shape := ⟨2, ![28160, 1024]⟩
abbrev S28160x2 : Shape := ⟨2, ![28160, 2]⟩
abbrev S28160 : Shape := ⟨1, ![28160]⟩
abbrev S8x128 : Shape := ⟨2, ![8, 128]⟩
abbrev S4x6x3x1x1024 : Shape := ⟨5, ![4, 6, 3, 1, 1024]⟩
abbrev S4x1024 : Shape := ⟨2, ![4, 1024]⟩
abbrev S4x16x1024x256 : Shape := ⟨4, ![4, 16, 1024, 256]⟩
abbrev S4x16x256x1024 : Shape := ⟨4, ![4, 16, 256, 1024]⟩
abbrev S28160x1 : Shape := ⟨2, ![28160, 1]⟩
abbrev S_ : Shape := ⟨0, ![]⟩
abbrev S28160x125 : Shape := ⟨2, ![28160, 125]⟩
abbrev S28160x128 : Shape := ⟨2, ![28160, 128]⟩
abbrev S28160x1152 : Shape := ⟨2, ![28160, 1152]⟩
abbrev S1x3x3x1x1024 : Shape := ⟨5, ![1, 3, 3, 1, 1024]⟩
abbrev S3x3x1024 : Shape := ⟨3, ![3, 3, 1024]⟩
abbrev S9x1024 : Shape := ⟨2, ![9, 1024]⟩
abbrev S1x1024 : Shape := ⟨2, ![1, 1024]⟩
abbrev S1024 : Shape := ⟨1, ![1024]⟩
abbrev S128 : Shape := ⟨1, ![128]⟩
abbrev S1x1 : Shape := ⟨2, ![1, 1]⟩
abbrev S128x1 : Shape := ⟨2, ![128, 1]⟩
abbrev S512x1152 : Shape := ⟨2, ![512, 1152]⟩
abbrev S1 : Shape := ⟨1, ![1]⟩
abbrev S1x1x1024x256 : Shape := ⟨4, ![1, 1, 1024, 256]⟩
abbrev S1x1x256x1024 : Shape := ⟨4, ![1, 1, 256, 1024]⟩
abbrev S512x1024 : Shape := ⟨2, ![512, 1024]⟩
abbrev S2x1024x512 : Shape := ⟨3, ![2, 1024, 512]⟩
abbrev S2x256x1024 : Shape := ⟨3, ![2, 256, 1024]⟩
abbrev S1024x256 : Shape := ⟨2, ![1024, 256]⟩
abbrev S1x1024x256 : Shape := ⟨3, ![1, 1024, 256]⟩
abbrev S256x1024 : Shape := ⟨2, ![256, 1024]⟩
abbrev S1x256x1024 : Shape := ⟨3, ![1, 256, 1024]⟩
abbrev S512x1 : Shape := ⟨2, ![512, 1]⟩
abbrev S512 : Shape := ⟨1, ![512]⟩
abbrev S1x1024x512 : Shape := ⟨3, ![1, 1024, 512]⟩
abbrev S1024x512 : Shape := ⟨2, ![1024, 512]⟩
abbrev S512x512 : Shape := ⟨2, ![512, 512]⟩
abbrev S512x256 : Shape := ⟨2, ![512, 256]⟩

abbrev nBuf : Space → Nat
  | .hbm => 31
  | .vmem => 20
  | .smem => 1
  | _ => 0

abbrev bufTy : (tb : Table) → Fin (tcTables nBuf tb) → BufTy
  | .hbm, ⟨0, _⟩ => ⟨S28160x1024, .f32⟩
  | .hbm, ⟨1, _⟩ => ⟨S28160x2, .f32⟩
  | .hbm, ⟨2, _⟩ => ⟨S28160, .i32⟩
  | .hbm, ⟨3, _⟩ => ⟨S8x128, .i32⟩
  | .hbm, ⟨4, _⟩ => ⟨S4x6x3x1x1024, .f32⟩
  | .hbm, ⟨5, _⟩ => ⟨S4x1024, .f32⟩
  | .hbm, ⟨6, _⟩ => ⟨S4x16x1024x256, .f32⟩
  | .hbm, ⟨7, _⟩ => ⟨S4x16x1024x256, .f32⟩
  | .hbm, ⟨8, _⟩ => ⟨S4x16x256x1024, .f32⟩
  | .hbm, ⟨9, _⟩ => ⟨S28160, .f32⟩
  | .hbm, ⟨10, _⟩ => ⟨S28160x1, .f32⟩
  | .hbm, ⟨11, _⟩ => ⟨S_, .f32⟩
  | .hbm, ⟨12, _⟩ => ⟨S28160x125, .f32⟩
  | .hbm, ⟨13, _⟩ => ⟨S28160x128, .f32⟩
  | .hbm, ⟨14, _⟩ => ⟨S28160x1152, .f32⟩
  | .hbm, ⟨15, _⟩ => ⟨S1x3x3x1x1024, .f32⟩
  | .hbm, ⟨16, _⟩ => ⟨S3x3x1024, .f32⟩
  | .hbm, ⟨17, _⟩ => ⟨S9x1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S128, .i32⟩
  | .hbm, ⟨22, _⟩ => ⟨S1x1, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S128, .i32⟩
  | .hbm, ⟨27, _⟩ => ⟨S128, .i32⟩
  | .hbm, ⟨28, _⟩ => ⟨S128x1, .i32⟩
  | .hbm, ⟨29, _⟩ => ⟨S8x128, .i32⟩
  | .hbm, ⟨30, _⟩ => ⟨S28160x1024, .f32⟩
  | .local _ .vmem, ⟨0, _⟩ => ⟨S512x1152, .f32⟩
  | .local _ .vmem, ⟨1, _⟩ => ⟨S512x1152, .f32⟩
  | .local _ .vmem, ⟨2, _⟩ => ⟨S1x1024, .f32⟩
  | .local _ .vmem, ⟨3, _⟩ => ⟨S9x1024, .f32⟩
  | .local _ .vmem, ⟨4, _⟩ => ⟨S1x1x1024x256, .f32⟩
  | .local _ .vmem, ⟨5, _⟩ => ⟨S1x1x1024x256, .f32⟩
  | .local _ .vmem, ⟨6, _⟩ => ⟨S1x1x1024x256, .f32⟩
  | .local _ .vmem, ⟨7, _⟩ => ⟨S1x1x1024x256, .f32⟩
  | .local _ .vmem, ⟨8, _⟩ => ⟨S1x1x256x1024, .f32⟩
  | .local _ .vmem, ⟨9, _⟩ => ⟨S1x1x256x1024, .f32⟩
  | .local _ .vmem, ⟨10, _⟩ => ⟨S1x1x1024x256, .f32⟩
  | .local _ .vmem, ⟨11, _⟩ => ⟨S1x1x1024x256, .f32⟩
  | .local _ .vmem, ⟨12, _⟩ => ⟨S1x1x1024x256, .f32⟩
  | .local _ .vmem, ⟨13, _⟩ => ⟨S1x1x1024x256, .f32⟩
  | .local _ .vmem, ⟨14, _⟩ => ⟨S1x1x256x1024, .f32⟩
  | .local _ .vmem, ⟨15, _⟩ => ⟨S1x1x256x1024, .f32⟩
  | .local _ .vmem, ⟨16, _⟩ => ⟨S512x1024, .f32⟩
  | .local _ .vmem, ⟨17, _⟩ => ⟨S512x1024, .f32⟩
  | .local _ .vmem, ⟨18, _⟩ => ⟨S2x1024x512, .bf16⟩
  | .local _ .vmem, ⟨19, _⟩ => ⟨S2x256x1024, .bf16⟩
  | .local _ .smem, ⟨0, _⟩ => ⟨S1024, .i32⟩
  | _, _ => ⟨S28160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_v0 : Ref sig .tc := ⟨.hbm, 28, rfl⟩
abbrev main_v17 : Ref sig .tc := ⟨.hbm, 29, rfl⟩
abbrev main_v19 : Ref sig .tc := ⟨.hbm, 30, rfl⟩
abbrev main_v18 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![55], ![false]⟩

abbrev pre0 : Pipeline.Prefetch sig := ⟨1, ![main_v18.idx], fun | 0 => main_v18.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 1 → Nat :=
  let arg0 : BitVec 32 := BitVec.ofNat 32 (i 0).val
  let v0 : BitVec 32 := Scalar.addi c0_i32 arg0
  let v1 : Index := Scalar.indexCast v0
  ![v1.toNat]
def k0_off2 (i : grid0.Coords) (v0 : BitVec 32) (c0_i32_3 : BitVec 32) : Fin 1 → Nat :=
  let arg0 : BitVec 32 := BitVec.ofNat 32 (i 0).val
  let c1_i32 : BitVec 32 := 1#32
  let v1 : BitVec 32 := Scalar.subi v0 c1_i32
  let v2 : BitVec 32 := Scalar.minsi arg0 v1
  let v8 : BitVec 32 := Scalar.addi c0_i32_3 v2
  let v9 : Index := Scalar.indexCast v8
  ![v9.toNat]

def k0_off3 (i : grid0.Coords) (v0 : BitVec 32) (c0_i32_4 : BitVec 32) : Fin 1 → Nat :=
  let arg0 : BitVec 32 := BitVec.ofNat 32 (i 0).val
  let c1_i32_0 : BitVec 32 := 1#32
  let v3 : BitVec 32 := Scalar.subi arg0 c1_i32_0
  let c0_i32 : BitVec 32 := 0#32
  let v4 : BitVec 32 := Scalar.maxsi v3 c0_i32
  let c1_i32_1 : BitVec 32 := 1#32
  let v5 : BitVec 32 := Scalar.subi v0 c1_i32_1
  let v6 : BitVec 32 := Scalar.minsi v4 v5
  let v11 : BitVec 32 := Scalar.addi c0_i32_4 v6
  let v12 : Index := Scalar.indexCast v11
  ![v12.toNat]

def k0_chk1 (i : grid0.Coords) (v0 : BitVec 32) : Prop :=
  (∀ (r : Fin 2), ∀ a, (k0_off2 i v0 (BitVec.ofNat 32 (128 * r.val))) a + S1.size a ≤ S1024.size a) ∧
  (∀ (r : Fin 2), ∀ a, (k0_off3 i v0 (BitVec.ofNat 32 (128 * r.val))) a + S1.size a ≤ S1024.size a)
theorem k0_off2_inb : ∀ (i : grid0.Coords) (v0 : BitVec 32) (k0_hw1 : k0_chk1 i v0), ∀ (r : Fin 2), ∀ a, (k0_off2 i v0 (BitVec.ofNat 32 (128 * r.val))) a + S1.size a ≤ S1024.size a := fun i v0 k0_hw1 r => k0_hw1.1 r
theorem k0_off3_inb : ∀ (i : grid0.Coords) (v0 : BitVec 32) (k0_hw1 : k0_chk1 i v0), ∀ (r : Fin 2), ∀ a, (k0_off3 i v0 (BitVec.ofNat 32 (128 * r.val))) a + S1.size a ≤ S1024.size a := fun i v0 k0_hw1 r => k0_hw1.2 r

def k0_cond2 (i : grid0.Coords) (v0 : BitVec 32) : BitVec 1 :=
  let arg0 : BitVec 32 := BitVec.ofNat 32 (i 0).val
  let v26 : BitVec 1 := Scalar.cmpi .slt arg0 v0
  let v27 : BitVec 32 := Scalar.extui v26
  let c0_i32_7 : BitVec 32 := 0#32
  let v28 : BitVec 1 := Scalar.cmpi .ne v27 c0_i32_7
  v28

def k0_cond3 (i : grid0.Coords) (v0 : BitVec 32) : BitVec 1 :=
  let arg0 : BitVec 32 := BitVec.ofNat 32 (i 0).val
  let v29 : BitVec 1 := Scalar.cmpi .sge arg0 v0
  let v30 : BitVec 32 := Scalar.extui v29
  let c0_i32_8 : BitVec 32 := 0#32
  let v31 : BitVec 1 := Scalar.cmpi .ne v30 c0_i32_8
  v31

def cc0_transform_0 (inb_S1024_S1_256 : ∀ a, (![256] : Fin 1 → Nat) a + S1.size a ≤ S1024.size a) (numel1_S1 : S1.numel = 1) (pf : pre0.Contents (Elt F)) (i : grid0.Coords) : Fin 2 → Nat :=
  let arg0 : BitVec 32 := BitVec.ofNat 32 (i 0).val
  let c256 : Index := 256#32
  let v0 : BitVec 32 := pf.at 0 (Rect.unit (s := S1024) ![256] S1.size inb_S1024_S1_256) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (k0_off1_inb : ∀ i : grid0.Coords, ∀ (r : Fin 2), ∀ a, (k0_off1 i (BitVec.ofNat 32 (128 * r.val))) a + S1.size a ≤ S1024.size a) (numel1_S1 : S1.numel = 1) (pf : pre0.Contents (Elt F)) (i : grid0.Coords) : Fin 4 → Nat :=
  let arg0 : BitVec 32 := BitVec.ofNat 32 (i 0).val
  let c0_i32 : BitVec 32 := 0#32
  let v0 : BitVec 32 := Scalar.addi c0_i32 arg0
  let v1 : Index := Scalar.indexCast v0
  let v2 : BitVec 32 := pf.at 0 (Rect.unit (s := S1024) ![v1.toNat] S1.size (k0_off1_inb i 0)) numel1_S1
  let c0_i32_0 : BitVec 32 := 0#32
  let c0_i32_1 : BitVec 32 := 0#32
  let c0_i32_2 : BitVec 32 := 0#32
  let c0_i32_3 : BitVec 32 := 0#32
  ![c0_i32_0.toNat, v2.toNat, c0_i32_1.toNat, c0_i32_2.toNat]

def cc0_transform_4 (k0_off1_inb : ∀ i : grid0.Coords, ∀ (r : Fin 2), ∀ a, (k0_off1 i (BitVec.ofNat 32 (128 * r.val))) a + S1.size a ≤ S1024.size a) (numel1_S1 : S1.numel = 1) (pf : pre0.Contents (Elt F)) (i : grid0.Coords) : Fin 4 → Nat :=
  let arg0 : BitVec 32 := BitVec.ofNat 32 (i 0).val
  let c0_i32 : BitVec 32 := 0#32
  let v0 : BitVec 32 := Scalar.addi c0_i32 arg0
  let v1 : Index := Scalar.indexCast v0
  let v2 : BitVec 32 := pf.at 0 (Rect.unit (s := S1024) ![v1.toNat] S1.size (k0_off1_inb i 0)) numel1_S1
  let c0_i32_0 : BitVec 32 := 0#32
  let c0_i32_1 : BitVec 32 := 0#32
  let c0_i32_2 : BitVec 32 := 0#32
  let c0_i32_3 : BitVec 32 := 0#32
  ![c0_i32_0.toNat, v2.toNat, c0_i32_1.toNat, c0_i32_2.toNat]

def cc0_transform_5 (k0_off1_inb : ∀ i : grid0.Coords, ∀ (r : Fin 2), ∀ a, (k0_off1 i (BitVec.ofNat 32 (128 * r.val))) a + S1.size a ≤ S1024.size a) (numel1_S1 : S1.numel = 1) (pf : pre0.Contents (Elt F)) (i : grid0.Coords) : Fin 4 → Nat :=
  let arg0 : BitVec 32 := BitVec.ofNat 32 (i 0).val
  let c0_i32 : BitVec 32 := 0#32
  let v0 : BitVec 32 := Scalar.addi c0_i32 arg0
  let v1 : Index := Scalar.indexCast v0
  let v2 : BitVec 32 := pf.at 0 (Rect.unit (s := S1024) ![v1.toNat] S1.size (k0_off1_inb i 0)) numel1_S1
  let c0_i32_0 : BitVec 32 := 0#32
  let c0_i32_1 : BitVec 32 := 0#32
  let c0_i32_2 : BitVec 32 := 0#32
  let c0_i32_3 : BitVec 32 := 0#32
  ![c0_i32_0.toNat, v2.toNat, c0_i32_1.toNat, c0_i32_2.toNat]

def cc0_transform_6 (k0_off1_inb : ∀ i : grid0.Coords, ∀ (r : Fin 2), ∀ a, (k0_off1 i (BitVec.ofNat 32 (128 * r.val))) a + S1.size a ≤ S1024.size a) (numel1_S1 : S1.numel = 1) (pf : pre0.Contents (Elt F)) (i : grid0.Coords) : Fin 4 → Nat :=
  let arg0 : BitVec 32 := BitVec.ofNat 32 (i 0).val
  let c128_i32 : BitVec 32 := 128#32
  let v0 : BitVec 32 := Scalar.addi c128_i32 arg0
  let v1 : Index := Scalar.indexCast v0
  let v2 : BitVec 32 := pf.at 0 (Rect.unit (s := S1024) ![v1.toNat] S1.size (k0_off1_inb i 1)) numel1_S1
  let c0_i32 : BitVec 32 := 0#32
  let c0_i32_0 : BitVec 32 := 0#32
  let c0_i32_1 : BitVec 32 := 0#32
  let c0_i32_2 : BitVec 32 := 0#32
  ![c0_i32.toNat, v2.toNat, c0_i32_0.toNat, c0_i32_1.toNat]

def cc0_transform_7 (k0_off1_inb : ∀ i : grid0.Coords, ∀ (r : Fin 2), ∀ a, (k0_off1 i (BitVec.ofNat 32 (128 * r.val))) a + S1.size a ≤ S1024.size a) (numel1_S1 : S1.numel = 1) (pf : pre0.Contents (Elt F)) (i : grid0.Coords) : Fin 4 → Nat :=
  let arg0 : BitVec 32 := BitVec.ofNat 32 (i 0).val
  let c128_i32 : BitVec 32 := 128#32
  let v0 : BitVec 32 := Scalar.addi c128_i32 arg0
  let v1 : Index := Scalar.indexCast v0
  let v2 : BitVec 32 := pf.at 0 (Rect.unit (s := S1024) ![v1.toNat] S1.size (k0_off1_inb i 1)) numel1_S1
  let c0_i32 : BitVec 32 := 0#32
  let c0_i32_0 : BitVec 32 := 0#32
  let c0_i32_1 : BitVec 32 := 0#32
  let c0_i32_2 : BitVec 32 := 0#32
  ![c0_i32.toNat, v2.toNat, c0_i32_0.toNat, c0_i32_1.toNat]

def cc0_transform_8 (k0_off1_inb : ∀ i : grid0.Coords, ∀ (r : Fin 2), ∀ a, (k0_off1 i (BitVec.ofNat 32 (128 * r.val))) a + S1.size a ≤ S1024.size a) (numel1_S1 : S1.numel = 1) (pf : pre0.Contents (Elt F)) (i : grid0.Coords) : Fin 4 → Nat :=
  let arg0 : BitVec 32 := BitVec.ofNat 32 (i 0).val
  let c128_i32 : BitVec 32 := 128#32
  let v0 : BitVec 32 := Scalar.addi c128_i32 arg0
  let v1 : Index := Scalar.indexCast v0
  let v2 : BitVec 32 := pf.at 0 (Rect.unit (s := S1024) ![v1.toNat] S1.size (k0_off1_inb i 1)) numel1_S1
  let c0_i32 : BitVec 32 := 0#32
  let c0_i32_0 : BitVec 32 := 0#32
  let c0_i32_1 : BitVec 32 := 0#32
  let c0_i32_2 : BitVec 32 := 0#32
  ![c0_i32.toNat, v2.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S9x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ExpertsRefIdeal.lean ====
abbrev S28160x1024 : Shape := ⟨2, ![28160, 1024]⟩
abbrev S28160x2 : Shape := ⟨2, ![28160, 2]⟩
abbrev S28160 : Shape := ⟨1, ![28160]⟩
abbrev S8x128 : Shape := ⟨2, ![8, 128]⟩
abbrev S4x6x3x1x1024 : Shape := ⟨5, ![4, 6, 3, 1, 1024]⟩
abbrev S4x1024 : Shape := ⟨2, ![4, 1024]⟩
abbrev S4x16x1024x256 : Shape := ⟨4, ![4, 16, 1024, 256]⟩
abbrev S4x16x256x1024 : Shape := ⟨4, ![4, 16, 256, 1024]⟩
abbrev S2x55 : Shape := ⟨2, ![2, 55]⟩
abbrev S55x2 : Shape := ⟨2, ![55, 2]⟩
abbrev S55x512x2 : Shape := ⟨3, ![55, 512, 2]⟩
abbrev S1x1 : Shape := ⟨2, ![1, 1]⟩
abbrev S_ : Shape := ⟨0, ![]⟩
abbrev S1x1x3x1x1024 : Shape := ⟨5, ![1, 1, 3, 1, 1024]⟩
abbrev S3x1024 : Shape := ⟨2, ![3, 1024]⟩
abbrev S28160x1 : Shape := ⟨2, ![28160, 1]⟩
abbrev S1x1024 : Shape := ⟨2, ![1, 1024]⟩
abbrev S1024 : Shape := ⟨1, ![1024]⟩
abbrev S28160x2x1 : Shape := ⟨3, ![28160, 2, 1]⟩
abbrev S1x1x16 : Shape := ⟨3, ![1, 1, 16]⟩
abbrev S28160x2x16 : Shape := ⟨3, ![28160, 2, 16]⟩
abbrev S28160x16 : Shape := ⟨2, ![28160, 16]⟩
abbrev S1x16x1024x256 : Shape := ⟨4, ![1, 16, 1024, 256]⟩
abbrev S16x1024x256 : Shape := ⟨3, ![16, 1024, 256]⟩
abbrev S28160x16x256 : Shape := ⟨3, ![28160, 16, 256]⟩
abbrev S28160x16x1 : Shape := ⟨3, ![28160, 16, 1]⟩
abbrev S1x16x256x1024 : Shape := ⟨4, ![1, 16, 256, 1024]⟩
abbrev S16x256x1024 : Shape := ⟨3, ![16, 256, 1024]⟩

abbrev nBuf : Space → Nat
  | .hbm => 96
  | .vmem => 0
  | .smem => 0
  | _ => 0

abbrev bufTy : (tb : Table) → Fin (tcTables nBuf tb) → BufTy
  | .hbm, ⟨0, _⟩ => ⟨S28160x1024, .f32⟩
  | .hbm, ⟨1, _⟩ => ⟨S28160x2, .f32⟩
  | .hbm, ⟨2, _⟩ => ⟨S28160, .i32⟩
  | .hbm, ⟨3, _⟩ => ⟨S8x128, .i32⟩
  | .hbm, ⟨4, _⟩ => ⟨S4x6x3x1x1024, .f32⟩
  | .hbm, ⟨5, _⟩ => ⟨S4x1024, .f32⟩
  | .hbm, ⟨6, _⟩ => ⟨S4x16x1024x256, .f32⟩
  | .hbm, ⟨7, _⟩ => ⟨S4x16x1024x256, .f32⟩
  | .hbm, ⟨8, _⟩ => ⟨S4x16x256x1024, .f32⟩
  | .hbm, ⟨9, _⟩ => ⟨S2x55, .i32⟩
  | .hbm, ⟨10, _⟩ => ⟨S55x2, .i32⟩
  | .hbm, ⟨11, _⟩ => ⟨S55x512x2, .i32⟩
  | .hbm, ⟨12, _⟩ => ⟨S28160x2, .i32⟩
  | .hbm, ⟨13, _⟩ => ⟨S28160, .i32⟩
  | .hbm, ⟨14, _⟩ => ⟨S1x1, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S28160, .i32⟩
  | .hbm, ⟨19, _⟩ => ⟨S28160, .i1⟩
  | .hbm, ⟨20, _⟩ => ⟨S1x1x3x1x1024, .f32⟩
  | .hbm, ⟨21, _⟩ => ⟨S3x1024, .f32⟩
  | .hbm, ⟨22, _⟩ => ⟨S28160x1, .i32⟩
  | .hbm, ⟨23, _⟩ => ⟨S28160x1024, .f32⟩
  | .hbm, ⟨24, _⟩ => ⟨S1x1x3x1x1024, .f32⟩
  | .hbm, ⟨25, _⟩ => ⟨S3x1024, .f32⟩
  | .hbm, ⟨26, _⟩ => ⟨S28160x1, .i32⟩
  | .hbm, ⟨27, _⟩ => ⟨S28160x1024, .f32⟩
  | .hbm, ⟨28, _⟩ => ⟨S1x1x3x1x1024, .f32⟩
  | .hbm, ⟨29, _⟩ => ⟨S3x1024, .f32⟩
  | .hbm, ⟨30, _⟩ => ⟨S28160x1, .i32⟩
  | .hbm, ⟨31, _⟩ => ⟨S28160x1024, .f32⟩
  | .hbm, ⟨32, _⟩ => ⟨S28160x1024, .f32⟩
  | .hbm, ⟨33, _⟩ => ⟨S_, .f32⟩
  | .hbm, ⟨34, _⟩ => ⟨S28160, .f32⟩
  | .hbm, ⟨35, _⟩ => ⟨S28160x1, .f32⟩
  | .hbm, ⟨36, _⟩ => ⟨S_, .f32⟩
  | .hbm, ⟨37, _⟩ => ⟨S28160x1, .f32⟩
  | .hbm, ⟨38, _⟩ => ⟨S28160x1, .f32⟩
  | .hbm, ⟨39, _⟩ => ⟨S_, .f32⟩
  | .hbm, ⟨40, _⟩ => ⟨S28160x1, .f32⟩
  | .hbm, ⟨41, _⟩ => ⟨S28160x1, .f32⟩
  | .hbm, ⟨42, _⟩ => ⟨S28160x1, .f32⟩
  | .hbm, ⟨43, _⟩ => ⟨S28160x1024, .f32⟩
  | .hbm, ⟨44, _⟩ => ⟨S28160x1024, .f32⟩
  | .hbm, ⟨45, _⟩ => ⟨S1x1024, .f32⟩
  | .hbm, ⟨46, _⟩ => ⟨S1024, .f32⟩
  | .hbm, ⟨47, _⟩ => ⟨S1x1024, .f32⟩
  | .hbm, ⟨48, _⟩ => ⟨S28160x1024, .f32⟩
  | .hbm, ⟨49, _⟩ => ⟨S28160x1024, .f32⟩
  | .hbm, ⟨50, _⟩ => ⟨S_, .f32⟩
  | .hbm, ⟨51, _⟩ => ⟨S28160x1024, .f32⟩
  | .hbm, ⟨52, _⟩ => ⟨S28160x1024, .f32⟩
  | .hbm, ⟨53, _⟩ => ⟨S28160x1024, .f32⟩
  | .hbm, ⟨54, _⟩ => ⟨S28160x1024, .f32⟩
  | .hbm, ⟨55, _⟩ => ⟨S28160x2x1, .i32⟩
  | .hbm, ⟨56, _⟩ => ⟨S1x1x16, .i32⟩
  | .hbm, ⟨57, _⟩ => ⟨S28160x2x16, .i32⟩
  | .hbm, ⟨58, _⟩ => ⟨S28160x2x16, .i32⟩
  | .hbm, ⟨59, _⟩ => ⟨S28160x2x16, .i1⟩
  | .hbm, ⟨60, _⟩ => ⟨S28160x2x16, .f32⟩
  | .hbm, ⟨61, _⟩ => ⟨S28160x2x1, .f32⟩
  | .hbm, ⟨62, _⟩ => ⟨S28160x2x16, .f32⟩
  | .hbm, ⟨63, _⟩ => ⟨S28160x2x16, .f32⟩
  | .hbm, ⟨64, _⟩ => ⟨S_, .f32⟩
  | .hbm, ⟨65, _⟩ => ⟨S28160x16, .f32⟩
  | .hbm, ⟨66, _⟩ => ⟨S1x16x1024x256, .f32⟩
  | .hbm, ⟨67, _⟩ => ⟨S16x1024x256, .f32⟩
  | .hbm, ⟨68, _⟩ => ⟨S28160x16x256, .f32⟩
  | .hbm, ⟨69, _⟩ => ⟨S1x16x1024x256, .f32⟩
  | .hbm, ⟨70, _⟩ => ⟨S16x1024x256, .f32⟩
  | .hbm, ⟨71, _⟩ => ⟨S28160x16x256, .f32⟩
  | .hbm, ⟨72, _⟩ => ⟨S28160x16x256, .f32⟩
  | .hbm, ⟨73, _⟩ => ⟨S28160x16x256, .f32⟩
  | .hbm, ⟨74, _⟩ => ⟨S_, .f32⟩
  | .hbm, ⟨75, _⟩ => ⟨S28160x16x256, .f32⟩
  | .hbm, ⟨76, _⟩ => ⟨S28160x16x256, .f32⟩
  | .hbm, ⟨77, _⟩ => ⟨S_, .f32⟩
  | .hbm, ⟨78, _⟩ => ⟨S28160x16x256, .f32⟩
  | .hbm, ⟨79, _⟩ => ⟨S28160x16x256, .f32⟩
  | .hbm, ⟨80, _⟩ => ⟨S28160x16x256, .f32⟩
  | .hbm, ⟨81, _⟩ => ⟨S28160x16x256, .f32⟩
  | .hbm, ⟨82, _⟩ => ⟨S28160x16x1, .f32⟩
  | .hbm, ⟨83, _⟩ => ⟨S28160x16x256, .f32⟩
  | .hbm, ⟨84, _⟩ => ⟨S28160x16x256, .f32⟩
  | .hbm, ⟨85, _⟩ => ⟨S1x16x256x1024, .f32⟩
  | .hbm, ⟨86, _⟩ => ⟨S16x256x1024, .f32⟩
  | .hbm, ⟨87, _⟩ => ⟨S28160x1024, .f32⟩
  | .hbm, ⟨88, _⟩ => ⟨S28160x1, .i1⟩
  | .hbm, ⟨89, _⟩ => ⟨S28160x1024, .f32⟩
  | .hbm, ⟨90, _⟩ => ⟨S28160x1024, .f32⟩
  | .hbm, ⟨91, _⟩ => ⟨S_, .f32⟩
  | .hbm, ⟨92, _⟩ => ⟨S_, .f32⟩
  | .hbm, ⟨93, _⟩ => ⟨S28160x1024, .i1⟩
  | .hbm, ⟨94, _⟩ => ⟨S28160x1024, .f32⟩
  | .hbm, ⟨95, _⟩ => ⟨S28160x1024, .f32⟩
  | _, _ => ⟨S28160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_call0_v0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_call1_v0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call2_v0 : Ref sig .tc := ⟨.hbm, 30, rfl⟩
abbrev main_v18 : Ref sig .tc := ⟨.hbm, 31, rfl⟩
abbrev main_v19 : Ref sig .tc := ⟨.hbm, 32, rfl⟩
abbrev main_cst : Ref sig .tc := ⟨.hbm, 33, rfl⟩
abbrev main_v20 : Ref sig .tc := ⟨.hbm, 34, rfl⟩
abbrev main_v21 : Ref sig .tc := ⟨.hbm, 35, rfl⟩
abbrev main_cst_0 : Ref sig .tc := ⟨.hbm, 36, rfl⟩
abbrev main_v22 : Ref sig .tc := ⟨.hbm, 37, rfl⟩
abbrev main_v23 : Ref sig .tc := ⟨.hbm, 38, rfl⟩
abbrev main_cst_1 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_2 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_call3_v0 : Ref sig .tc := ⟨.hbm, 55, rfl⟩
abbrev main_call3_v1 : Ref sig .tc := ⟨.hbm, 56, rfl⟩
abbrev main_call3_v2 : Ref sig .tc := ⟨.hbm, 57, rfl⟩
abbrev main_call3_v3 : Ref sig .tc := ⟨.hbm, 58, rfl⟩
abbrev main_call3_v4 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_3 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call4_v0 : Ref sig .tc := ⟨.hbm, 72, rfl⟩
abbrev main_call4_v1 : Ref sig .tc := ⟨.hbm, 73, rfl⟩
abbrev main_call4_cst : Ref sig .tc := ⟨.hbm, 74, rfl⟩
abbrev main_call4_v2 : Ref sig .tc := ⟨.hbm, 75, rfl⟩
abbrev main_call4_v3 : Ref sig .tc := ⟨.hbm, 76, rfl⟩
abbrev main_call4_cst_0 : Ref sig .tc := ⟨.hbm, 77, rfl⟩
abbrev main_call4_v4 : Ref sig .tc := ⟨.hbm, 78, rfl⟩
abbrev main_call4_v5 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_4 : Ref sig .tc := ⟨.hbm, 91, rfl⟩
abbrev main_call5_v0 : Ref sig .tc := ⟨.hbm, 92, rfl⟩
abbrev main_call5_v1 : Ref sig .tc := ⟨.hbm, 93, rfl⟩
abbrev main_call5_v2 : Ref sig .tc := ⟨.hbm, 94, rfl⟩
abbrev main_v60 : Ref sig .tc := ⟨.hbm, 95, rfl⟩

abbrev nD : Nat := 1
abbrev τ : Topo := Topo.v7x

variable {F : FTy → Type} [FloatOps F]
-- ==== Out.lean ====
abbrev S8192x2048 : Shape := ⟨2, ![8192, 2048]⟩
abbrev S8192x1024 : Shape := ⟨2, ![8192, 1024]⟩
abbrev S4x6x3x1x1024 : Shape := ⟨5, ![4, 6, 3, 1, 1024]⟩
abbrev S2x2048 : Shape := ⟨2, ![2, 2048]⟩
abbrev S2x2048x1024 : Shape := ⟨3, ![2, 2048, 1024]⟩
abbrev S1x2048x1024 : Shape := ⟨3, ![1, 2048, 1024]⟩
abbrev S2048x1024 : Shape := ⟨2, ![2048, 1024]⟩
abbrev S1x2048 : Shape := ⟨2, ![1, 2048]⟩
abbrev S2048 : Shape := ⟨1, ![2048]⟩
abbrev S512x2048 : Shape := ⟨2, ![512, 2048]⟩
abbrev S512x1024 : Shape := ⟨2, ![512, 1024]⟩
abbrev S1x1x1x1x1024 : Shape := ⟨5, ![1, 1, 1, 1, 1024]⟩
abbrev S512 : Shape := ⟨1, ![512]⟩
abbrev S512x1 : Shape := ⟨2, ![512, 1]⟩
abbrev S1x1024 : Shape := ⟨2, ![1, 1024]⟩

abbrev nBuf : Space → Nat
  | .hbm => 12
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S4x6x3x1x1024, .f32⟩
  | .hbm, ⟨3, _⟩ => ⟨S2x2048, .f32⟩
  | .hbm, ⟨4, _⟩ => ⟨S2x2048x1024, .f32⟩
  | .hbm, ⟨5, _⟩ => ⟨S1x2048x1024, .f32⟩
  | .hbm, ⟨6, _⟩ => ⟨S2048x1024, .f32⟩
  | .hbm, ⟨7, _⟩ => ⟨S2048x1024, .bf16⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S8192x1024, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S1x1x1x1x1024, .f32⟩
  | .local _ .vmem, ⟨7, _⟩ => ⟨S1x1x1x1x1024, .f32⟩
  | .local _ .vmem, ⟨8, _⟩ => ⟨S512x1024, .f32⟩
  | .local _ .vmem, ⟨9, _⟩ => ⟨S512x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 5 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.muli c1_i32_4 v17
  let c1_i32_5 : BitVec 32 := 1#32
  let v19 : BitVec 32 := Scalar.addi c1_i32_5 v18
  let c1_i32_6 : BitVec 32 := 1#32
  let c2_i32 : BitVec 32 := 2#32
  let c0_i32_7 : BitVec 32 := 0#32
  let c0_i32_8 : BitVec 32 := 0#32
  let c0_i32_9 : BitVec 32 := 0#32
  ![c1_i32_6.toNat, c2_i32.toNat, v19.toNat, c0_i32_7.toNat, c0_i32_8.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutRefIdeal.lean ====
abbrev S8192x2048 : Shape := ⟨2, ![8192, 2048]⟩
abbrev S8192x1024 : Shape := ⟨2, ![8192, 1024]⟩
abbrev S4x6x3x1x1024 : Shape := ⟨5, ![4, 6, 3, 1, 1024]⟩
abbrev S2x2048 : Shape := ⟨2, ![2, 2048]⟩
abbrev S2x2048x1024 : Shape := ⟨3, ![2, 2048, 1024]⟩
abbrev S2x4096x2048 : Shape := ⟨3, ![2, 4096, 2048]⟩
abbrev S_ : Shape := ⟨0, ![]⟩
abbrev S2x4096 : Shape := ⟨2, ![2, 4096]⟩
abbrev S2x4096x1 : Shape := ⟨3, ![2, 4096, 1]⟩
abbrev S1x2048 : Shape := ⟨2, ![1, 2048]⟩
abbrev S2048 : Shape := ⟨1, ![2048]⟩
abbrev S1x1x2048 : Shape := ⟨3, ![1, 1, 2048]⟩
abbrev S2x4096x1024 : Shape := ⟨3, ![2, 4096, 1024]⟩
abbrev S1x1x2x1x1024 : Shape := ⟨5, ![1, 1, 2, 1, 1024]⟩
abbrev S2x1x1024 : Shape := ⟨3, ![2, 1, 1024]⟩
abbrev S1x2048x1024 : Shape := ⟨3, ![1, 2048, 1024]⟩
abbrev S2048x1024 : Shape := ⟨2, ![2048, 1024]⟩

abbrev nBuf : Space → Nat
  | .hbm => 34
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S4x6x3x1x1024, .f32⟩
  | .hbm, ⟨3, _⟩ => ⟨S2x2048, .f32⟩
  | .hbm, ⟨4, _⟩ => ⟨S2x2048x1024, .f32⟩
  | .hbm, ⟨5, _⟩ => ⟨S2x4096x2048, .f32⟩
  | .hbm, ⟨6, _⟩ => ⟨S2x4096x2048, .f32⟩
  | .hbm, ⟨7, _⟩ => ⟨S_, .f32⟩
  | .hbm, ⟨8, _⟩ => ⟨S2x4096, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x1, .f32⟩
  | .hbm, ⟨17, _⟩ => ⟨S2x4096x2048, .f32⟩
  | .hbm, ⟨18, _⟩ => ⟨S2x4096x2048, .f32⟩
  | .hbm, ⟨19, _⟩ => ⟨S1x2048, .f32⟩
  | .hbm, ⟨20, _⟩ => ⟨S2048, .f32⟩
  | .hbm, ⟨21, _⟩ => ⟨S1x1x2048, .f32⟩
  | .hbm, ⟨22, _⟩ => ⟨S2x4096x2048, .f32⟩
  | .hbm, ⟨23, _⟩ => ⟨S2x4096x2048, .f32⟩
  | .hbm, ⟨24, _⟩ => ⟨S2x4096x1024, .f32⟩
  | .hbm, ⟨25, _⟩ => ⟨S1x1x2x1x1024, .f32⟩
  | .hbm, ⟨26, _⟩ => ⟨S2x1x1024, .f32⟩
  | .hbm, ⟨27, _⟩ => ⟨S1x2048x1024, .f32⟩
  | .hbm, ⟨28, _⟩ => ⟨S2048x1024, .f32⟩
  | .hbm, ⟨29, _⟩ => ⟨S2x4096x1024, .f32⟩
  | .hbm, ⟨30, _⟩ => ⟨S2x4096x1024, .f32⟩
  | .hbm, ⟨31, _⟩ => ⟨S2x4096x1024, .f32⟩
  | .hbm, ⟨32, _⟩ => ⟨S2x4096x1024, .f32⟩
  | .hbm, ⟨33, _⟩ => ⟨S8192x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Kv.lean ====
abbrev S8192x1024 : Shape := ⟨2, ![8192, 1024]⟩
abbrev S4x6x3x1x1024 : Shape := ⟨5, ![4, 6, 3, 1, 1024]⟩
abbrev S4x1024 : Shape := ⟨2, ![4, 1024]⟩
abbrev S2x1024x1536 : Shape := ⟨3, ![2, 1024, 1536]⟩
abbrev S2x64 : Shape := ⟨2, ![2, 64]⟩
abbrev S1x64 : Shape := ⟨2, ![1, 64]⟩
abbrev S64 : Shape := ⟨1, ![64]⟩
abbrev S128 : Shape := ⟨1, ![128]⟩
abbrev S1x128 : Shape := ⟨2, ![1, 128]⟩
abbrev S1x1024 : Shape := ⟨2, ![1, 1024]⟩
abbrev S1024 : Shape := ⟨1, ![1024]⟩
abbrev S1x1024x1536 : Shape := ⟨3, ![1, 1024, 1536]⟩
abbrev S1024x1536 : Shape := ⟨2, ![1024, 1536]⟩
abbrev S4x2x128x8192 : Shape := ⟨4, ![4, 2, 128, 8192]⟩
abbrev S4x2x8192x128 : Shape := ⟨4, ![4, 2, 8192, 128]⟩
abbrev S8192x256 : Shape := ⟨2, ![8192, 256]⟩
abbrev S512x1024 : Shape := ⟨2, ![512, 1024]⟩
abbrev S1x1x1x1x1024 : Shape := ⟨5, ![1, 1, 1, 1, 1024]⟩
abbrev S4x2x128x512 : Shape := ⟨4, ![4, 2, 128, 512]⟩
abbrev S4x2x512x128 : Shape := ⟨4, ![4, 2, 512, 128]⟩
abbrev S512x256 : Shape := ⟨2, ![512, 256]⟩
abbrev S512x1536 : Shape := ⟨2, ![512, 1536]⟩
abbrev S512 : Shape := ⟨1, ![512]⟩
abbrev S512x1 : Shape := ⟨2, ![512, 1]⟩
abbrev S512x128 : Shape := ⟨2, ![512, 128]⟩
abbrev S128x512 : Shape := ⟨2, ![128, 512]⟩
abbrev S64x512 : Shape := ⟨2, ![64, 512]⟩
abbrev S1x1x128x512 : Shape := ⟨4, ![1, 1, 128, 512]⟩
abbrev S1x1x512x128 : Shape := ⟨4, ![1, 1, 512, 128]⟩

abbrev nBuf : Space → Nat
  | .hbm => 30
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S4x6x3x1x1024, .f32⟩
  | .hbm, ⟨2, _⟩ => ⟨S4x6x3x1x1024, .f32⟩
  | .hbm, ⟨3, _⟩ => ⟨S4x1024, .f32⟩
  | .hbm, ⟨4, _⟩ => ⟨S2x1024x1536, .f32⟩
  | .hbm, ⟨5, _⟩ => ⟨S2x64, .f32⟩
  | .hbm, ⟨6, _⟩ => ⟨S2x64, .f32⟩
  | .hbm, ⟨7, _⟩ => ⟨S1x64, .f32⟩
  | .hbm, ⟨8, _⟩ => ⟨S64, .f32⟩
  | .hbm, ⟨9, _⟩ => ⟨S1x64, .f32⟩
  | .hbm, ⟨10, _⟩ => ⟨S2x64, .f32⟩
  | .hbm, ⟨11, _⟩ => ⟨S128, .f32⟩
  | .hbm, ⟨12, _⟩ => ⟨S1x128, .f32⟩
  | .hbm, ⟨13, _⟩ => ⟨S1x64, .f32⟩
  | .hbm, ⟨14, _⟩ => ⟨S64, .f32⟩
  | .hbm, ⟨15, _⟩ => ⟨S1x64, .f32⟩
  | .hbm, ⟨16, _⟩ => ⟨S2x64, .f32⟩
  | .hbm, ⟨17, _⟩ => ⟨S128, .f32⟩
  | .hbm, ⟨18, _⟩ => ⟨S1x128, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S1x1024x1536, .f32⟩
  | .hbm, ⟨23, _⟩ => ⟨S1024x1536, .f32⟩
  | .hbm, ⟨24, _⟩ => ⟨S1024x1536, .bf16⟩
  | .hbm, ⟨25, _⟩ => ⟨S8192x1024, .bf16⟩
  | .hbm, ⟨26, _⟩ => ⟨S4x2x128x8192, .bf16⟩
  | .hbm, ⟨27, _⟩ => ⟨S4x2x8192x128, .bf16⟩
  | .hbm, ⟨28, _⟩ => ⟨S8192x256, .f32⟩
  | .hbm, ⟨29, _⟩ => ⟨S8192x256, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1x1x1024, .f32⟩
  | .local _ .vmem, ⟨4, _⟩ => ⟨S1x1x1x1x1024, .f32⟩
  | .local _ .vmem, ⟨5, _⟩ => ⟨S1024x1536, .bf16⟩
  | .local _ .vmem, ⟨6, _⟩ => ⟨S1x128, .f32⟩
  | .local _ .vmem, ⟨7, _⟩ => ⟨S1x128, .f32⟩
  | .local _ .vmem, ⟨8, _⟩ => ⟨S512x1024, .bf16⟩
  | .local _ .vmem, ⟨9, _⟩ => ⟨S512x1024, .bf16⟩
  | .local _ .vmem, ⟨10, _⟩ => ⟨S4x2x128x512, .bf16⟩
  | .local _ .vmem, ⟨11, _⟩ => ⟨S4x2x128x512, .bf16⟩
  | .local _ .vmem, ⟨12, _⟩ => ⟨S4x2x512x128, .bf16⟩
  | .local _ .vmem, ⟨13, _⟩ => ⟨S4x2x512x128, .bf16⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18_0 : Ref sig .tc := ⟨.hbm, 25, rfl⟩
abbrev main_v18_1 : Ref sig .tc := ⟨.hbm, 26, rfl⟩
abbrev main_v18_2 : Ref sig .tc := ⟨.hbm, 27, rfl⟩
abbrev main_v18_3 : Ref sig .tc := ⟨.hbm, 28, rfl⟩
abbrev main_v18_4 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc0_transform_3 (i : grid0.Coords) : Fin 5 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  let c0_i32_3 : BitVec 32 := 0#32
  ![c0_i32.toNat, c1_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x2x128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x2x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KvRefIdeal.lean ====
abbrev S8192x1024 : Shape := ⟨2, ![8192, 1024]⟩
abbrev S4x6x3x1x1024 : Shape := ⟨5, ![4, 6, 3, 1, 1024]⟩
abbrev S4x1024 : Shape := ⟨2, ![4, 1024]⟩
abbrev S2x1024x1536 : Shape := ⟨3, ![2, 1024, 1536]⟩
abbrev S2x64 : Shape := ⟨2, ![2, 64]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1x1x1x1024 : Shape := ⟨5, ![1, 1, 1, 1, 1024]⟩
abbrev S1x1024x1536 : Shape := ⟨3, ![1, 1024, 1536]⟩
abbrev S1024x1536 : Shape := ⟨2, ![1024, 1536]⟩
abbrev S8192x1536 : Shape := ⟨2, ![8192, 1536]⟩
abbrev S8192x256 : Shape := ⟨2, ![8192, 256]⟩
abbrev S8192x4x64 : Shape := ⟨3, ![8192, 4, 64]⟩
abbrev S1x64 : Shape := ⟨2, ![1, 64]⟩
abbrev S64 : Shape := ⟨1, ![64]⟩
abbrev S8192x4 : Shape := ⟨2, ![8192, 4]⟩
abbrev S8192x4x1 : Shape := ⟨3, ![8192, 4, 1]⟩
abbrev S1x1x64 : Shape := ⟨3, ![1, 1, 64]⟩

abbrev nBuf : Space → Nat
  | .hbm => 62
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x6x3x1x1024, .f32⟩
  | .hbm, ⟨2, _⟩ => ⟨S4x6x3x1x1024, .f32⟩
  | .hbm, ⟨3, _⟩ => ⟨S4x1024, .f32⟩
  | .hbm, ⟨4, _⟩ => ⟨S2x1024x1536, .f32⟩
  | .hbm, ⟨5, _⟩ => ⟨S2x64, .f32⟩
  | .hbm, ⟨6, _⟩ => ⟨S2x64, .f32⟩
  | .hbm, ⟨7, _⟩ => ⟨S1x1024, .f32⟩
  | .hbm, ⟨8, _⟩ => ⟨S1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S1x1x1x1x1024, .f32⟩
  | .hbm, ⟨26, _⟩ => ⟨S1x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S1x1x1x1x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S1x1024x1536, .f32⟩
  | .hbm, ⟨37, _⟩ => ⟨S1024x1536, .f32⟩
  | .hbm, ⟨38, _⟩ => ⟨S8192x1536, .f32⟩
  | .hbm, ⟨39, _⟩ => ⟨S8192x1024, .f32⟩
  | .hbm, ⟨40, _⟩ => ⟨S8192x256, .f32⟩
  | .hbm, ⟨41, _⟩ => ⟨S8192x256, .f32⟩
  | .hbm, ⟨42, _⟩ => ⟨S8192x4x64, .f32⟩
  | .hbm, ⟨43, _⟩ => ⟨S1x64, .f32⟩
  | .hbm, ⟨44, _⟩ => ⟨S64, .f32⟩
  | .hbm, ⟨45, _⟩ => ⟨S8192x4x64, .f32⟩
  | .hbm, ⟨46, _⟩ => ⟨S_, .f32⟩
  | .hbm, ⟨47, _⟩ => ⟨S8192x4, .f32⟩
  | .hbm, ⟨48, _⟩ => ⟨S8192x4x1, .f32⟩
  | .hbm, ⟨49, _⟩ => ⟨S_, .f32⟩
  | .hbm, ⟨50, _⟩ => ⟨S8192x4x1, .f32⟩
  | .hbm, ⟨51, _⟩ => ⟨S8192x4x1, .f32⟩
  | .hbm, ⟨52, _⟩ => ⟨S_, .f32⟩
  | .hbm, ⟨53, _⟩ => ⟨S8192x4x1, .f32⟩
  | .hbm, ⟨54, _⟩ => ⟨S8192x4x1, .f32⟩
  | .hbm, ⟨55, _⟩ => ⟨S8192x4x1, .f32⟩
  | .hbm, ⟨56, _⟩ => ⟨S8192x4x64, .f32⟩
  | .hbm, ⟨57, _⟩ => ⟨S8192x4x64, .f32⟩
  | .hbm, ⟨58, _⟩ => ⟨S1x1x64, .f32⟩
  | .hbm, ⟨59, _⟩ => ⟨S8192x4x64, .f32⟩
  | .hbm, ⟨60, _⟩ => ⟨S8192x4x64, .f32⟩
  | .hbm, ⟨61, _⟩ => ⟨S8192x256, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_3 : Ref sig .tc := ⟨.hbm, 46, rfl⟩
abbrev main_v35 : Ref sig .tc := ⟨.hbm, 47, rfl⟩
abbrev main_v36 : Ref sig .tc := ⟨.hbm, 48, rfl⟩
abbrev main_cst_4 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩

abbrev nD : Nat := 1
abbrev τ : Topo := Topo.v7x

variable {F : FTy → Type} [FloatOps F]
-- ==== Proof.AttnTile.lean ====
/- What the body leaves in the result's block, said by tiles: each head's running maximum and running sum, one key
   tile after another, and the quotient at the end. -/
module

public import proofs.«01_k».proof.Proof.Gen.AttnIdeal.Frame

@[expose] public section

set_option maxRecDepth 16384

noncomputable section

namespace Cert.AttnIdeal.Tile

open Cert.AttnIdeal Cert.AttnIdeal.Gen Idealize.ShloMosaic Idealize.SL.Sem

variable {F : FTy → Type} [FloatOps F]

/-- A tile's scores: the queries against its keys. -/
def score (q : FVec F S1024x128 .bf16) (k : Vec F S1x1x128x512 .bf16) : FVec F S1024x512 .f32 :=
  matmul dot_S1024x128_S128x512_S1024x512_1_0_0_1_n_n none q (shapeCast S128x512 k shapeCasts_S1x1x128x512_S128x512) (constant S1024x512 .f32 0x00000000#32)

/-- The running maximum after a tile. -/
def newMax (q : FVec F S1024x128 .bf16) (m : FVec F S1024x1 .f32) (k : Vec F S1x1x128x512 .bf16) : FVec F S1024x1 .f32 :=
  maximumf m (shapeCast S1024x1 (multiReduction .maximumf [1] S1024 (score q k) 0xFF800000#32 reduces_S1024x512_S1024 (.inl rfl) rfl) shapeCasts_S1024_S1024x1)

/-- A tile's weights. -/
def weight (q : FVec F S1024x128 .bf16) (m : FVec F S1024x1 .f32) (k : Vec F S1x1x128x512 .bf16) : FVec F S1024x512 .bf16 :=
  truncf .bf16 (exp2 (subf (score q k) (broadcastTo S1024x512 (newMax q m k) broadcasts_S1024x1_S1024x512))) bitsLt_bf16_f32

/-- The running sum after a tile. -/
def newAcc (q : FVec F S1024x128 .bf16) (m : FVec F S1024x1 .f32) (a : FVec F S1024x128 .f32) (k : Vec F S1x1x128x512 .bf16)
    (v : Vec F S1x1x512x128 .bf16) : FVec F S1024x128 .f32 :=
  addf (mulf (broadcastTo S1024x128 (exp2 (subf m (newMax q m k))) broadcasts_S1024x1_S1024x128) a)
    (matmul dot_S1024x512_S512x128_S1024x128_1_0_0_1_n_n none (weight q m k) (shapeCast S512x128 v shapeCasts_S1x1x512x128_S512x128)
      (constant S1024x128 .f32 0x00000000#32))

/-- The running maximum after the first `n` tiles. -/
def maxes (q : FVec F S1024x128 .bf16) (ks : ℕ → Vec F S1x1x128x512 .bf16) : ℕ → FVec F S1024x1 .f32
  | 0 => broadcast S1024x1 (Scalar.ofBits .f32 0xFF800000#32)
  | n + 1 => newMax q (maxes q ks n) (ks n)

/-- The running sum after the first `n` tiles. -/
def accs (q : FVec F S1024x128 .bf16) (ks : ℕ → Vec F S1x1x128x512 .bf16) (vs : ℕ → Vec F S1x1x512x128 .bf16) : ℕ → FVec F S1024x128 .f32
  | 0 => broadcast S1024x128 (Scalar.ofBits .f32 0x00000000#32)
  | n + 1 => newAcc q (maxes q ks n) (accs q ks vs n) (ks n) (vs n)

/-- The two heads' quotients side by side: lanes below 64 from the first, whose divisor is its lane 64, the others
    from the second, whose divisor is its lane 0. -/
def quot (a b : FVec F S1024x128 .f32) : FVec F S1024x128 .bf16 :=
  truncf .bf16 (select (cmpi .slt (iota .tc S1024x128 32 [1] iota_S1024x128_d1_w32) (broadcast S1024x128 64#32))
    (divf a (broadcastTo S1024x128 (extractStridedSlice S1024x1 ![0, 64] a slices_S1024x128_o0_64_S1024x1) broadcasts_S1024x1_S1024x128))
    (divf b (broadcastTo S1024x128 (extractStridedSlice S1024x1 ![0, 0] b slices_S1024x128_o0_0_S1024x1) broadcasts_S1024x1_S1024x128))) bitsLt_bf16_f32

/-- A query block under the body's cast to its own shape. -/
def qOf (q : Vec F S1024x128 .bf16) : FVec F S1024x128 .bf16 := shapeCast S1024x128 q shapeCasts_S1024x128_S1024x128

/-- The key tiles of head 0 of a pair, in the order the body takes them. -/
def ks0 (x : Vec F S1x2x128x4096 .bf16) (y : Vec F S1x2x128x512 .bf16) : ℕ → Vec F S1x1x128x512 .bf16
  | 0 => View.ld x r0_1 | 1 => View.ld x r0_5 | 2 => View.ld x r0_9 | 3 => View.ld x r0_13 | 4 => View.ld x r0_17 | 5 => View.ld x r0_21 | 6 => View.ld x r0_25 | 7 => View.ld x r0_29 | _ => View.ld y r0_33

/-- The value tiles of head 0 of a pair, in the order the body takes them. -/
def vs0 (x : Vec F S1x2x4096x128 .bf16) (y : Vec F S1x2x512x128 .bf16) : ℕ → Vec F S1x1x512x128 .bf16
  | 0 => View.ld x r0_2 | 1 => View.ld x r0_6 | 2 => View.ld x r0_10 | 3 => View.ld x r0_14 | 4 => View.ld x r0_18 | 5 => View.ld x r0_22 | 6 => View.ld x r0_26 | 7 => View.ld x r0_30 | _ => View.ld y r0_34

/-- The key tiles of head 1 of a pair, in the order the body takes them. -/
def ks1 (x : Vec F S1x2x128x4096 .bf16) (y : Vec F S1x2x128x512 .bf16) : ℕ → Vec F S1x1x128x512 .bf16
  | 0 => View.ld x r0_3 | 1 => View.ld x r0_7 | 2 => View.ld x r0_11 | 3 => View.ld x r0_15 | 4 => View.ld x r0_19 | 5 => View.ld x r0_23 | 6 => View.ld x r0_27 | 7 => View.ld x r0_31 | _ => View.ld y r0_35

/-- The value tiles of head 1 of a pair, in the order the body takes them. -/
def vs1 (x : Vec F S1x2x4096x128 .bf16) (y : Vec F S1x2x512x128 .bf16) : ℕ → Vec F S1x1x512x128 .bf16
  | 0 => View.ld x r0_4 | 1 => View.ld x r0_8 | 2 => View.ld x r0_12 | 3 => View.ld x r0_16 | 4 => View.ld x r0_20 | 5 => View.ld x r0_24 | 6 => View.ld x r0_28 | 7 => View.ld x r0_32 | _ => View.ld y r0_36

/-- This step of the printed body is a step of the tile fold. -/
theorem pay129_eq (x0 : Vec F S1024x256 .bf16) (x1 : Vec F S1x2x128x4096 .bf16) (x2 : Vec F S1x2x4096x128 .bf16) (x3 : Vec F S1x2x128x512 .bf16) (x4 : Vec F S1x2x512x128 .bf16) : k0_pay129 x0 x1 x2 x3 x4 = qOf (View.ld x0 r0_0) := rfl
/-- This step of the printed body is a step of the tile fold. -/
theorem pay144_eq (x0 : Vec F S1024x256 .bf16) (x1 : Vec F S1x2x128x4096 .bf16) (x2 : Vec F S1x2x4096x128 .bf16) (x3 : Vec F S1x2x128x512 .bf16) (x4 : Vec F S1x2x512x128 .bf16) : k0_pay144 x0 x1 x2 x3 x4 = qOf (View.ld x0 r0_37) := rfl
/-- This step of the printed body is a step of the tile fold. -/
theorem pay130_eq (x0 : Vec F S1024x256 .bf16) (x1 : Vec F S1x2x128x4096 .bf16) (x2 : Vec F S1x2x4096x128 .bf16) (x3 : Vec F S1x2x128x512 .bf16) (x4 : Vec F S1x2x512x128 .bf16) : k0_pay130 x0 x1 x2 x3 x4 = maxes (qOf (View.ld x0 r0_0)) (ks0 x1 x3) 1 := by
  rfl
/-- This step of the printed body is a step of the tile fold. -/
theorem pay132_eq (x0 : Vec F S1024x256 .bf16) (x1 : Vec F S1x2x128x4096 .bf16) (x2 : Vec F S1x2x4096x128 .bf16) (x3 : Vec F S1x2x128x512 .bf16) (x4 : Vec F S1x2x512x128 .bf16) : k0_pay132 x0 x1 x2 x3 x4 = maxes (qOf (View.ld x0 r0_0)) (ks0 x1 x3) 2 := by
  unfold k0_pay132; rw [pay130_eq, pay129_eq, maxes]; rfl
/-- This step of the printed body is a step of the tile fold. -/
theorem pay134_eq (x0 : Vec F S1024x256 .bf16) (x1 : Vec F S1x2x128x4096 .bf16) (x2 : Vec F S1x2x4096x128 .bf16) (x3 : Vec F S1x2x128x512 .bf16) (x4 : Vec F S1x2x512x128 .bf16) : k0_pay134 x0 x1 x2 x3 x4 = maxes (qOf (View.ld x0 r0_0)) (ks0 x1 x3) 3 := by
  unfold k0_pay134; rw [pay132_eq, pay129_eq, maxes]; rfl
/-- This step of the printed body is a step of the tile fold. -/
theorem pay136_eq (x0 : Vec F S1024x256 .bf16) (x1 : Vec F S1x2x128x4096 .bf16) (x2 : Vec F S1x2x4096x128 .bf16) (x3 : Vec F S1x2x128x512 .bf16) (x4 : Vec F S1x2x512x128 .bf16) : k0_pay136 x0 x1 x2 x3 x4 = maxes (qOf (View.ld x0 r0_0)) (ks0 x1 x3) 4 := by
  unfold k0_pay136; rw [pay134_eq, pay129_eq, maxes]; rfl
/-- This step of the printed body is a step of the tile fold. -/
theorem pay138_eq (x0 : Vec F S1024x256 .bf16) (x1 : Vec F S1x2x128x4096 .bf16) (x2 : Vec F S1x2x4096x128 .bf16) (x3 : Vec F S1x2x128x512 .bf16) (x4 : Vec F S1x2x512x128 .bf16) : k0_pay138 x0 x1 x2 x3 x4 = maxes (qOf (View.ld x0 r0_0)) (ks0 x1 x3) 5 := by
  unfold k0_pay138; rw [pay136_eq, pay129_eq, maxes]; rfl
/-- This step of the printed body is a step of the tile fold. -/
theorem pay140_eq (x0 : Vec F S1024x256 .bf16) (x1 : Vec F S1x2x128x4096 .bf16) (x2 : Vec F S1x2x4096x128 .bf16) (x3 : Vec F S1x2x128x512 .bf16) (x4 : Vec F S1x2x512x128 .bf16) : k0_pay140 x0 x1 x2 x3 x4 = maxes (qOf (View.ld x0 r0_0)) (ks0 x1 x3) 6 := by
  unfold k0_pay140; rw [pay138_eq, pay129_eq, maxes]; rfl
/-- This step of the printed body is a step of the tile fold. -/
theorem pay142_eq (x0 : Vec F S1024x256 .bf16) (x1 : Vec F S1x2x128x4096 .bf16) (x2 : Vec F S1x2x4096x128 .bf16) (x3 : Vec F S1x2x128x512 .bf16) (x4 : Vec F S1x2x512x128 .bf16) : k0_pay142 x0 x1 x2 x3 x4 = maxes (qOf (View.ld x0 r0_0)) (ks0 x1 x3) 7 := by
  unfold k0_pay142; rw [pay140_eq, pay129_eq, maxes]; rfl
/-- This step of the printed body is a step of the tile fold. -/
theorem pay131_eq (x0 : Vec F S1024x256 .bf16) (x1 : Vec F S1x2x128x4096 .bf16) (x2 : Vec F S1x2x4096x128 .bf16) (x3 : Vec F S1x2x128x512 .bf16) (x4 : Vec F S1x2x512x128 .bf16) : k0_pay131 x0 x1 x2 x3 x4 = maxes (qOf (View.ld x0 r0_0)) (ks1 x1 x3) 1 := by
  rfl
/-- This step of the printed body is a step of the tile fold. -/
theorem pay133_eq (x0 : Vec F S1024x256 .bf16) (x1 : Vec F S1x2x128x4096 .bf16) (x2 : Vec F S1x2x4096x128 .bf16) (x3 : Vec F S1x2x128x512 .bf16) (x4 : Vec F S1x2x512x128 .bf16) : k0_pay133 x0 x1 x2 x3 x4 = maxes (qOf (View.ld x0 r0_0)) (ks1 x1 x3) 2 := by
  unfold k0_pay133; rw [pay131_eq, pay129_eq, maxes]; rfl
/-- This step of the printed body is a step of the tile fold. -/
theorem pay135_eq (x0 : Vec F S1024x256 .bf16) (x1 : Vec F S1x2x128x4096 .bf16) (x2 : Vec F S1x2x4096x128 .bf16) (x3 : Vec F S1x2x128x512 .bf16) (x4 : Vec F S1x2x512x128 .bf16) : k0_pay135 x0 x1 x2 x3 x4 = maxes (qOf (View.ld x0 r0_0)) (ks1 x1 x3) 3 := by
  unfold k0_pay135; rw [pay133_eq, pay129_eq, maxes]; rfl
/-- This step of the printed body is a step of the tile fold. -/
theorem pay137_eq (x0 : Vec F S1024x256 .bf16) (x1 : Vec F S1x2x128x4096 .bf16) (x2 : Vec F S1x2x4096x128 .bf16) (x3 : Vec F S1x2x128x512 .bf16) (x4 : Vec F S1x2x512x128 .bf16) : k0_pay137 x0 x1 x2 x3 x4 = maxes (qOf (View.ld x0 r0_0)) (ks1 x1 x3) 4 := by
  unfold k0_pay137; rw [pay135_eq, pay129_eq, maxes]; rfl
/-- This step of the printed body is a step of the tile fold. -/
theorem pay139_eq (x0 : Vec F S1024x256 .bf16) (x1 : Vec F S1x2x128x4096 .bf16) (x2 : Vec F S1x2x4096x128 .bf16) (x3 : Vec F S1x2x128x512 .bf16) (x4 : Vec F S1x2x512x128 .bf16) : k0_pay139 x0 x1 x2 x3 x4 = maxes (qOf (View.ld x0 r0_0)) (ks1 x1 x3) 5 := by
  unfold k0_pay139; rw [pay137_eq, pay129_eq, maxes]; rfl
/-- This step of the printed body is a step of the tile fold. -/
theorem pay141_eq (x0 : Vec F S1024x256 .bf16) (x1 : Vec F S1x2x128x4096 .bf16) (x2 : Vec F S1x2x4096x128 .bf16) (x3 : Vec F S1x2x128x512 .bf16) (x4 : Vec F S1x2x512x128 .bf16) : k0_pay141 x0 x1 x2 x3 x4 = maxes (qOf (View.ld x0 r0_0)) (ks1 x1 x3) 6 := by
  unfold k0_pay141; rw [pay139_eq, pay129_eq, maxes]; rfl
/-- This step of the printed body is a step of the tile fold. -/
theorem pay143_eq (x0 : Vec F S1024x256 .bf16) (x1 : Vec F S1x2x128x4096 .bf16) (x2 : Vec F S1x2x4096x128 .bf16) (x3 : Vec F S1x2x128x512 .bf16) (x4 : Vec F S1x2x512x128 .bf16) : k0_pay143 x0 x1 x2 x3 x4 = maxes (qOf (View.ld x0 r0_0)) (ks1 x1 x3) 7 := by
  unfold k0_pay143; rw [pay141_eq, pay129_eq, maxes]; rfl
/-- This step of the printed body is a step of the tile fold. -/
theorem pay145_eq (x0 : Vec F S1024x256 .bf16) (x1 : Vec F S1x2x128x4096 .bf16) (x2 : Vec F S1x2x4096x128 .bf16) (x3 : Vec F S1x2x128x512 .bf16) (x4 : Vec F S1x2x512x128 .bf16) : k0_pay145 x0 x1 x2 x3 x4 = maxes (qOf (View.ld x0 r0_37)) (ks0 x1 x3) 1 := by
  rfl
/-- This step of the printed body is a step of the tile fold. -/
theorem pay147_eq (x0 : Vec F S1024x256 .bf16) (x1 : Vec F S1x2x128x4096 .bf16) (x2 : Vec F S1x2x4096x128 .bf16) (x3 : Vec F S1x2x128x512 .bf16) (x4 : Vec F S1x2x512x128 .bf16) : k0_pay147 x0 x1 x2 x3 x4 = maxes (qOf (View.ld x0 r0_37)) (ks0 x1 x3) 2 := by
  unfold k0_pay147; rw [pay145_eq, pay144_eq, maxes]; rfl
/-- This step of the printed body is a step of the tile fold. -/
theorem pay149_eq (x0 : Vec F S1024x256 .bf16) (x1 : Vec F S1x2x128x4096 .bf16) (x2 : Vec F S1x2x4096x128 .bf16) (x3 : Vec F S1x2x128x512 .bf16) (x4 : Vec F S1x2x512x128 .bf16) : k0_pay149 x0 x1 x2 x3 x4 = maxes (qOf (View.ld x0 r0_37)) (ks0 x1 x3) 3 := by
  unfold k0_pay149; rw [pay147_eq, pay144_eq, maxes]; rfl
/-- This step of the printed body is a step of the tile fold. -/
theorem pay151_eq (x0 : Vec F S1024x256 .bf16) (x1 : Vec F S1x2x128x4096 .bf16) (x2 : Vec F S1x2x4096x128 .bf16) (x3 : Vec F S1x2x128x512 .bf16) (x4 : Vec F S1x2x512x128 .bf16) : k0_pay151 x0 x1 x2 x3 x4 = maxes (qOf (View.ld x0 r0_37)) (ks0 x1 x3) 4 := by
  unfold k0_pay151; rw [pay149_eq, pay144_eq, maxes]; rfl
/-- This step of the printed body is a step of the tile fold. -/
theorem pay153_eq (x0 : Vec F S1024x256 .bf16) (x1 : Vec F S1x2x128x4096 .bf16) (x2 : Vec F S1x2x4096x128 .bf16) (x3 : Vec F S1x2x128x512 .bf16) (x4 : Vec F S1x2x512x128 .bf16) : k0_pay153 x0 x1 x2 x3 x4 = maxes (qOf (View.ld x0 r0_37)) (ks0 x1 x3) 5 := by
  unfold k0_pay153; rw [pay151_eq, pay144_eq, maxes]; rfl
/-- This step of the printed body is a step of the tile fold. -/
theorem pay155_eq (x0 : Vec F S1024x256 .bf16) (x1 : Vec F S1x2x128x4096 .bf16) (x2 : Vec F S1x2x4096x128 .bf16) (x3 : Vec F S1x2x128x512 .bf16) (x4 : Vec F S1x2x512x128 .bf16) : k0_pay155 x0 x1 x2 x3 x4 = maxes (qOf (View.ld x0 r0_37)) (ks0 x1 x3) 6 := by
  unfold k0_pay155; rw [pay153_eq, pay144_eq, maxes]; rfl
/-- This step of the printed body is a step of the tile fold. -/
theorem pay157_eq (x0 : Vec F S1024x256 .bf16) (x1 : Vec F S1x2x128x4096 .bf16) (x2 : Vec F S1x2x4096x128 .bf16) (x3 : Vec F S1x2x128x512 .bf16) (x4 : Vec F S1x2x512x128 .bf16) : k0_pay157 x0 x1 x2 x3 x4 = maxes (qOf (View.ld x0 r0_37)) (ks0 x1 x3) 7 := by
  unfold k0_pay157; rw [pay155_eq, pay144_eq, maxes]; rfl
/-- This step of the printed body is a step of the tile fold. -/
theorem pay159_eq (x0 : Vec F S1024x256 .bf16) (x1 : Vec F S1x2x128x4096 .bf16) (x2 : Vec F S1x2x4096x128 .bf16) (x3 : Vec F S1x2x128x512 .bf16) (x4 : Vec F S1x2x512x128 .bf16) : k0_pay159 x0 x1 x2 x3 x4 = maxes (qOf (View.ld x0 r0_37)) (ks0 x1 x3) 8 := by
  unfold k0_pay159; rw [pay157_eq, pay144_eq, maxes]; rfl
/-- This step of the printed body is a step of the tile fold. -/
theorem pay146_eq (x0 : Vec F S1024x256 .bf16) (x1 : Vec F S1x2x128x4096 .bf16) (x2 : Vec F S1x2x4096x128 .bf16) (x3 : Vec F S1x2x128x512 .bf16) (x4 : Vec F S1x2x512x128 .bf16) : k0_pay146 x0 x1 x2 x3 x4 = maxes (qOf (View.ld x0 r0_37)) (ks1 x1 x3) 1 := by
  rfl
/-- This step of the printed body is a step of the tile fold. -/
theorem pay148_eq (x0 : Vec F S1024x256 .bf16) (x1 : Vec F S1x2x128x4096 .bf16) (x2 : Vec F S1x2x4096x128 .bf16) (x3 : Vec F S1x2x128x512 .bf16) (x4 : Vec F S1x2x512x128 .bf16) : k0_pay148 x0 x1 x2 x3 x4 = maxes (qOf (View.ld x0 r0_37)) (ks1 x1 x3) 2 := by
  unfold k0_pay148; rw [pay146_eq, pay144_eq, maxes]; rfl
/-- This step of the printed body is a step of the tile fold. -/
theorem pay150_eq (x0 : Vec F S1024x256 .bf16) (x1 : Vec F S1x2x128x4096 .bf16) (x2 : Vec F S1x2x4096x128 .bf16) (x3 : Vec F S1x2x128x512 .bf16) (x4 : Vec F S1x2x512x128 .bf16) : k0_pay150 x0 x1 x2 x3 x4 = maxes (qOf (View.ld x0 r0_37)) (ks1 x1 x3) 3 := by
  unfold k0_pay150; rw [pay148_eq, pay144_eq, maxes]; rfl
/-- This step of the printed body is a step of the tile fold. -/
theorem pay152_eq (x0 : Vec F S1024x256 .bf16) (x1 : Vec F S1x2x128x4096 .bf16) (x2 : Vec F S1x2x4096x128 .bf16) (x3 : Vec F S1x2x128x512 .bf16) (x4 : Vec F S1x2x512x128 .bf16) : k0_pay152 x0 x1 x2 x3 x4 = maxes (qOf (View.ld x0 r0_37)) (ks1 x1 x3) 4 := by
  unfold k0_pay152; rw [pay150_eq, pay144_eq, maxes]; rfl
/-- This step of the printed body is a step of the tile fold. -/
theorem pay154_eq (x0 : Vec F S1024x256 .bf16) (x1 : Vec F S1x2x128x4096 .bf16) (x2 : Vec F S1x2x4096x128 .bf16) (x3 : Vec F S1x2x128x512 .bf16) (x4 : Vec F S1x2x512x128 .bf16) : k0_pay154 x0 x1 x2 x3 x4 = maxes (qOf (View.ld x0 r0_37)) (ks1 x1 x3) 5 := by
  unfold k0_pay154; rw [pay152_eq, pay144_eq, maxes]; rfl
/-- This step of the printed body is a step of the tile fold. -/
theorem pay156_eq (x0 : Vec F S1024x256 .bf16) (x1 : Vec F S1x2x128x4096 .bf16) (x2 : Vec F S1x2x4096x128 .bf16) (x3 : Vec F S1x2x128x512 .bf16) (x4 : Vec F S1x2x512x128 .bf16) : k0_pay156 x0 x1 x2 x3 x4 = maxes (qOf (View.ld x0 r0_37)) (ks1 x1 x3) 6 := by
  unfold k0_pay156; rw [pay154_eq, pay144_eq, maxes]; rfl
/-- This step of the printed body is a step of the tile fold. -/
theorem pay158_eq (x0 : Vec F S1024x256 .bf16) (x1 : Vec F S1x2x128x4096 .bf16) (x2 : Vec F S1x2x4096x128 .bf16) (x3 : Vec F S1x2x128x512 .bf16) (x4 : Vec F S1x2x512x128 .bf16) : k0_pay158 x0 x1 x2 x3 x4 = maxes (qOf (View.ld x0 r0_37)) (ks1 x1 x3) 7 := by
  unfold k0_pay158; rw [pay156_eq, pay144_eq, maxes]; rfl

/-- The first pair of heads' store. -/
theorem piece0 (x0 : Vec F S1024x256 .bf16) (x1 : Vec F S1x2x128x4096 .bf16) (x2 : Vec F S1x2x4096x128 .bf16) (x3 : Vec F S1x2x128x512 .bf16) (x4 : Vec F S1x2x512x128 .bf16) :
    k0_pay64 (k0_pay128 x0 x1 x2 x3 x4) (k0_pay62 (k0_pay129 x0 x1 x2 x3 x4) (k0_pay60 (k0_pay129 x0 x1 x2 x3 x4) (k0_pay143 x0 x1 x2 x3 x4) (View.ld x1 r0_31)) (k0_pay61 (k0_pay129 x0 x1 x2 x3 x4) (k0_pay143 x0 x1 x2 x3 x4) (k0_pay54 (k0_pay129 x0 x1 x2 x3 x4) (k0_pay141 x0 x1 x2 x3 x4) (k0_pay46 (k0_pay129 x0 x1 x2 x3 x4) (k0_pay139 x0 x1 x2 x3 x4) (View.ld x1 r0_23)) (k0_pay47 (k0_pay129 x0 x1 x2 x3 x4) (k0_pay139 x0 x1 x2 x3 x4) (k0_pay39 (k0_pay129 x0 x1 x2 x3 x4) (k0_pay137 x0 x1 x2 x3 x4) (View.ld x1 r0_19)) (k0_pay40 (k0_pay129 x0 x1 x2 x3 x4) (k0_pay137 x0 x1 x2 x3 x4) (k0_pay32 (k0_pay129 x0 x1 x2 x3 x4) (k0_pay135 x0 x1 x2 x3 x4) (View.ld x1 r0_15)) (k0_pay33 (k0_pay129 x0 x1 x2 x3 x4) (k0_pay135 x0 x1 x2 x3 x4) (k0_pay25 (k0_pay129 x0 x1 x2 x3 x4) (k0_pay133 x0 x1 x2 x3 x4) (View.ld x1 r0_11)) (k0_pay26 (k0_pay129 x0 x1 x2 x3 x4) (k0_pay12 (k0_pay4 (F := F)) (k0_pay5 (F := F)) (k0_pay131 x0 x1 x2 x3 x4) (k0_pay11 (View.ld x0 r0_0) (View.ld x1 r0_3)) (View.ld x2 r0_4)) (k0_pay133 x0 x1 x2 x3 x4) (k0_pay18 (k0_pay129 x0 x1 x2 x3 x4) (k0_pay131 x0 x1 x2 x3 x4) (View.ld x1 r0_7)) (k0_pay19 (k0_pay129 x0 x1 x2 x3 x4) (k0_pay131 x0 x1 x2 x3 x4) (View.ld x1 r0_7)) (View.ld x2 r0_8) (View.ld x1 r0_11)) (View.ld x2 r0_12) (View.ld x1 r0_15)) (View.ld x2 r0_16) (View.ld x1 r0_19)) (View.ld x2 r0_20) (View.ld x1 r0_23)) (k0_pay48 (View.ld x2 r0_24)) (View.ld x1 r0_27)) (k0_pay55 (k0_pay129 x0 x1 x2 x3 x4) (k0_pay141 x0 x1 x2 x3 x4) (View.ld x1 r0_27) (View.ld x2 r0_28)) (View.ld x1 r0_31) (View.ld x2 r0_32)) (View.ld x3 r0_35) (View.ld x4 r0_36)) (k0_pay63 (k0_pay129 x0 x1 x2 x3 x4) (k0_pay57 (k0_pay129 x0 x1 x2 x3 x4) (k0_pay142 x0 x1 x2 x3 x4) (View.ld x1 r0_29)) (k0_pay58 (k0_pay129 x0 x1 x2 x3 x4) (k0_pay142 x0 x1 x2 x3 x4) (k0_pay51 (k0_pay129 x0 x1 x2 x3 x4) (k0_pay140 x0 x1 x2 x3 x4) (k0_pay43 (k0_pay129 x0 x1 x2 x3 x4) (k0_pay138 x0 x1 x2 x3 x4) (k0_pay36 (k0_pay129 x0 x1 x2 x3 x4) (k0_pay136 x0 x1 x2 x3 x4) (k0_pay29 (k0_pay129 x0 x1 x2 x3 x4) (k0_pay134 x0 x1 x2 x3 x4) (k0_pay22 (k0_pay129 x0 x1 x2 x3 x4) (k0_pay132 x0 x1 x2 x3 x4) (k0_pay15 (k0_pay129 x0 x1 x2 x3 x4) (k0_pay130 x0 x1 x2 x3 x4) (k0_pay8 (View.ld x0 r0_0) (View.ld x1 r0_1) (View.ld x2 r0_2)) (View.ld x1 r0_5) (View.ld x2 r0_6)) (View.ld x1 r0_9) (View.ld x2 r0_10)) (View.ld x1 r0_13) (View.ld x2 r0_14)) (View.ld x1 r0_17) (View.ld x2 r0_18)) (View.ld x1 r0_21) (View.ld x2 r0_22)) (View.ld x1 r0_25) (View.ld x2 r0_26)) (View.ld x1 r0_29) (View.ld x2 r0_30)) (View.ld x3 r0_33) (View.ld x4 r0_34))
      = quot (accs (qOf (View.ld x0 r0_0)) (ks0 x1 x3) (vs0 x2 x4) 9) (accs (qOf (View.ld x0 r0_0)) (ks1 x1 x3) (vs1 x2 x4) 9) := by
  simp only [pay129_eq, pay130_eq, pay131_eq, pay132_eq, pay133_eq, pay134_eq, pay135_eq, pay136_eq, pay137_eq, pay138_eq, pay139_eq, pay140_eq, pay141_eq, pay142_eq, pay143_eq]
  simp only [accs]
  rfl

/-- The second pair of heads' store. -/
theorem piece1 (x0 : Vec F S1024x256 .bf16) (x1 : Vec F S1x2x128x4096 .bf16) (x2 : Vec F S1x2x4096x128 .bf16) (x3 : Vec F S1x2x128x512 .bf16) (x4 : Vec F S1x2x512x128 .bf16) :
    k0_pay1 (k0_pay128 x0 x1 x2 x3 x4) (k0_pay125 (k0_pay144 x0 x1 x2 x3 x4) (k0_pay159 x0 x1 x2 x3 x4) (k0_pay160 x0 x1 x2 x3 x4) (View.ld x3 r0_33) (View.ld x4 r0_34)) (k0_pay126 (k0_pay144 x0 x1 x2 x3 x4) (k0_pay122 (k0_pay144 x0 x1 x2 x3 x4) (k0_pay158 x0 x1 x2 x3 x4) (View.ld x1 r0_31)) (k0_pay123 (k0_pay144 x0 x1 x2 x3 x4) (k0_pay158 x0 x1 x2 x3 x4) (k0_pay115 (k0_pay144 x0 x1 x2 x3 x4) (k0_pay156 x0 x1 x2 x3 x4) (View.ld x1 r0_27)) (k0_pay116 (k0_pay144 x0 x1 x2 x3 x4) (k0_pay156 x0 x1 x2 x3 x4) (k0_pay108 (k0_pay144 x0 x1 x2 x3 x4) (k0_pay154 x0 x1 x2 x3 x4) (View.ld x1 r0_23)) (k0_pay109 (k0_pay144 x0 x1 x2 x3 x4) (k0_pay154 x0 x1 x2 x3 x4) (k0_pay101 (k0_pay144 x0 x1 x2 x3 x4) (k0_pay152 x0 x1 x2 x3 x4) (View.ld x1 r0_19)) (k0_pay102 (k0_pay144 x0 x1 x2 x3 x4) (k0_pay152 x0 x1 x2 x3 x4) (k0_pay94 (k0_pay144 x0 x1 x2 x3 x4) (k0_pay150 x0 x1 x2 x3 x4) (View.ld x1 r0_15)) (k0_pay95 (k0_pay144 x0 x1 x2 x3 x4) (k0_pay81 (k0_pay146 x0 x1 x2 x3 x4) (k0_pay74 (k0_pay66 (F := F)) (k0_pay67 (F := F)) (k0_pay146 x0 x1 x2 x3 x4) (k0_pay73 (View.ld x0 r0_37) (View.ld x1 r0_3)) (View.ld x2 r0_4)) (k0_pay148 x0 x1 x2 x3 x4) (k0_pay80 (k0_pay144 x0 x1 x2 x3 x4) (k0_pay146 x0 x1 x2 x3 x4) (View.ld x1 r0_7)) (View.ld x2 r0_8)) (k0_pay150 x0 x1 x2 x3 x4) (k0_pay87 (k0_pay144 x0 x1 x2 x3 x4) (k0_pay148 x0 x1 x2 x3 x4) (View.ld x1 r0_11)) (k0_pay88 (k0_pay144 x0 x1 x2 x3 x4) (k0_pay148 x0 x1 x2 x3 x4) (View.ld x1 r0_11)) (View.ld x2 r0_12) (View.ld x1 r0_15)) (View.ld x2 r0_16) (View.ld x1 r0_19)) (View.ld x2 r0_20) (View.ld x1 r0_23)) (View.ld x2 r0_24) (View.ld x1 r0_27)) (k0_pay117 (View.ld x2 r0_28)) (View.ld x1 r0_31)) (k0_pay124 (k0_pay144 x0 x1 x2 x3 x4) (k0_pay158 x0 x1 x2 x3 x4) (View.ld x1 r0_31) (View.ld x2 r0_32)) (View.ld x3 r0_35) (View.ld x4 r0_36)) (k0_pay127 (k0_pay144 x0 x1 x2 x3 x4) (k0_pay159 x0 x1 x2 x3 x4) (k0_pay160 x0 x1 x2 x3 x4) (View.ld x3 r0_33) (View.ld x4 r0_34))
      = quot (accs (qOf (View.ld x0 r0_37)) (ks0 x1 x3) (vs0 x2 x4) 9) (accs (qOf (View.ld x0 r0_37)) (ks1 x1 x3) (vs1 x2 x4) 9) := by
  simp only [k0_pay160, pay144_eq, pay145_eq, pay147_eq, pay149_eq, pay151_eq, pay153_eq, pay155_eq, pay157_eq, pay159_eq, pay146_eq, pay148_eq, pay150_eq, pay152_eq, pay154_eq, pay156_eq, pay158_eq]
  simp only [accs]
  rfl

/-- What the body leaves in the result's block: the two pairs of heads side by side. -/
theorem out_eq (x0 : Vec F S1024x256 .bf16) (x1 : Vec F S1x2x128x4096 .bf16) (x2 : Vec F S1x2x4096x128 .bf16) (x3 : Vec F S1x2x128x512 .bf16) (x4 : Vec F S1x2x512x128 .bf16) :
    out0_5 x0 x1 x2 x3 x4 = View.canon [⟨r0_37, quot (accs (qOf (View.ld x0 r0_37)) (ks0 x1 x3) (vs0 x2 x4) 9) (accs (qOf (View.ld x0 r0_37)) (ks1 x1 x3) (vs1 x2 x4) 9)⟩,
      ⟨r0_0, quot (accs (qOf (View.ld x0 r0_0)) (ks0 x1 x3) (vs0 x2 x4) 9) (accs (qOf (View.ld x0 r0_0)) (ks1 x1 x3) (vs1 x2 x4) 9)⟩] := by
  rw [← piece0, ← piece1]; rfl

end Cert.AttnIdeal.Tile

end
-- ==== Proof.AttnMath.lean ====
/- The arithmetic of the online softmax over the extended reals: running maxima, rescaled running sums and the
   quotient they end in. Nothing here mentions a program. -/
module

public import Idealize.ShloMosaic.PureOps.Ideal.Laws

@[expose] public section

noncomputable section

namespace Cert.AttnMath

open Idealize.ShloMosaic Finset

/-- The running maximum of the first `n` scores (`⊥` of none). -/
def mx (s : ℕ → ℝ) (n : ℕ) : EReal := (range n).sup fun j => (s j : EReal)

/-- The running sum: the first `n` values, each weighted by two to its score's distance from the running maximum. -/
def ac (s : ℕ → ℝ) (v : ℕ → EReal) (n : ℕ) : EReal := ∑ j ∈ range n, Ideal.exp2 ((s j : EReal) - mx s n) * v j

/-- The maximum of nothing. -/
theorem mx_zero (s : ℕ → ℝ) : mx s 0 = ⊥ := by simp [mx]

/-- The weighted sum of nothing. -/
theorem ac_zero (s : ℕ → ℝ) (v : ℕ → EReal) : ac s v 0 = 0 := by simp [ac]

/-- A fold of `max` from `⊥` is the supremum. -/
theorem fold_max_eq_sup {ι : Type} (S : Finset ι) (f : ι → EReal) : S.fold max ⊥ f = S.sup f := rfl

/-- The running maximum of a nonempty prefix is one of its scores, a real number. -/
theorem mx_real (s : ℕ → ℝ) {n : ℕ} (h : 0 < n) : ∃ r : ℝ, mx s n = (r : EReal) := by
  obtain ⟨j, -, hj⟩ := Finset.exists_mem_eq_sup (range n) (by simpa using h.ne') fun j => (s j : EReal)
  exact ⟨s j, hj⟩

/-- Taking a further tile of `k` scores into the running maximum. -/
theorem mx_step (s : ℕ → ℝ) (n k : ℕ) :
    max (mx s n) ((univ : Finset (Fin k)).fold max ⊥ fun j => (s (n + j.val) : EReal)) = mx s (n + k) := by
  rw [fold_max_eq_sup]
  unfold mx
  apply le_antisymm
  · refine max_le (Finset.sup_mono fun j hj => ?_) (Finset.sup_le fun j _ => ?_)
    · simp only [mem_range] at hj ⊢; omega
    · exact Finset.le_sup (f := fun j => (s j : EReal)) (b := n + j.val) (by simp only [mem_range]; omega)
  · refine Finset.sup_le fun j hj => ?_
    simp only [mem_range] at hj
    by_cases h : j < n
    · exact le_max_of_le_left (Finset.le_sup (f := fun j => (s j : EReal)) (by simpa using h))
    · refine le_max_of_le_right ?_
      have := Finset.le_sup (s := (univ : Finset (Fin k))) (f := fun j => (s (n + j.val) : EReal)) (b := ⟨j - n, by omega⟩) (mem_univ _)
      simpa [show n + (j - n) = j by omega] using this

/-- Multiplication by a nonnegative real number distributes over a sum of extended reals. -/
theorem mul_sum_of_nonneg {ι : Type} (S : Finset ι) (f : ι → EReal) {c : ℝ} (hc : 0 ≤ c) :
    (c : EReal) * ∑ j ∈ S, f j = ∑ j ∈ S, (c : EReal) * f j := by
  classical
  induction S using Finset.induction_on with
  | empty => simp
  | insert a S ha ih =>
    rw [sum_insert ha, sum_insert ha, EReal.left_distrib_of_nonneg_of_ne_top (by exact_mod_cast hc) (EReal.coe_ne_top c), ih]

/-- A sum of real numbers, read as an extended real, is the sum of its terms read so. -/
theorem coe_sum {ι : Type} (S : Finset ι) (f : ι → ℝ) : ((∑ j ∈ S, f j : ℝ) : EReal) = ∑ j ∈ S, (f j : EReal) := by
  classical
  induction S using Finset.induction_on with
  | empty => simp
  | insert a S ha ih => rw [sum_insert ha, sum_insert ha, EReal.coe_add, ih]

/-- Rescaling the running sum to the new maximum and adding a tile's weighted values gives the new running sum. -/
theorem ac_step (s : ℕ → ℝ) (v : ℕ → EReal) (n k : ℕ) (hk : 0 < k) :
    Ideal.exp2 (mx s n - mx s (n + k)) * ac s v n
      + ∑ j : Fin k, Ideal.exp2 ((s (n + j.val) : EReal) - mx s (n + k)) * v (n + j.val) = ac s v (n + k) := by
  obtain ⟨r', hr'⟩ := mx_real s (n := n + k) (by omega)
  have hsum : ac s v (n + k) = ∑ j ∈ range n, Ideal.exp2 ((s j : EReal) - mx s (n + k)) * v j
      + ∑ j : Fin k, Ideal.exp2 ((s (n + j.val) : EReal) - mx s (n + k)) * v (n + j.val) := by
    unfold ac
    rw [sum_range_add, ← Fin.sum_univ_eq_sum_range (fun j => Ideal.exp2 ((s (n + j) : EReal) - mx s (n + k)) * v (n + j)) k]
  rw [hsum]
  congr 1
  rcases Nat.eq_zero_or_pos n with rfl | hn
  · simp [ac_zero]
  · obtain ⟨r, hr⟩ := mx_real s hn
    unfold ac
    rw [hr, hr', ← EReal.coe_sub, Ideal.exp2_coe, mul_sum_of_nonneg (range n) _ (c := Real.rpow 2 (r - r')) (Real.rpow_nonneg (by norm_num) _)]
    refine sum_congr rfl fun j _ => ?_
    rw [← mul_assoc, ← EReal.coe_sub, ← EReal.coe_sub, Ideal.exp2_coe, Ideal.exp2_coe, ← EReal.coe_mul]
    congr 2
    show (2 : ℝ) ^ (r - r') * (2 : ℝ) ^ (s j - r) = (2 : ℝ) ^ (s j - r')
    rw [← Real.rpow_add (by norm_num)]
    congr 1; ring

/-- The maximum of the scores in the natural unit is the maximum in the binary unit times `log 2`. -/
theorem exp2_sub_mx (t : ℕ → ℝ) {n : ℕ} (hn : 0 < n) (j : ℕ) :
    Ideal.exp2 (((t j / Real.log 2 : ℝ) : EReal) - mx (fun j => t j / Real.log 2) n) = Ideal.exp ((t j : EReal) - mx t n) := by
  have hl : 0 < Real.log 2 := Real.log_pos (by norm_num)
  obtain ⟨r, hr⟩ := mx_real t hn
  have h : mx (fun j => t j / Real.log 2) n = ((r / Real.log 2 : ℝ) : EReal) := by
    apply le_antisymm
    · refine Finset.sup_le fun i hi => ?_
      have : (t i : EReal) ≤ mx t n := Finset.le_sup (f := fun j => (t j : EReal)) hi
      rw [hr] at this
      have h' : t i ≤ r := by exact_mod_cast this
      exact_mod_cast div_le_div_of_nonneg_right h' hl.le
    · obtain ⟨i, hi, hir⟩ := Finset.exists_mem_eq_sup (range n) (by simpa using hn.ne') fun j => (t j : EReal)
      have : r = t i := by
        have : (r : EReal) = (t i : EReal) := hr.symm.trans hir
        exact_mod_cast this
      rw [this]
      exact Finset.le_sup (f := fun j => ((t j / Real.log 2 : ℝ) : EReal)) hi
  rw [h, hr, ← EReal.coe_sub, ← EReal.coe_sub, Ideal.exp2_coe, Ideal.exp_coe]
  congr 1
  show (2 : ℝ) ^ (t j / Real.log 2 - r / Real.log 2) = _
  rw [Real.rpow_def_of_pos (by norm_num), ← sub_div, mul_div_cancel₀ _ hl.ne']

/-- THE QUOTIENT: the final running sum of the values over the final running sum of ones is the softmax-weighted sum
    of the values. -/
theorem quotient (t : ℕ → ℝ) (v : ℕ → EReal) {n : ℕ} (hn : 0 < n) :
    Ideal.div (ac (fun j => t j / Real.log 2) v n) (ac (fun j => t j / Real.log 2) (fun _ => 1) n)
      = ∑ j : Fin n, v j.val * Ideal.div (Ideal.exp ((t j.val : EReal) - mx t n)) (∑ i : Fin n, Ideal.exp ((t i.val : EReal) - mx t n)) := by
  have h1 : ∀ w : ℕ → EReal, ac (fun j => t j / Real.log 2) w n = ∑ j ∈ range n, Ideal.exp ((t j : EReal) - mx t n) * w j :=
    fun w => sum_congr rfl fun j _ => by rw [exp2_sub_mx t hn]
  rw [h1, h1]
  simp only [mul_one]
  rw [Fin.sum_univ_eq_sum_range (fun i => Ideal.exp ((t i : EReal) - mx t n)) n,
    Fin.sum_univ_eq_sum_range (fun j => v j * Ideal.div (Ideal.exp ((t j : EReal) - mx t n)) (∑ i ∈ range n, Ideal.exp ((t i : EReal) - mx t n))) n]
  obtain ⟨r, hr⟩ := mx_real t hn
  have hL : ∑ i ∈ range n, Ideal.exp ((t i : EReal) - mx t n) = ((∑ i ∈ range n, Real.exp (t i - r) : ℝ) : EReal) := by
    rw [hr, coe_sum]
    exact sum_congr rfl fun i _ => by rw [← EReal.coe_sub, Ideal.exp_coe]
  have hpos : 0 < ∑ i ∈ range n, Real.exp (t i - r) := sum_pos (fun _ _ => Real.exp_pos _) (by simpa using hn.ne')
  rw [hL, Ideal.div_coe hpos.ne', mul_comm, mul_sum_of_nonneg _ _ (by positivity)]
  refine sum_congr rfl fun j _ => ?_
  rw [Ideal.div_coe hpos.ne', ← mul_assoc, mul_comm, mul_comm (Ideal.exp _)]

end Cert.AttnMath

end
-- ==== Proof.AttnRow.lean ====
/- One row of the attention body at the ideal instance: the running maximum and the running sum of a row after `n`
   tiles are the running maximum and the running sum of its scores. -/
module

public import proofs.«01_k».proof.Proof.AttnTile
public import proofs.«01_k».proof.Proof.AttnMath
public import Idealize.ShloMosaic.Lib.Pointwise
public import Idealize.ShloMosaic.Lib.Pointwise.Sums

@[expose] public section

set_option maxRecDepth 16384

noncomputable section

namespace Cert.AttnIdeal.Row

open Cert.AttnIdeal Cert.AttnIdeal.Gen Cert.AttnIdeal.Tile Idealize.ShloMosaic Idealize.SL.Sem

/-- The word of minus infinity. -/
theorem ofBits_neg_infinity : Ideal.ofBits .f32 0xFF800000#32 = ⊥ := by simp [Ideal.ofBits, Ideal.ieee]

/-- A lane's number compared with 64, as a bit. -/
theorem lane_lt : ∀ c : Fin 128, IntOp.cmpi .slt (BitVec.ofNat 32 c.val) 64#32 = BitVec.ofBool (decide (c.val < 64)) := by decide +kernel

/-- A score: the row's query against the key. -/
theorem score_apply (q : FVec Ideal S1024x128 .bf16) (k : Vec Ideal S1x1x128x512 .bf16) (r : Fin 1024) (j : Fin 512) :
    score (F := Ideal) q k (ix2 r j) = ∑ l : Fin 128, q (ix2 r l) * k (ix4 0 0 l j) := by
  pointwise [score]

/-- The running maximum after a tile, at a row. -/
theorem newMax_apply (q : FVec Ideal S1024x128 .bf16) (m : FVec Ideal S1024x1 .f32) (k : Vec Ideal S1x1x128x512 .bf16) (r : Fin 1024) :
    newMax (F := Ideal) q m k (ix2 r 0) = max (m (ix2 r 0)) ((Finset.univ : Finset (Fin 512)).fold max ⊥ fun j => score (F := Ideal) q k (ix2 r j)) := by
  unfold newMax
  generalize score (F := Ideal) q k = s
  pointwise
  rw [ofBits_neg_infinity]

/-- The running sum after a tile, at a row and a lane. -/
theorem newAcc_apply (q : FVec Ideal S1024x128 .bf16) (m : FVec Ideal S1024x1 .f32) (a : FVec Ideal S1024x128 .f32)
    (k : Vec Ideal S1x1x128x512 .bf16) (v : Vec Ideal S1x1x512x128 .bf16) (r : Fin 1024) (c : Fin 128) :
    newAcc (F := Ideal) q m a k v (ix2 r c)
      = Ideal.exp2 (m (ix2 r 0) - newMax (F := Ideal) q m k (ix2 r 0)) * a (ix2 r c)
        + ∑ j : Fin 512, Ideal.exp2 (score (F := Ideal) q k (ix2 r j) - newMax (F := Ideal) q m k (ix2 r 0)) * v (ix4 0 0 j c) := by
  unfold newAcc weight
  generalize newMax (F := Ideal) q m k = m'
  generalize score (F := Ideal) q k = s
  pointwise
  rfl

/-- The quotient, at a row and a lane. -/
theorem quot_apply (a b : FVec Ideal S1024x128 .f32) (r : Fin 1024) (c : Fin 128) :
    quot (F := Ideal) a b (ix2 r c) = if c.val < 64 then Ideal.div (a (ix2 r c)) (a (ix2 r 64)) else Ideal.div (b (ix2 r c)) (b (ix2 r 0)) := by
  pointwise [quot]
  rw [lane_lt]
  by_cases h : c.val < 64
  · simp [h, Scalar.select]
  · simp [h, Scalar.select]

section Tiles

variable (q : FVec Ideal S1024x128 .bf16) (ks : ℕ → Vec Ideal S1x1x128x512 .bf16) (vs : ℕ → Vec Ideal S1x1x512x128 .bf16)
  (s : ℕ → ℝ) (v : ℕ → EReal) (r : Fin 1024) (c : Fin 128) (N : ℕ)

/-- A row's running maximum after `n` tiles. -/
theorem maxes_apply (hs : ∀ n < N, ∀ j : Fin 512, score (F := Ideal) q (ks n) (ix2 r j) = (s (512 * n + j.val) : EReal)) :
    ∀ n ≤ N, maxes (F := Ideal) q ks n (ix2 r 0) = AttnMath.mx s (512 * n)
  | 0, _ => by
    rw [show 512 * 0 = 0 from rfl, AttnMath.mx_zero, maxes]
    exact ofBits_neg_infinity
  | n + 1, h => by
    rw [maxes, newMax_apply, maxes_apply hs n (by omega), show 512 * (n + 1) = 512 * n + 512 by ring, ← AttnMath.mx_step]
    simp only [hs n (by omega)]

/-- A row's running sum after `n` tiles, at a lane. -/
theorem accs_apply (hs : ∀ n < N, ∀ j : Fin 512, score (F := Ideal) q (ks n) (ix2 r j) = (s (512 * n + j.val) : EReal))
    (hv : ∀ n < N, ∀ j : Fin 512, vs n (ix4 0 0 j c) = v (512 * n + j.val)) :
    ∀ n ≤ N, accs (F := Ideal) q ks vs n (ix2 r c) = AttnMath.ac s v (512 * n)
  | 0, _ => by
    rw [show 512 * 0 = 0 from rfl, AttnMath.ac_zero, accs]
    exact Ideal.ofBits_zero_f32
  | n + 1, h => by
    have hm := maxes_apply q ks s r N hs (n + 1) h
    rw [maxes] at hm
    rw [accs, newAcc_apply, hm, maxes_apply q ks s r N hs n (by omega), accs_apply hs hv n (by omega), show 512 * (n + 1) = 512 * n + 512 by ring,
      ← AttnMath.ac_step s v (512 * n) 512 (by norm_num)]
    simp only [hs n (by omega), hv n (by omega)]

end Tiles

end Cert.AttnIdeal.Row

end
-- ==== Proof.AttnSpec.lean ====
/- The attention as mathematics: one row's logits, its softmax, and its values under the weights; and one row of the
   tiled body brought to it. -/
module

public import proofs.«01_k».proof.Proof.AttnRow

@[expose] public section

set_option maxRecDepth 16384

noncomputable section

namespace Cert.AttnIdeal.Spec

open Cert.AttnIdeal Cert.AttnIdeal.Tile Cert.AttnIdeal.Row Cert.AttnMath Idealize.ShloMosaic Idealize.SL.Sem

variable (q : FVec Ideal S2x4096x16x64 .f32) (k v : FVec Ideal S2x4096x4x64 .f32) (ck cv : FVec Ideal S2x512x4x64 .f32)

/-- Key (or value) `J` of the joined sequence: the tokens' first, then the context's. -/
def key (b : Fin 2) (J : ℕ) (g : Fin 4) (d : Fin 64) : EReal :=
  if h : J < 4096 then k (ix4 b ⟨J, h⟩ g d) else if h' : J < 4608 then ck (ix4 b ⟨J - 4096, by omega⟩ g d) else 0

/-- A row's logit at key `J`. -/
def logit (b : Fin 2) (T : Fin 4096) (n : Fin 16) (J : ℕ) : ℝ :=
  (∑ d : Fin 64, (key k ck b J ⟨n.val / 4, by omega⟩ d).toReal * (q (ix4 b T n d)).toReal) * (1 / 8)

/-- The attention's result at a token, a head and a lane. -/
def out (b : Fin 2) (T : Fin 4096) (n : Fin 16) (d : Fin 64) : EReal :=
  ∑ J : Fin 4608, key v cv b J.val ⟨n.val / 4, by omega⟩ d *
    Ideal.div (Ideal.exp (((logit q k ck b T n J.val : ℝ) : EReal) - mx (logit q k ck b T n) 4608))
      (∑ I : Fin 4608, Ideal.exp (((logit q k ck b T n I.val : ℝ) : EReal) - mx (logit q k ck b T n) 4608))

/-- The scale of the scores: one eighth over the logarithm of two. -/
theorem scale_eq : Ideal.div (Ideal.ofBits .f32 0x3E000000#32) (Ideal.log (Ideal.ofBits .f32 0x40000000#32)) = ((1 / 8 / Real.log 2 : ℝ) : EReal) := by
  have h1 : Ideal.ofBits .f32 0x3E000000#32 = ((1 / 8 : ℝ) : EReal) := by simp [Ideal.ofBits, Ideal.ieee]; rw [← EReal.coe_mul]; norm_num
  have h2 : Ideal.ofBits .f32 0x40000000#32 = ((2 : ℝ) : EReal) := by simp [Ideal.ofBits, Ideal.ieee]; rw [← EReal.coe_mul]; norm_num
  have h3 : Real.log 2 ≠ 0 := (Real.log_pos (by norm_num)).ne'
  rw [h1, h2, Ideal.log_coe, if_neg (by norm_num), Ideal.div_coe h3, ← EReal.coe_mul]
  congr 1
  field_simp

/-- One eighth as a word. -/
theorem eighth_eq : Ideal.ofBits .f32 0x3E000000#32 = ((1 / 8 : ℝ) : EReal) := by simp [Ideal.ofBits, Ideal.ieee]; rw [← EReal.coe_mul]; norm_num

/-- A sum over 128 lanes as two sums over 64. -/
theorem sum_lanes (f : Fin 128 → EReal) : ∑ l, f l = (∑ d : Fin 64, f ⟨d.val, by omega⟩) + ∑ d : Fin 64, f ⟨64 + d.val, by omega⟩ := by
  exact Fin.sum_univ_add (a := 64) (b := 64) f

variable (hq : ∀ i, q i = ((q i).toReal : EReal)) (hk : ∀ i, k i = ((k i).toReal : EReal)) (hck : ∀ i, ck i = ((ck i).toReal : EReal))

include hk hck in
/-- A key lane is a real. -/
theorem key_real (b : Fin 2) (J : ℕ) (g : Fin 4) (d : Fin 64) : key k ck b J g d = ((key k ck b J g d).toReal : EReal) := by
  unfold key
  split
  · exact hk _
  · split
    · exact hck _
    · simp

include hq hk hck in
/-- The scaled score is the logit over the logarithm of two. -/
theorem score_eq (b : Fin 2) (T : Fin 4096) (n : Fin 16) (J : ℕ) (g : Fin 4) (hg : g.val = n.val / 4) :
    ∑ d : Fin 64, q (ix4 b T n d) * ((1 / 8 / Real.log 2 : ℝ) : EReal) * key k ck b J g d = ((logit q k ck b T n J / Real.log 2 : ℝ) : EReal) := by
  have e : ∀ d : Fin 64, q (ix4 b T n d) * ((1 / 8 / Real.log 2 : ℝ) : EReal) * key k ck b J g d
      = (((q (ix4 b T n d)).toReal * (1 / 8 / Real.log 2) * (key k ck b J g d).toReal : ℝ) : EReal) := fun d => by
    rw [hq, key_real k ck hk hck, ← EReal.coe_mul, ← EReal.coe_mul]; simp
  rw [Finset.sum_congr rfl fun d _ => e d, ← coe_sum]
  congr 1
  unfold logit
  rw [show (⟨n.val / 4, by omega⟩ : Fin 4) = g from Fin.ext hg.symm, Finset.sum_mul, Finset.sum_div]
  exact Finset.sum_congr rfl fun d _ => by ring

include hq hk hck in
/-- The reference's score is the logit. -/
theorem logit_eq (b : Fin 2) (T : Fin 4096) (n : Fin 16) (J : ℕ) (g : Fin 4) (hg : g.val = n.val / 4) :
    (∑ d : Fin 64, key k ck b J g d * q (ix4 b T n d)) * ((1 / 8 : ℝ) : EReal) = ((logit q k ck b T n J : ℝ) : EReal) := by
  have e : ∀ d : Fin 64, key k ck b J g d * q (ix4 b T n d) = (((key k ck b J g d).toReal * (q (ix4 b T n d)).toReal : ℝ) : EReal) := fun d => by
    rw [hq, key_real k ck hk hck, ← EReal.coe_mul]; simp
  rw [Finset.sum_congr rfl fun d _ => e d, ← coe_sum, ← EReal.coe_mul]
  unfold logit
  rw [show (⟨n.val / 4, by omega⟩ : Fin 4) = g from Fin.ext hg.symm]

include hq hk hck in
/-- One lane of the tiled body's result is the attention's result. -/
theorem body_apply (Q : FVec Ideal S1024x128 .bf16) (k0 k1 : ℕ → Vec Ideal S1x1x128x512 .bf16) (v0 v1 : ℕ → Vec Ideal S1x1x512x128 .bf16)
    (b : Fin 2) (T : Fin 4096) (g : Fin 4) (p : Fin 2) (r : Fin 1024)
    (hQ : ∀ l : Fin 128, Q (ix2 r l) = q (ix4 b T ⟨4 * g.val + 2 * p.val + l.val / 64, by omega⟩ ⟨l.val % 64, by omega⟩) * ((1 / 8 / Real.log 2 : ℝ) : EReal))
    (hk0 : ∀ n < 9, ∀ (j : Fin 512) (l : Fin 128), k0 n (ix4 0 0 l j) = if h : l.val < 64 then key k ck b (512 * n + j.val) g ⟨l.val, h⟩ else 0)
    (hk1 : ∀ n < 9, ∀ (j : Fin 512) (l : Fin 128), k1 n (ix4 0 0 l j) = if h : l.val < 64 then 0 else key k ck b (512 * n + j.val) g ⟨l.val - 64, by omega⟩)
    (hv0 : ∀ n < 9, ∀ (j : Fin 512) (l : Fin 128) (h : l.val < 64), v0 n (ix4 0 0 j l) = key v cv b (512 * n + j.val) g ⟨l.val, h⟩)
    (ho0 : ∀ n < 9, ∀ j : Fin 512, v0 n (ix4 0 0 j 64) = 1)
    (hv1 : ∀ n < 9, ∀ (j : Fin 512) (l : Fin 128) (h : ¬ l.val < 64), v1 n (ix4 0 0 j l) = key v cv b (512 * n + j.val) g ⟨l.val - 64, by omega⟩)
    (ho1 : ∀ n < 9, ∀ j : Fin 512, v1 n (ix4 0 0 j 0) = 1) (c : Fin 128) :
    quot (F := Ideal) (accs Q k0 v0 9) (accs Q k1 v1 9) (ix2 r c)
      = out q k v ck cv b T ⟨4 * g.val + 2 * p.val + c.val / 64, by omega⟩ ⟨c.val % 64, by omega⟩ := by
  rw [quot_apply]
  split
  case isTrue hc =>
    have hs : ∀ n < 9, ∀ j : Fin 512, score (F := Ideal) Q (k0 n) (ix2 r j)
        = ((logit q k ck b T ⟨4 * g.val + 2 * p.val + c.val / 64, by omega⟩ (512 * n + j.val) / Real.log 2 : ℝ) : EReal) := fun n hn j => by
      rw [score_apply, sum_lanes, ← score_eq q k ck hq hk hck b T _ _ g (by dsimp only; omega)]
      have z : ∑ d : Fin 64, Q (ix2 r ⟨64 + d.val, by omega⟩) * k0 n (ix4 0 0 ⟨64 + d.val, by omega⟩ j) = 0 :=
        Finset.sum_eq_zero fun d _ => by rw [hk0 n hn, dif_neg (by dsimp only; omega), mul_zero]
      rw [z, add_zero]
      refine Finset.sum_congr rfl fun d _ => ?_
      rw [hQ, hk0 n hn, dif_pos (by dsimp only; omega)]
      congr 3
      congr 1 <;> exact Fin.ext (by dsimp only; omega)
    rw [accs_apply Q k0 v0 (fun J => logit q k ck b T ⟨4 * g.val + 2 * p.val + c.val / 64, by omega⟩ J / Real.log 2) (fun J => key v cv b J g ⟨c.val, hc⟩) r c 9 hs (fun n hn j => hv0 n hn j c hc) 9 le_rfl,
      accs_apply Q k0 v0 (fun J => logit q k ck b T ⟨4 * g.val + 2 * p.val + c.val / 64, by omega⟩ J / Real.log 2) (fun _ => 1) r 64 9 hs (fun n hn j => ho0 n hn j) 9 le_rfl, quotient _ _ (by norm_num)]
    unfold out
    refine Finset.sum_congr rfl fun J _ => ?_
    congr 2 <;> exact Fin.ext (by dsimp only; omega)
  case isFalse hc =>
    have hs : ∀ n < 9, ∀ j : Fin 512, score (F := Ideal) Q (k1 n) (ix2 r j)
        = ((logit q k ck b T ⟨4 * g.val + 2 * p.val + c.val / 64, by omega⟩ (512 * n + j.val) / Real.log 2 : ℝ) : EReal) := fun n hn j => by
      rw [score_apply, sum_lanes, ← score_eq q k ck hq hk hck b T _ _ g (by dsimp only; omega)]
      have z : ∑ d : Fin 64, Q (ix2 r ⟨d.val, by omega⟩) * k1 n (ix4 0 0 ⟨d.val, by omega⟩ j) = 0 :=
        Finset.sum_eq_zero fun d _ => by rw [hk1 n hn, dif_pos (by dsimp only; omega), mul_zero]
      rw [z, zero_add]
      refine Finset.sum_congr rfl fun d _ => ?_
      rw [hQ, hk1 n hn, dif_neg (by dsimp only; omega)]
      congr 3
      all_goals first | exact Nat.add_sub_cancel_left _ _ | exact Fin.ext (by dsimp only; omega) | (congr 1 <;> first | exact Nat.add_sub_cancel_left _ _ | exact Fin.ext (by dsimp only; omega))
    rw [accs_apply Q k1 v1 (fun J => logit q k ck b T ⟨4 * g.val + 2 * p.val + c.val / 64, by omega⟩ J / Real.log 2) (fun J => key v cv b J g ⟨c.val - 64, by omega⟩) r c 9 hs (fun n hn j => hv1 n hn j c hc) 9 le_rfl,
      accs_apply Q k1 v1 (fun J => logit q k ck b T ⟨4 * g.val + 2 * p.val + c.val / 64, by omega⟩ J / Real.log 2) (fun _ => 1) r 0 9 hs (fun n hn j => ho1 n hn j) 9 le_rfl, quotient _ _ (by norm_num)]
    unfold out
    refine Finset.sum_congr rfl fun J _ => ?_
    congr 2 <;> exact Fin.ext (by dsimp only; omega)

end Cert.AttnIdeal.Spec
-- ==== Proof.AttnHost.lean ====
/- What the host operations before the call leave in its operands: the scaled queries, and the keys and values laid
   out per pair of heads. -/
module

public import proofs.«01_k».proof.Proof.Gen.AttnIdeal.Frame
public import Idealize.ShloMosaic.Lib.Claim
public import Idealize.ShloMosaic.Lib.Pointwise
public import Idealize.ShloMosaic.Lib.Pointwise.Sums

@[expose] public section

set_option maxRecDepth 16384

noncomputable section

namespace Cert.AttnIdeal.HostRead

open Cert.AttnIdeal Cert.AttnIdeal.Gen Idealize.ShloMosaic Idealize.ShloMosaic.TcCoe Idealize.SL.Sem

variable {F : FTy → Type} [FloatOps F]

/-- The queries as the call takes them: one row a token, scaled. -/
def qLay (q : FVec F S2x4096x16x64 .f32) : FVec F S8192x1024 .bf16 :=
  truncf .bf16 (mulf (shapeCast S8192x1024 q shapeCasts_S2x4096x16x64_S8192x1024)
    (broadcastInDim S8192x1024 ![] bcast_S_S8192x1024 (Host.divf (constant S_ .f32 0x3E000000#32) (Host.log (constant S_ .f32 0x40000000#32))))) bitsLt_bf16_f32

/-- The keys as the call takes them: the key lanes below for one head of a pair, above for the other, zeros beside. -/
def kLay (k : FVec F S2x4096x4x64 .f32) : FVec F S4x2x128x8192 .bf16 :=
  let t := transpose S4x64x8192 [1, 2, 0] (shapeCast S8192x4x64 k shapeCasts_S2x4096x4x64_S8192x4x64) transposes_S8192x4x64_S4x64x8192_1_2_0
  let z := broadcastInDim S4x64x8192 ![] bcast_S_S4x64x8192 (constant S_ .f32 0x00000000#32)
  truncf .bf16 (concatenate S4x2x128x8192 1
    [⟨S4x1x128x8192, broadcastInDim S4x1x128x8192 ![0, 2, 3] bcast_S4x128x8192_S4x1x128x8192_0_2_3 (concatenate S4x128x8192 1 [⟨S4x64x8192, t⟩, ⟨S4x64x8192, z⟩] concatenates_S4x64x8192_S4x64x8192_S4x128x8192_d1)⟩,
     ⟨S4x1x128x8192, broadcastInDim S4x1x128x8192 ![0, 2, 3] bcast_S4x128x8192_S4x1x128x8192_0_2_3 (concatenate S4x128x8192 1 [⟨S4x64x8192, z⟩, ⟨S4x64x8192, t⟩] concatenates_S4x64x8192_S4x64x8192_S4x128x8192_d1)⟩]
    concatenates_S4x1x128x8192_S4x1x128x8192_S4x2x128x8192_d1) bitsLt_bf16_f32

/-- The values as the call takes them: the value lanes below for one head of a pair, above for the other, and a one in
    the first lane beside. -/
def vLay (v : FVec F S2x4096x4x64 .f32) : FVec F S4x2x8192x128 .bf16 :=
  let t := transpose S4x8192x64 [1, 0, 2] (shapeCast S8192x4x64 v shapeCasts_S2x4096x4x64_S8192x4x64) transposes_S8192x4x64_S4x8192x64_1_0_2
  let e := concatenate S4x8192x64 2 [⟨S4x8192x1, broadcastInDim S4x8192x1 ![] bcast_S_S4x8192x1 (constant S_ .f32 0x3F800000#32)⟩, ⟨S4x8192x63, broadcastInDim S4x8192x63 ![] bcast_S_S4x8192x63 (constant S_ .f32 0x00000000#32)⟩] concatenates_S4x8192x1_S4x8192x63_S4x8192x64_d2
  truncf .bf16 (concatenate S4x2x8192x128 1
    [⟨S4x1x8192x128, broadcastInDim S4x1x8192x128 ![0, 2, 3] bcast_S4x8192x128_S4x1x8192x128_0_2_3 (concatenate S4x8192x128 2 [⟨S4x8192x64, t⟩, ⟨S4x8192x64, e⟩] concatenates_S4x8192x64_S4x8192x64_S4x8192x128_d2)⟩,
     ⟨S4x1x8192x128, broadcastInDim S4x1x8192x128 ![0, 2, 3] bcast_S4x8192x128_S4x1x8192x128_0_2_3 (concatenate S4x8192x128 2 [⟨S4x8192x64, e⟩, ⟨S4x8192x64, t⟩] concatenates_S4x8192x64_S4x8192x64_S4x8192x128_d2)⟩]
    concatenates_S4x1x8192x128_S4x1x8192x128_S4x2x8192x128_d1) bitsLt_bf16_f32

/-- The context's keys, as `kLay`. -/
def ckLay (k : FVec F S2x512x4x64 .f32) : FVec F S4x2x128x1024 .bf16 :=
  let t := transpose S4x64x1024 [1, 2, 0] (shapeCast S1024x4x64 k shapeCasts_S2x512x4x64_S1024x4x64) transposes_S1024x4x64_S4x64x1024_1_2_0
  let z := broadcastInDim S4x64x1024 ![] bcast_S_S4x64x1024 (constant S_ .f32 0x00000000#32)
  truncf .bf16 (concatenate S4x2x128x1024 1
    [⟨S4x1x128x1024, broadcastInDim S4x1x128x1024 ![0, 2, 3] bcast_S4x128x1024_S4x1x128x1024_0_2_3 (concatenate S4x128x1024 1 [⟨S4x64x1024, t⟩, ⟨S4x64x1024, z⟩] concatenates_S4x64x1024_S4x64x1024_S4x128x1024_d1)⟩,
     ⟨S4x1x128x1024, broadcastInDim S4x1x128x1024 ![0, 2, 3] bcast_S4x128x1024_S4x1x128x1024_0_2_3 (concatenate S4x128x1024 1 [⟨S4x64x1024, z⟩, ⟨S4x64x1024, t⟩] concatenates_S4x64x1024_S4x64x1024_S4x128x1024_d1)⟩]
    concatenates_S4x1x128x1024_S4x1x128x1024_S4x2x128x1024_d1) bitsLt_bf16_f32

/-- The context's values, as `vLay`. -/
def cvLay (v : FVec F S2x512x4x64 .f32) : FVec F S4x2x1024x128 .bf16 :=
  let t := transpose S4x1024x64 [1, 0, 2] (shapeCast S1024x4x64 v shapeCasts_S2x512x4x64_S1024x4x64) transposes_S1024x4x64_S4x1024x64_1_0_2
  let e := concatenate S4x1024x64 2 [⟨S4x1024x1, broadcastInDim S4x1024x1 ![] bcast_S_S4x1024x1 (constant S_ .f32 0x3F800000#32)⟩, ⟨S4x1024x63, broadcastInDim S4x1024x63 ![] bcast_S_S4x1024x63 (constant S_ .f32 0x00000000#32)⟩] concatenates_S4x1024x1_S4x1024x63_S4x1024x64_d2
  truncf .bf16 (concatenate S4x2x1024x128 1
    [⟨S4x1x1024x128, broadcastInDim S4x1x1024x128 ![0, 2, 3] bcast_S4x1024x128_S4x1x1024x128_0_2_3 (concatenate S4x1024x128 2 [⟨S4x1024x64, t⟩, ⟨S4x1024x64, e⟩] concatenates_S4x1024x64_S4x1024x64_S4x1024x128_d2)⟩,
     ⟨S4x1x1024x128, broadcastInDim S4x1x1024x128 ![0, 2, 3] bcast_S4x1024x128_S4x1x1024x128_0_2_3 (concatenate S4x1024x128 2 [⟨S4x1024x64, e⟩, ⟨S4x1024x64, t⟩] concatenates_S4x1024x64_S4x1024x64_S4x1024x128_d2)⟩]
    concatenates_S4x1x1024x128_S4x1x1024x128_S4x2x1024x128_d1) bitsLt_bf16_f32

variable (m : (ℓ : Loc nD τ sig) → Buf (Elt F) ℓ) (c : Dev nD)

/-- The call's queries are the scaled rows of the argument. -/
theorem V_q : V m c main_v5 = qLay (m ((c : Thread nD τ).loc main_arg0)) := by
  entry_read; rfl
/-- The call's keys. -/
theorem V_k : V m c main_v14 = kLay (m ((c : Thread nD τ).loc main_arg1)) := by
  entry_read; rfl
/-- The call's values. -/
theorem V_v : V m c main_v25 = vLay (m ((c : Thread nD τ).loc main_arg2)) := by
  entry_read; rfl
/-- The call's context keys. -/
theorem V_ck : V m c main_v34 = ckLay (m ((c : Thread nD τ).loc main_arg3)) := by
  entry_read; rfl
/-- The call's context values. -/
theorem V_cv : V m c main_v45 = cvLay (m ((c : Thread nD τ).loc main_arg4)) := by
  entry_read; rfl

end Cert.AttnIdeal.HostRead
-- ==== Proof.AttnBlocks.lean ====
/- The blocks of the operands at a grid point. -/
module

public import proofs.«01_k».proof.Proof.AttnHost
public import proofs.«01_k».proof.Proof.AttnTile
public import proofs.«01_k».proof.Proof.Gen.AttnIdeal.Value
public import Idealize.ShloMosaic.Lib.Pointwise
public import Idealize.ShloMosaic.Lib.Pointwise.Sums
public import Idealize.ShloMosaic.Lib.Pipeline.ValueKit

@[expose] public section

set_option maxRecDepth 16384

noncomputable section

namespace Cert.AttnIdeal.Blocks

open Cert.AttnIdeal Cert.AttnIdeal.Gen Cert.AttnIdeal.HostRead Cert.AttnIdeal.Tile Idealize.ShloMosaic Idealize.ShloMosaic.TcCoe Idealize.SL.Sem

variable (m : (ℓ : Loc nD τ sig) → Buf (Elt Ideal) ℓ) (c : Dev nD)

/-- Window 0's block at a grid point. -/
theorem idx0 : ∀ t : Fin cfg0.N, win0_0.index t = ![4 * (t.val / 16) + t.val % 4, t.val / 4 % 4] :=
  (by decide +kernel : ∀ t : Fin grid0.N, _)
/-- Window 1's block at a grid point. -/
theorem idx1 : ∀ t : Fin cfg0.N, win0_1.index t = ![t.val / 4 % 4, 0, 0, t.val / 16] :=
  (by decide +kernel : ∀ t : Fin grid0.N, _)
/-- Window 2's block at a grid point. -/
theorem idx2 : ∀ t : Fin cfg0.N, win0_2.index t = ![t.val / 4 % 4, 0, t.val / 16, 0] :=
  (by decide +kernel : ∀ t : Fin grid0.N, _)
/-- Window 3's block at a grid point. -/
theorem idx3 : ∀ t : Fin cfg0.N, win0_3.index t = ![t.val / 4 % 4, 0, 0, t.val / 16] :=
  (by decide +kernel : ∀ t : Fin grid0.N, _)
/-- Window 4's block at a grid point. -/
theorem idx4 : ∀ t : Fin cfg0.N, win0_4.index t = ![t.val / 4 % 4, 0, t.val / 16, 0] :=
  (by decide +kernel : ∀ t : Fin grid0.N, _)
/-- Window 5's block at a grid point. -/
theorem idx5 : ∀ t : Fin cfg0.N, win0_5.index t = ![4 * (t.val / 16) + t.val % 4, t.val / 4 % 4] :=
  (by decide +kernel : ∀ t : Fin grid0.N, _)

/-- There are 32 grid points. -/
theorem t_lt (t : Fin cfg0.N) : t.val < 32 := t.isLt

/-- A query of the block. -/
theorem iblk0 (t : Fin cfg0.N) (r : Fin 1024) (l : Fin 256) :
    iblk m c 0 t (ix2 r l) = V m c main_v5 (ix2 ⟨1024 * (4 * (t.val / 16) + t.val % 4) + r.val, by have := t_lt t; omega⟩ ⟨256 * (t.val / 4 % 4) + l.val, by omega⟩) := by
  blk_ext [iblk, idx0]

/-- A key of the block. -/
theorem iblk1 (t : Fin cfg0.N) (h : Fin 2) (l : Fin 128) (j : Fin 4096) :
    iblk m c 1 t (ix4 0 h l j) = V m c main_v14 (ix4 ⟨t.val / 4 % 4, by omega⟩ h l ⟨4096 * (t.val / 16) + j.val, by have := t_lt t; omega⟩) := by
  blk_ext [iblk, idx1]

/-- A value of the block. -/
theorem iblk2 (t : Fin cfg0.N) (h : Fin 2) (l : Fin 128) (j : Fin 4096) :
    iblk m c 2 t (ix4 0 h j l) = V m c main_v25 (ix4 ⟨t.val / 4 % 4, by omega⟩ h ⟨4096 * (t.val / 16) + j.val, by have := t_lt t; omega⟩ l) := by
  blk_ext [iblk, idx2]

/-- A context key of the block. -/
theorem iblk3 (t : Fin cfg0.N) (h : Fin 2) (l : Fin 128) (j : Fin 512) :
    iblk m c 3 t (ix4 0 h l j) = V m c main_v34 (ix4 ⟨t.val / 4 % 4, by omega⟩ h l ⟨512 * (t.val / 16) + j.val, by have := t_lt t; omega⟩) := by
  blk_ext [iblk, idx3]

/-- A context value of the block. -/
theorem iblk4 (t : Fin cfg0.N) (h : Fin 2) (l : Fin 128) (j : Fin 512) :
    iblk m c 4 t (ix4 0 h j l) = V m c main_v45 (ix4 ⟨t.val / 4 % 4, by omega⟩ h ⟨512 * (t.val / 16) + j.val, by have := t_lt t; omega⟩ l) := by
  blk_ext [iblk, idx4]

/-- The first pair's query lanes. -/
theorem ld_q0 (x : Vec Ideal S1024x256 .bf16) (r : Fin 1024) (l : Fin 128) : qOf (F := Ideal) (View.ld x r0_0) (ix2 r l) = x (ix2 r ⟨l.val, by omega⟩) := by
  pointwise [qOf]

/-- The second pair's query lanes. -/
theorem ld_q1 (x : Vec Ideal S1024x256 .bf16) (r : Fin 1024) (l : Fin 128) : qOf (F := Ideal) (View.ld x r0_37) (ix2 r l) = x (ix2 r ⟨128 + l.val, by omega⟩) := by
  pointwise [qOf]

/-- A key of tile `n`, for head 0 of a pair. -/
theorem ks0_apply (x : Vec Ideal S1x2x128x4096 .bf16) (y : Vec Ideal S1x2x128x512 .bf16) (n : ℕ) (hn : n < 9) (l : Fin 128) (j : Fin 512) :
    ks0 (F := Ideal) x y n (ix4 0 0 l j) = if h : n < 8 then x (ix4 0 0 l ⟨512 * n + j.val, by omega⟩) else y (ix4 0 0 l j) := by
  interval_cases n <;> pointwise [ks0]

/-- A value of tile `n`, for head 0 of a pair. -/
theorem vs0_apply (x : Vec Ideal S1x2x4096x128 .bf16) (y : Vec Ideal S1x2x512x128 .bf16) (n : ℕ) (hn : n < 9) (l : Fin 128) (j : Fin 512) :
    vs0 (F := Ideal) x y n (ix4 0 0 j l) = if h : n < 8 then x (ix4 0 0 ⟨512 * n + j.val, by omega⟩ l) else y (ix4 0 0 j l) := by
  interval_cases n <;> pointwise [vs0]

/-- A key of tile `n`, for head 1 of a pair. -/
theorem ks1_apply (x : Vec Ideal S1x2x128x4096 .bf16) (y : Vec Ideal S1x2x128x512 .bf16) (n : ℕ) (hn : n < 9) (l : Fin 128) (j : Fin 512) :
    ks1 (F := Ideal) x y n (ix4 0 0 l j) = if h : n < 8 then x (ix4 0 1 l ⟨512 * n + j.val, by omega⟩) else y (ix4 0 1 l j) := by
  interval_cases n <;> pointwise [ks1]

/-- A value of tile `n`, for head 1 of a pair. -/
theorem vs1_apply (x : Vec Ideal S1x2x4096x128 .bf16) (y : Vec Ideal S1x2x512x128 .bf16) (n : ℕ) (hn : n < 9) (l : Fin 128) (j : Fin 512) :
    vs1 (F := Ideal) x y n (ix4 0 0 j l) = if h : n < 8 then x (ix4 0 1 ⟨512 * n + j.val, by omega⟩ l) else y (ix4 0 1 j l) := by
  interval_cases n <;> pointwise [vs1]

end Cert.AttnIdeal.Blocks
-- ==== Proof.AttnLay.lean ====
/- The laid out operands of the call, entry by entry, at the ideal instance. -/
module

public import proofs.«01_k».proof.Proof.AttnHost
public import Idealize.ShloMosaic.Lib.Pointwise
public import Idealize.ShloMosaic.Lib.Pointwise.Sums

@[expose] public section

set_option maxRecDepth 16384

noncomputable section

namespace Cert.AttnIdeal.HostRead

open Cert.AttnIdeal Cert.AttnIdeal.Gen Idealize.ShloMosaic Idealize.SL.Sem

/-- A scaled query. -/
theorem qLay_apply (q : FVec Ideal S2x4096x16x64 .f32) (R : Fin 8192) (C : Fin 1024) :
    qLay (F := Ideal) q (ix2 R C) = q (ix4 ⟨R.val / 4096, by omega⟩ ⟨R.val % 4096, by omega⟩ ⟨C.val / 64, by omega⟩ ⟨C.val % 64, by omega⟩) * Ideal.div (Ideal.ofBits .f32 0x3E000000#32) (Ideal.log (Ideal.ofBits .f32 0x40000000#32)) := by
  pointwise [qLay]

/-- A key lane, for the first head of a pair. -/
theorem kLay_zero (k : FVec Ideal S2x4096x4x64 .f32) (g : Fin 4) (l : Fin 128) (T : Fin 8192) :
    kLay (F := Ideal) k (ix4 g 0 l T) = if h : l.val < 64 then k (ix4 ⟨T.val / 4096, by omega⟩ ⟨T.val % 4096, by omega⟩ g ⟨l.val, h⟩) else 0 := by
  pointwise [kLay]

/-- A key lane, for the second head of a pair. -/
theorem kLay_one (k : FVec Ideal S2x4096x4x64 .f32) (g : Fin 4) (l : Fin 128) (T : Fin 8192) :
    kLay (F := Ideal) k (ix4 g 1 l T) = if h : l.val < 64 then 0 else k (ix4 ⟨T.val / 4096, by omega⟩ ⟨T.val % 4096, by omega⟩ g ⟨l.val - 64, by omega⟩) := by
  pointwise [kLay]

/-- A key lane of the context, for the first head of a pair. -/
theorem ckLay_zero (k : FVec Ideal S2x512x4x64 .f32) (g : Fin 4) (l : Fin 128) (T : Fin 1024) :
    ckLay (F := Ideal) k (ix4 g 0 l T) = if h : l.val < 64 then k (ix4 ⟨T.val / 512, by omega⟩ ⟨T.val % 512, by omega⟩ g ⟨l.val, h⟩) else 0 := by
  pointwise [ckLay]

/-- A key lane of the context, for the second head of a pair. -/
theorem ckLay_one (k : FVec Ideal S2x512x4x64 .f32) (g : Fin 4) (l : Fin 128) (T : Fin 1024) :
    ckLay (F := Ideal) k (ix4 g 1 l T) = if h : l.val < 64 then 0 else k (ix4 ⟨T.val / 512, by omega⟩ ⟨T.val % 512, by omega⟩ g ⟨l.val - 64, by omega⟩) := by
  pointwise [ckLay]

/-- A value lane, for the first head of a pair. -/
theorem vLay_zero (v : FVec Ideal S2x4096x4x64 .f32) (g : Fin 4) (l : Fin 128) (T : Fin 8192) (hl : l.val < 64) :
    vLay (F := Ideal) v (ix4 g 0 T l) = v (ix4 ⟨T.val / 4096, by omega⟩ ⟨T.val % 4096, by omega⟩ g ⟨l.val, hl⟩) := by
  pointwise [vLay]
  rw [dif_pos hl]

/-- A value lane, for the second head of a pair. -/
theorem vLay_one (v : FVec Ideal S2x4096x4x64 .f32) (g : Fin 4) (l : Fin 128) (T : Fin 8192) (hl : ¬ l.val < 64) :
    vLay (F := Ideal) v (ix4 g 1 T l) = v (ix4 ⟨T.val / 4096, by omega⟩ ⟨T.val % 4096, by omega⟩ g ⟨l.val - 64, by omega⟩) := by
  pointwise [vLay]
  rw [dif_neg hl]

/-- The one beside the first head's values. -/
theorem vLay_zero_one (v : FVec Ideal S2x4096x4x64 .f32) (g : Fin 4) (T : Fin 8192) : vLay (F := Ideal) v (ix4 g 0 T 64) = 1 := by
  pointwise [vLay]

/-- The one beside the second head's values. -/
theorem vLay_one_one (v : FVec Ideal S2x4096x4x64 .f32) (g : Fin 4) (T : Fin 8192) : vLay (F := Ideal) v (ix4 g 1 T 0) = 1 := by
  pointwise [vLay]

/-- A value lane of the context, for the first head of a pair. -/
theorem cvLay_zero (v : FVec Ideal S2x512x4x64 .f32) (g : Fin 4) (l : Fin 128) (T : Fin 1024) (hl : l.val < 64) :
    cvLay (F := Ideal) v (ix4 g 0 T l) = v (ix4 ⟨T.val / 512, by omega⟩ ⟨T.val % 512, by omega⟩ g ⟨l.val, hl⟩) := by
  pointwise [cvLay]
  rw [dif_pos hl]

/-- A value lane of the context, for the second head of a pair. -/
theorem cvLay_one (v : FVec Ideal S2x512x4x64 .f32) (g : Fin 4) (l : Fin 128) (T : Fin 1024) (hl : ¬ l.val < 64) :
    cvLay (F := Ideal) v (ix4 g 1 T l) = v (ix4 ⟨T.val / 512, by omega⟩ ⟨T.val % 512, by omega⟩ g ⟨l.val - 64, by omega⟩) := by
  pointwise [cvLay]
  rw [dif_neg hl]

/-- The one beside the first head's values of the context. -/
theorem cvLay_zero_one (v : FVec Ideal S2x512x4x64 .f32) (g : Fin 4) (T : Fin 1024) : cvLay (F := Ideal) v (ix4 g 0 T 64) = 1 := by
  pointwise [cvLay]

/-- The one beside the second head's values of the context. -/
theorem cvLay_one_one (v : FVec Ideal S2x512x4x64 .f32) (g : Fin 4) (T : Fin 1024) : cvLay (F := Ideal) v (ix4 g 1 T 0) = 1 := by
  pointwise [cvLay]

end Cert.AttnIdeal.HostRead
-- ==== Proof.AttnFinal.lean ====
/- The attention call's result array is the attention of its arguments. -/
module

public import proofs.«01_k».proof.Proof.AttnSpec
public import proofs.«01_k».proof.Proof.AttnBlocks
public import proofs.«01_k».proof.Proof.AttnLay
public import Idealize.ShloMosaic.Lib.Pipeline.ValueKit

@[expose] public section

set_option maxRecDepth 16384

noncomputable section

namespace Cert.AttnIdeal.Final

open Cert.AttnIdeal Cert.AttnIdeal.Gen Cert.AttnIdeal.Tile Cert.AttnIdeal.HostRead Cert.AttnIdeal.Blocks Cert.AttnIdeal.Spec
open Idealize.ShloMosaic Idealize.ShloMosaic.TcCoe Idealize.SL.Sem

/-- The result array of the attention: one row a token, its lanes head by head. -/
def rows (q : FVec Ideal S2x4096x16x64 .f32) (k v : FVec Ideal S2x4096x4x64 .f32) (ck cv : FVec Ideal S2x512x4x64 .f32) : FVec Ideal S8192x1024 .bf16 :=
  fun i => out q k v ck cv ⟨(i 0).val / 4096, by have := (i 0).isLt; simp at this; omega⟩ ⟨(i 0).val % 4096, by omega⟩
    ⟨(i 1).val / 64, by have := (i 1).isLt; simp at this; omega⟩ ⟨(i 1).val % 64, by omega⟩

/-- Two places with equal coordinates are one place. -/
theorem ix4_congr {n0 n1 n2 n3 : ℕ} {a a' : Fin n0} {b b' : Fin n1} {c c' : Fin n2} {d d' : Fin n3} (ha : a.val = a'.val) (hb : b.val = b'.val) (hc : c.val = c'.val)
    (hd : d.val = d'.val) : ix4 a b c d = ix4 a' b' c' d' := by
  rw [Fin.ext ha, Fin.ext hb, Fin.ext hc, Fin.ext hd]

variable (m : (ℓ : Loc nD τ sig) → Buf (Elt Ideal) ℓ) (c : Dev nD)

/-- The grid point's batch. -/
def bOf (t : Fin cfg0.N) : Fin 2 := ⟨t.val / 16, by have := t_lt t; omega⟩
/-- The grid point's key head. -/
def gOf (t : Fin cfg0.N) : Fin 4 := ⟨t.val / 4 % 4, by omega⟩
/-- The token of a row of the grid point's block. -/
def tokOf (t : Fin cfg0.N) (r : Fin 1024) : Fin 4096 := ⟨1024 * (t.val % 4) + r.val, by omega⟩

/-- The arguments. -/
abbrev aq : FVec Ideal S2x4096x16x64 .f32 := m ((c : Thread nD τ).loc main_arg0)
/-- The keys. -/
abbrev ak : FVec Ideal S2x4096x4x64 .f32 := m ((c : Thread nD τ).loc main_arg1)
/-- The values. -/
abbrev av : FVec Ideal S2x4096x4x64 .f32 := m ((c : Thread nD τ).loc main_arg2)
/-- The context keys. -/
abbrev ack : FVec Ideal S2x512x4x64 .f32 := m ((c : Thread nD τ).loc main_arg3)
/-- The context values. -/
abbrev acv : FVec Ideal S2x512x4x64 .f32 := m ((c : Thread nD τ).loc main_arg4)

/-- A query of the block, in the arguments. -/
theorem block_q (t : Fin cfg0.N) (r : Fin 1024) (l : Fin 256) :
    iblk m c 0 t (ix2 r l) = aq m c (ix4 (bOf t) (tokOf t r) ⟨4 * (gOf t).val + l.val / 64, by omega⟩ ⟨l.val % 64, by omega⟩) * ((1 / 8 / Real.log 2 : ℝ) : EReal) := by
  have := t_lt t
  rw [iblk0, V_q, qLay_apply, scale_eq]
  congr 2
  unfold bOf tokOf gOf
  congr 1 <;> exact Fin.ext (by dsimp only; omega)

/-- The block's keys, for the first head of a pair. -/
theorem block_k0 (t : Fin cfg0.N) (n : ℕ) (hn : n < 9) (j : Fin 512) (l : Fin 128) :
    ks0 (F := Ideal) (iblk m c 1 t) (iblk m c 3 t) n (ix4 0 0 l j)
      = if h : l.val < 64 then key (ak m c) (ack m c) (bOf t) (512 * n + j.val) (gOf t) ⟨l.val, h⟩ else 0 := by
  have := t_lt t
  rw [ks0_apply _ _ _ hn]
  unfold key bOf gOf
  by_cases h8 : n < 8
  · rw [dif_pos h8, iblk1, V_k, kLay_zero]
    split
    · rw [dif_pos (by omega)]
      exact congrArg (ak m c) (ix4_congr (by first | (dsimp only; omega) | rfl) (by first | (dsimp only; omega) | rfl) (by first | (dsimp only; omega) | rfl) (by first | (dsimp only; omega) | rfl))
    · rfl
  · rw [dif_neg h8, iblk3, V_ck, ckLay_zero]
    split
    · rw [dif_neg (by omega), dif_pos (by omega)]
      exact congrArg (ack m c) (ix4_congr (by first | (dsimp only; omega) | rfl) (by first | (dsimp only; omega) | rfl) (by first | (dsimp only; omega) | rfl) (by first | (dsimp only; omega) | rfl))
    · rfl

/-- The block's keys, for the second head of a pair. -/
theorem block_k1 (t : Fin cfg0.N) (n : ℕ) (hn : n < 9) (j : Fin 512) (l : Fin 128) :
    ks1 (F := Ideal) (iblk m c 1 t) (iblk m c 3 t) n (ix4 0 0 l j)
      = if h : l.val < 64 then 0 else key (ak m c) (ack m c) (bOf t) (512 * n + j.val) (gOf t) ⟨l.val - 64, by omega⟩ := by
  have := t_lt t
  rw [ks1_apply _ _ _ hn]
  unfold key bOf gOf
  by_cases h8 : n < 8
  · rw [dif_pos h8, iblk1, V_k, kLay_one]
    split
    · rfl
    · rw [dif_pos (by omega)]
      exact congrArg (ak m c) (ix4_congr (by first | (dsimp only; omega) | rfl) (by first | (dsimp only; omega) | rfl) (by first | (dsimp only; omega) | rfl) (by first | (dsimp only; omega) | rfl))
  · rw [dif_neg h8, iblk3, V_ck, ckLay_one]
    split
    · rfl
    · rw [dif_neg (by omega), dif_pos (by omega)]
      exact congrArg (ack m c) (ix4_congr (by first | (dsimp only; omega) | rfl) (by first | (dsimp only; omega) | rfl) (by first | (dsimp only; omega) | rfl) (by first | (dsimp only; omega) | rfl))

/-- The block's values, for the first head of a pair. -/
theorem block_v0 (t : Fin cfg0.N) (n : ℕ) (hn : n < 9) (j : Fin 512) (l : Fin 128) (hl : l.val < 64) :
    vs0 (F := Ideal) (iblk m c 2 t) (iblk m c 4 t) n (ix4 0 0 j l)
      = key (av m c) (acv m c) (bOf t) (512 * n + j.val) (gOf t) ⟨l.val, hl⟩ := by
  have := t_lt t
  rw [vs0_apply _ _ _ hn]
  unfold key bOf gOf
  by_cases h8 : n < 8
  · rw [dif_pos h8, iblk2, V_v, vLay_zero _ _ _ _ hl, dif_pos (by omega)]
    exact congrArg (av m c) (ix4_congr (by first | (dsimp only; omega) | rfl) (by first | (dsimp only; omega) | rfl) (by first | (dsimp only; omega) | rfl) (by first | (dsimp only; omega) | rfl))
  · rw [dif_neg h8, iblk4, V_cv, cvLay_zero _ _ _ _ hl, dif_neg (by omega), dif_pos (by omega)]
    exact congrArg (acv m c) (ix4_congr (by first | (dsimp only; omega) | rfl) (by first | (dsimp only; omega) | rfl) (by first | (dsimp only; omega) | rfl) (by first | (dsimp only; omega) | rfl))

/-- The block's values, for the second head of a pair. -/
theorem block_v1 (t : Fin cfg0.N) (n : ℕ) (hn : n < 9) (j : Fin 512) (l : Fin 128) (hl : ¬ l.val < 64) :
    vs1 (F := Ideal) (iblk m c 2 t) (iblk m c 4 t) n (ix4 0 0 j l)
      = key (av m c) (acv m c) (bOf t) (512 * n + j.val) (gOf t) ⟨l.val - 64, by omega⟩ := by
  have := t_lt t
  rw [vs1_apply _ _ _ hn]
  unfold key bOf gOf
  by_cases h8 : n < 8
  · rw [dif_pos h8, iblk2, V_v, vLay_one _ _ _ _ hl, dif_pos (by omega)]
    exact congrArg (av m c) (ix4_congr (by first | (dsimp only; omega) | rfl) (by first | (dsimp only; omega) | rfl) (by first | (dsimp only; omega) | rfl) (by first | (dsimp only; omega) | rfl))
  · rw [dif_neg h8, iblk4, V_cv, cvLay_one _ _ _ _ hl, dif_neg (by omega), dif_pos (by omega)]
    exact congrArg (acv m c) (ix4_congr (by first | (dsimp only; omega) | rfl) (by first | (dsimp only; omega) | rfl) (by first | (dsimp only; omega) | rfl) (by first | (dsimp only; omega) | rfl))

/-- The ones beside the first head's values. -/
theorem block_o0 (t : Fin cfg0.N) (n : ℕ) (hn : n < 9) (j : Fin 512) : vs0 (F := Ideal) (iblk m c 2 t) (iblk m c 4 t) n (ix4 0 0 j 64) = 1 := by
  rw [vs0_apply _ _ _ hn]
  by_cases h8 : n < 8
  · rw [dif_pos h8, iblk2, V_v, vLay_zero_one]
  · rw [dif_neg h8, iblk4, V_cv, cvLay_zero_one]

/-- The ones beside the second head's values. -/
theorem block_o1 (t : Fin cfg0.N) (n : ℕ) (hn : n < 9) (j : Fin 512) : vs1 (F := Ideal) (iblk m c 2 t) (iblk m c 4 t) n (ix4 0 0 j 0) = 1 := by
  rw [vs1_apply _ _ _ hn]
  by_cases h8 : n < 8
  · rw [dif_pos h8, iblk2, V_v, vLay_one_one]
  · rw [dif_neg h8, iblk4, V_cv, cvLay_one_one]

variable (hq : ∀ i, aq m c i = ((aq m c i).toReal : EReal)) (hk : ∀ i, ak m c i = ((ak m c i).toReal : EReal)) (hck : ∀ i, ack m c i = ((ack m c i).toReal : EReal))

/-- What the grid point's block holds at a row and a lane. -/
def blockOut (t : Fin cfg0.N) (y : S1024x256.Idx) : EReal :=
  out (aq m c) (ak m c) (av m c) (ack m c) (acv m c) (bOf t) (tokOf t (y 0)) ⟨4 * (gOf t).val + (y 1).val / 64, by have := (y 1).isLt; simp at this; omega⟩ ⟨(y 1).val % 64, by omega⟩

include hq hk hck in
/-- The block's lanes of pair 0 of heads. -/
theorem piece0_eq (t : Fin cfg0.N) (x : S1024x128.Idx) :
    quot (F := Ideal) (accs (qOf (View.ld (iblk m c 0 t) r0_0)) (ks0 (iblk m c 1 t) (iblk m c 3 t)) (vs0 (iblk m c 2 t) (iblk m c 4 t)) 9)
      (accs (qOf (View.ld (iblk m c 0 t) r0_0)) (ks1 (iblk m c 1 t) (iblk m c 3 t)) (vs1 (iblk m c 2 t) (iblk m c 4 t)) 9) x = blockOut m c t (r0_0.emb x) := by
  idx_vars x
  rw [body_apply (aq m c) (ak m c) (av m c) (ack m c) (acv m c) hq hk hck _ _ _ _ _ (bOf t) (tokOf t x0) (gOf t) 0 x0
    (fun l => by rw [ld_q0, block_q]; exact congrArg (fun i => aq m c i * _) (ix4_congr (by first | (dsimp only; omega) | rfl) (by first | (dsimp only; omega) | rfl) (by first | (dsimp only; omega) | rfl) (by first | (dsimp only; omega) | rfl))) (fun n hn j l => block_k0 m c t n hn j l) (fun n hn j l => block_k1 m c t n hn j l)
    (fun n hn j l h => block_v0 m c t n hn j l h) (fun n hn j => block_o0 m c t n hn j) (fun n hn j l h => block_v1 m c t n hn j l h)
    (fun n hn j => block_o1 m c t n hn j)]
  unfold blockOut
  have e0 : (r0_0.emb (ix2 x0 x1)) 0 = x0 := Fin.ext (by rw [ValueKit.rect_emb_unit_val]; simp)
  have e1 : ((r0_0.emb (ix2 x0 x1)) 1).val = x1.val := by rw [ValueKit.rect_emb_unit_val]; simp
  rw [e0]
  congr 1 <;> exact Fin.ext (by have z : (0 : Fin 2).val = 0 := rfl; have o : (1 : Fin 2).val = 1 := rfl; dsimp only; rw [e1] <;> omega)

include hq hk hck in
/-- The block's lanes of pair 1 of heads. -/
theorem piece1_eq (t : Fin cfg0.N) (x : S1024x128.Idx) :
    quot (F := Ideal) (accs (qOf (View.ld (iblk m c 0 t) r0_37)) (ks0 (iblk m c 1 t) (iblk m c 3 t)) (vs0 (iblk m c 2 t) (iblk m c 4 t)) 9)
      (accs (qOf (View.ld (iblk m c 0 t) r0_37)) (ks1 (iblk m c 1 t) (iblk m c 3 t)) (vs1 (iblk m c 2 t) (iblk m c 4 t)) 9) x = blockOut m c t (r0_37.emb x) := by
  idx_vars x
  rw [body_apply (aq m c) (ak m c) (av m c) (ack m c) (acv m c) hq hk hck _ _ _ _ _ (bOf t) (tokOf t x0) (gOf t) 1 x0
    (fun l => by rw [ld_q1, block_q]; exact congrArg (fun i => aq m c i * _) (ix4_congr (by first | (dsimp only; omega) | rfl) (by first | (dsimp only; omega) | rfl) (by first | (dsimp only; omega) | rfl) (by first | (dsimp only; omega) | rfl))) (fun n hn j l => block_k0 m c t n hn j l) (fun n hn j l => block_k1 m c t n hn j l)
    (fun n hn j l h => block_v0 m c t n hn j l h) (fun n hn j => block_o0 m c t n hn j) (fun n hn j l h => block_v1 m c t n hn j l h)
    (fun n hn j => block_o1 m c t n hn j)]
  unfold blockOut
  have e0 : (r0_37.emb (ix2 x0 x1)) 0 = x0 := Fin.ext (by rw [ValueKit.rect_emb_unit_val]; simp)
  have e1 : ((r0_37.emb (ix2 x0 x1)) 1).val = 128 + x1.val := by rw [ValueKit.rect_emb_unit_val]; simp
  rw [e0]
  congr 1 <;> exact Fin.ext (by have z : (0 : Fin 2).val = 0 := rfl; have o : (1 : Fin 2).val = 1 := rfl; dsimp only; rw [e1]; omega)

include hq hk hck in
/-- The body leaves the attention in the point's block. -/
theorem out_block (t : Fin cfg0.N) (y : S1024x256.Idx) :
    out0_5 (F := Ideal) (iblk m c 0 t) (iblk m c 1 t) (iblk m c 2 t) (iblk m c 3 t) (iblk m c 4 t) y = blockOut m c t y := by
  rw [out_eq]
  refine View.canon_apply_of_pieces (Val := Elt Ideal) (S := S1024x256) (e := .bf16) (blockOut m c t) _ ?_ y ?_
  · intro p hp x
    simp only [List.mem_cons, List.not_mem_nil, or_false] at hp
    rcases hp with rfl | rfl
    · exact piece1_eq m c hq hk hck t x
    · exact piece0_eq m c hq hk hck t x
  · by_cases h : 128 ≤ (y 1).val
    · refine ⟨⟨r0_37, _⟩, List.mem_cons_self, Rect.mem_set_unit (inb := inb_S1024x256_S1024x128_0_128).mpr fun a => ?_⟩
      idx_bounds y
      fin_cases a <;> simp <;> omega
    · refine ⟨⟨r0_0, _⟩, List.mem_cons_of_mem _ List.mem_cons_self, Rect.mem_set_unit (inb := inb_S1024x256_S1024x128_0_0).mpr fun a => ?_⟩
      idx_bounds y
      fin_cases a <;> simp <;> omega

include hq hk hck in
/-- The result array after the run. -/
theorem final : (dats (F := Ideal) m 0 c).arrAt 5 cfg0.N = rows (aq m c) (ak m c) (av m c) (ack m c) (acv m c) := by
  refine (dats m 0 c).arrAt_eq_of_covers 5 _ (by decide +kernel) fun t hf y => ?_
  blk_simp
  rw [after0_5, out_block m c hq hk hck]
  have h0 : ((win0_5.blk t).view.emb y 0 : ℕ) = 1024 * (4 * (t.val / 16) + t.val % 4) + (y 0).val := by
    blk_simp [idx5]; omega
  have h1 : ((win0_5.blk t).view.emb y 1 : ℕ) = 256 * (t.val / 4 % 4) + (y 1).val := by
    blk_simp [idx5]; omega
  have := t_lt t
  idx_bounds y
  unfold blockOut rows bOf tokOf gOf
  congr 1 <;> exact Fin.ext (by dsimp only; first | (rw [h0]; omega) | (rw [h1]; omega))

end Cert.AttnIdeal.Final
-- ==== Proof.AttnRef.lean ====
/- The reference attention, entry by entry, at the ideal instance. -/
module

public import proofs.«01_k».proof.Proof.Gen.AttnRefIdeal.Read
public import proofs.«01_k».proof.Proof.AttnMath
public import Idealize.ShloMosaic.Lib.Pointwise
public import Idealize.ShloMosaic.Lib.Pointwise.Sums

@[expose] public section

set_option maxRecDepth 16384

noncomputable section

namespace Cert.AttnRefIdeal.Entry

open Cert.AttnRefIdeal Cert.AttnRefIdeal.Read Idealize.ShloMosaic Idealize.SL.Sem

variable (q : FVec Ideal S2x4096x16x64 .f32) (k v : FVec Ideal S2x4096x4x64 .f32) (ck cv : FVec Ideal S2x512x4x64 .f32)

/-- A scaled score. -/
theorem v6_apply (b : Fin 2) (g n : Fin 4) (T : Fin 4096) (J : Fin 4608) :
    val_main_v6 (F := Ideal) q k ck (ix5 b g n T J) = (∑ d : Fin 64, val_main_v0 (F := Ideal) k ck (ix4 b J g d) * q (ix4 b T ⟨4 * g.val + n.val, by omega⟩ d)) * Ideal.ofBits .f32 0x3E000000#32 := by
  unfold val_main_v6 val_main_v4 val_main_v3 val_main_v5 val_main_v2 val_main_cst
  generalize val_main_v0 (F := Ideal) k ck = K
  pointwise
  simp only [mul_comm g.val 4]

/-- The word of minus infinity. -/
theorem ofBits_neg_infinity : Ideal.ofBits .f32 0xFF800000#32 = ⊥ := by simp [Ideal.ofBits, Ideal.ieee]

/-- A maximum over the last axis of the scores. -/
theorem rowMax_apply (h : S2x4x4x4096x4608.ReducesTo [4] S2x4x4x4096) (hu : 0 < S_.numel) (K : FVec Ideal S2x4x4x4096x4608 .f32) (b : Fin 2) (g n : Fin 4) (T : Fin 4096) :
    Host.reduce (FloatOps.maximumf (F := Ideal) (φ := .f32)) K (constant (F := Ideal) S_ .f32 0xFF800000#32) h hu (ix4 b g n T)
      = Finset.univ.sup fun J : Fin 4608 => K (ix5 b g n T J) := by
  rw [Host.reduce_eq_fold]
  pointwise
  rw [ofBits_neg_infinity, Cert.AttnMath.fold_max_eq_sup]

/-- The maximum over the keys. -/
theorem v7_apply (b : Fin 2) (g n : Fin 4) (T : Fin 4096) :
    val_main_v7 (F := Ideal) q k ck (ix4 b g n T) = Finset.univ.sup fun J : Fin 4608 => val_main_v6 (F := Ideal) q k ck (ix5 b g n T J) := by
  unfold val_main_v7 val_main_cst_0
  exact rowMax_apply Gen.reducesTo_S2x4x4x4096x4608_S2x4x4x4096_d4 Gen.h_S_ (val_main_v6 (F := Ideal) q k ck) b g n T

/-- The rows' maxima. -/
theorem v9_apply (b : Fin 2) (g n : Fin 4) (T : Fin 4096) :
    val_main_v9 (F := Ideal) q k ck (ix4 b g n T) = Finset.univ.sup fun J : Fin 4608 => val_main_v6 (F := Ideal) q k ck (ix5 b g n T J) := by
  rw [val_main_v9_apply, val_main_v8_apply, val_main_cst_1_apply, v7_apply, Ideal.maximumf_eq_max, Ideal.ofBits_def, ofBits_neg_infinity]
  exact max_eq_right bot_le

/-- A weight of the softmax. -/
theorem v17_apply (b : Fin 2) (g n : Fin 4) (T : Fin 4096) (J : Fin 4608) :
    val_main_v17 (F := Ideal) q k ck (ix5 b g n T J) =
      Ideal.div (Ideal.exp (val_main_v6 (F := Ideal) q k ck (ix5 b g n T J) - val_main_v9 (F := Ideal) q k ck (ix4 b g n T)))
       (∑ I : Fin 4608, Ideal.exp (val_main_v6 (F := Ideal) q k ck (ix5 b g n T I) - val_main_v9 (F := Ideal) q k ck (ix4 b g n T))) := by
  unfold val_main_v17 val_main_v16 val_main_v15 val_main_v14 val_main_v13 val_main_v12 val_main_v11 val_main_v10 val_main_cst_2
  generalize val_main_v6 (F := Ideal) q k ck = K
  generalize val_main_v9 (F := Ideal) q k ck = M
  pointwise

/-- The result: the values under the weights. -/
theorem v21_apply (R : Fin 8192) (C : Fin 1024) :
    val_main_v21 (F := Ideal) q k v ck cv (ix2 R C) = ∑ J : Fin 4608, val_main_v1 (F := Ideal) v cv (ix4 ⟨R.val / 4096, by omega⟩ J ⟨C.val / 256, by omega⟩ ⟨C.val % 64, by omega⟩)
      * val_main_v17 (F := Ideal) q k ck (ix5 ⟨R.val / 4096, by omega⟩ ⟨C.val / 256, by omega⟩ ⟨C.val / 64 % 4, by omega⟩ ⟨R.val % 4096, by omega⟩ J) := by
  unfold val_main_v21 val_main_v20 val_main_v19 val_main_v18
  generalize val_main_v17 (F := Ideal) q k ck = P
  generalize val_main_v1 (F := Ideal) v cv = W
  pointwise

/-- The keys: the tokens' first, then the context's. -/
theorem v0_apply (b : Fin 2) (J : Fin 4608) (g : Fin 4) (d : Fin 64) :
    val_main_v0 (F := Ideal) k ck (ix4 b J g d) = if h : J.val < 4096 then k (ix4 b ⟨J.val, h⟩ g d) else ck (ix4 b ⟨J.val - 4096, by omega⟩ g d) := by
  unfold val_main_v0
  pointwise
/-- The values: the tokens' first, then the context's. -/
theorem v1_apply (b : Fin 2) (J : Fin 4608) (g : Fin 4) (d : Fin 64) :
    val_main_v1 (F := Ideal) v cv (ix4 b J g d) = if h : J.val < 4096 then v (ix4 b ⟨J.val, h⟩ g d) else cv (ix4 b ⟨J.val - 4096, by omega⟩ g d) := by
  unfold val_main_v1
  pointwise

end Cert.AttnRefIdeal.Entry
-- ==== Proof.AttnClose.lean ====
/- The two sides set beside each other: the reference's array is the attention too, the precondition says that queries
   and keys are reals, and the claim of equality follows. -/
module

public import proofs.«01_k».proof.Defs
public import proofs.«01_k».proof.Proof.AttnFinal
public import proofs.«01_k».proof.Proof.AttnRef
public import proofs.«01_k».proof.Proof.Gen.Pre_finite_qk
public import Idealize.ShloMosaic.Lib.ReduceAll

@[expose] public section

set_option maxRecDepth 16384

noncomputable section

namespace Cert.AttnClose

open Cert.AttnIdeal Cert.AttnIdeal.Spec Cert.AttnIdeal.Final Idealize.ShloMosaic Idealize.ShloMosaic.TcCoe Idealize.SL.Sem

variable (q : FVec Ideal S2x4096x16x64 .f32) (k v : FVec Ideal S2x4096x4x64 .f32) (ck cv : FVec Ideal S2x512x4x64 .f32)

/-- A number of absolute value below infinity is a real. -/
theorem real_of_abs_lt (x : EReal) (h : Ideal.cmp .olt (max x (-x)) (Ideal.ofBits .f32 0x7F800000#32) = 1#1) : x = ((x.toReal : ℝ) : EReal) := by
  have ht : Ideal.ofBits .f32 0x7F800000#32 = ⊤ := by simp [Ideal.ofBits, Ideal.ieee]
  rw [ht] at h
  refine (EReal.coe_toReal ?_ ?_).symm
  · rintro rfl; simp [Ideal.cmp] at h
  · rintro rfl; simp [Ideal.cmp] at h

/-- The precondition, read: queries, keys and the context's keys are reals. -/
theorem pre_real [Cert.Pre_finite_qk.Facts] (h : Cert.Pre_finite_qk.fn (F := Ideal) q k v ck cv = fun _ => 1#1) :
    (∀ i, q i = ((q i).toReal : EReal)) ∧ (∀ i, k i = ((k i).toReal : EReal)) ∧ ∀ i, ck i = ((ck i).toReal : EReal) := by
  have h' := congrFun h (fun x => x.elim0)
  dsimp only [Cert.Pre_finite_qk.fn] at h'
  have ha : ∀ a b : BitVec 1, IntOp.andi a b = 1#1 → a = 1#1 ∧ b = 1#1 := by decide
  obtain ⟨h1, h3⟩ := ha _ _ h'
  obtain ⟨h1, h2⟩ := ha _ _ h1
  haveI : Subsingleton Cert.Pre_finite_qk.S_.Idx := ⟨fun a b => funext fun x => x.elim0⟩
  refine ⟨fun i => ?_, fun i => ?_, fun i => ?_⟩
  · exact real_of_abs_lt _ (Host.reduce_andi_all _ _ _ _ _ h1 i)
  · exact real_of_abs_lt _ (Host.reduce_andi_all _ _ _ _ _ h2 i)
  · exact real_of_abs_lt _ (Host.reduce_andi_all _ _ _ _ _ h3 i)

/-- The greatest of `n` reals, over the places and over the numbers below `n`. -/
theorem sup_fin (s : ℕ → ℝ) (n : ℕ) : (Finset.univ.sup fun J : Fin n => ((s J.val : ℝ) : EReal)) = AttnMath.mx s n := by
  unfold AttnMath.mx
  refine le_antisymm (Finset.sup_le fun J _ => ?_) (Finset.sup_le fun J hJ => ?_)
  · exact Finset.le_sup (f := fun j => ((s j : ℝ) : EReal)) (Finset.mem_range.mpr J.isLt)
  · exact Finset.le_sup (f := fun J : Fin n => ((s J.val : ℝ) : EReal)) (Finset.mem_univ ⟨J, Finset.mem_range.mp hJ⟩)

/-- The reference's joined keys. -/
theorem ref_key (b : Fin 2) (J : Fin 4608) (g : Fin 4) (d : Fin 64) :
    Cert.AttnRefIdeal.Read.val_main_v0 (F := Ideal) k ck (ix4 b J g d) = key k ck b J.val g d := by
  rw [Cert.AttnRefIdeal.Entry.v0_apply]
  unfold key
  split
  · rfl
  · rw [dif_pos J.isLt]

/-- The reference's joined values. -/
theorem ref_val (b : Fin 2) (J : Fin 4608) (g : Fin 4) (d : Fin 64) :
    Cert.AttnRefIdeal.Read.val_main_v1 (F := Ideal) v cv (ix4 b J g d) = key v cv b J.val g d := by
  rw [Cert.AttnRefIdeal.Entry.v1_apply]
  unfold key
  split
  · rfl
  · rw [dif_pos J.isLt]

variable (hq : ∀ i, q i = ((q i).toReal : EReal)) (hk : ∀ i, k i = ((k i).toReal : EReal)) (hck : ∀ i, ck i = ((ck i).toReal : EReal))

include hq hk hck in
/-- The reference's scaled scores are the logits. -/
theorem ref_score (b : Fin 2) (g n : Fin 4) (T : Fin 4096) (J : Fin 4608) :
    Cert.AttnRefIdeal.Read.val_main_v6 (F := Ideal) q k ck (ix5 b g n T J) = ((logit q k ck b T ⟨4 * g.val + n.val, by omega⟩ J.val : ℝ) : EReal) := by
  rw [Cert.AttnRefIdeal.Entry.v6_apply, eighth_eq, ← logit_eq q k ck hq hk hck b T ⟨4 * g.val + n.val, by omega⟩ J.val g (by dsimp only; omega)]
  congr 1
  exact Finset.sum_congr rfl fun d _ => by rw [ref_key]

include hq hk hck in
/-- The reference's array is the attention. -/
theorem ref_rows : Cert.AttnRefIdeal.Read.val_main_v21 (F := Ideal) q k v ck cv = rows q k v ck cv := by
  funext i
  idx_vars i
  rw [Cert.AttnRefIdeal.Entry.v21_apply]
  show _ = out q k v ck cv ⟨i0.val / 4096, by omega⟩ ⟨i0.val % 4096, by omega⟩ ⟨i1.val / 64, by omega⟩ ⟨i1.val % 64, by omega⟩
  unfold out
  have hn : (⟨4 * (i1.val / 256) + i1.val / 64 % 4, by omega⟩ : Fin 16) = ⟨i1.val / 64, by omega⟩ := Fin.ext (by dsimp only; omega)
  refine Finset.sum_congr rfl fun J _ => ?_
  rw [ref_val, Cert.AttnRefIdeal.Entry.v17_apply, Cert.AttnRefIdeal.Entry.v9_apply]
  have e : ∀ I : Fin 4608, Cert.AttnRefIdeal.Read.val_main_v6 (F := Ideal) q k ck (ix5 ⟨i0.val / 4096, by omega⟩ ⟨i1.val / 256, by omega⟩ ⟨i1.val / 64 % 4, by omega⟩ ⟨i0.val % 4096, by omega⟩ I)
      = ((logit q k ck ⟨i0.val / 4096, by omega⟩ ⟨i0.val % 4096, by omega⟩ ⟨i1.val / 64, by omega⟩ I.val : ℝ) : EReal) := fun I => by
    rw [ref_score q k ck hq hk hck, hn]
  simp only [e]
  rw [sup_fin]
  congr 2
  exact Fin.ext (by dsimp only; omega)

/-- The kernel's frame and values, and the reference's, meet. -/
theorem algebraic : @Cert.algebraic_AttnIdeal_AttnRefIdeal_pre_finite_qk Cert.AttnIdeal.Gen.facts Cert.AttnRefIdeal.Gen.facts Cert.Pre_finite_qk.Gen.facts := by
  intro m g m' g' hpre hargs
  have hr := fun c => pre_real _ _ _ _ _ (hpre c)
  refine ⟨fun c => rows (aq m c) (ak m c) (av m c) (ack m c) (acv m c), ?_, ?_⟩
  · refine (θ_run Cert.AttnIdeal.defs _ _).mono (fun r h c => ⟨(h c).1.trans ?_, (h c).2⟩) (Cert.AttnIdeal.Value.run_blocks (F := Ideal) m g)
    exact final m c (hr c).1 (hr c).2.1 (hr c).2.2
  · refine (θ_run Cert.AttnRefIdeal.defs _ _).mono (fun r h c => ⟨(h c).1.trans ?_, (h c).2⟩) (Cert.AttnRefIdeal.Value.run (F := Ideal) m' g')
    obtain ⟨h0, h1, h2, h3, h4⟩ := hargs c
    rw [h0, h1, h2, h3, h4, Cert.AttnRefIdeal.Read.val_main_v21_eq]
    exact ref_rows _ _ _ _ _ (hr c).1 (hr c).2.1 (hr c).2.2

end Cert.AttnClose
-- ==== Proof.ExpertsIdealBody.lean ====
module

public import proofs.«01_k».proof.Proof.Gen.ExpertsIdeal.Skeleton
public import proofs.«01_k».proof.Proof.Gen.ExpertsIdeal.Launch
public import Idealize.ShloMosaic.Lib.Pipeline.ValueKit
public import Idealize.ShloMosaic.Lib.Pipeline.FrameBody
public import Idealize.ShloMosaic.Lib.Exec
public import Idealize.ShloMosaic.Lib.Pipeline.Frame
public import Idealize.ShloMosaic.Lib.Tactic

@[expose] public section

noncomputable section

namespace Cert.ExpertsIdealBody

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The word of the table at a one-element rectangle. -/
def word (tb : Vec F S1024 .i32) (off : Fin 1 → Nat) (h : ∀ a, off a + S1.size a ≤ S1024.size a) : BitVec 32 :=
  View.ld tb (Rect.unit (s := S1024) off S1.size h) (Shape.Idx.first (numel1_S1.symm ▸ Nat.one_pos))

/-- The bit saying that the pair of experts at this tile differs from the pair at the tile before. -/
def changed (i : grid0.Coords) (v10 v13 v18 v21 : BitVec 32) : BitVec 1 :=
  Scalar.cmpi .ne (Scalar.extui (Scalar.ori (Scalar.ori (Scalar.cmpi .eq (BitVec.ofNat 32 (i 0).val) 0#32) (Scalar.cmpi .ne v10 v13)) (Scalar.cmpi .ne v18 v21)) : BitVec 32) 0#32

/-- The box of one half of the columns of the first scratch, for expert slot `0`, its gate columns. -/
abbrev q00 : Rect S2x1024x512 := Rect.unit (s := S2x1024x512) ![0, 0, 0] S1x1024x256.size inb_S2x1024x512_S1x1024x256_0_0_0
/-- The up columns of expert slot `0`. -/
abbrev q01 : Rect S2x1024x512 := Rect.unit (s := S2x1024x512) ![0, 0, 256] S1x1024x256.size inb_S2x1024x512_S1x1024x256_0_0_256
/-- The gate columns of expert slot `1`. -/
abbrev q10 : Rect S2x1024x512 := Rect.unit (s := S2x1024x512) ![1, 0, 0] S1x1024x256.size inb_S2x1024x512_S1x1024x256_1_0_0
/-- The up columns of expert slot `1`. -/
abbrev q11 : Rect S2x1024x512 := Rect.unit (s := S2x1024x512) ![1, 0, 256] S1x1024x256.size inb_S2x1024x512_S1x1024x256_1_0_256
/-- The down weights of expert slot `0` in the second scratch. -/
abbrev p0 : Rect S2x256x1024 := Rect.unit (s := S2x256x1024) ![0, 0, 0] S1x256x1024.size inb_S2x256x1024_S1x256x1024_0_0_0
/-- The down weights of expert slot `1`. -/
abbrev p1 : Rect S2x256x1024 := Rect.unit (s := S2x256x1024) ![1, 0, 0] S1x256x1024.size inb_S2x256x1024_S1x256x1024_1_0_0
/-- A whole block of gate or up weights. -/
abbrev wA : Rect S1x1x1024x256 := Rect.unit (s := S1x1x1024x256) ![0, 0, 0, 0] S1x1x1024x256.size inb_S1x1x1024x256_S1x1x1024x256_0_0_0_0
/-- A whole block of down weights. -/
abbrev wB : Rect S1x1x256x1024 := Rect.unit (s := S1x1x256x1024) ![0, 0, 0, 0] S1x1x256x1024.size inb_S1x1x256x1024_S1x1x256x1024_0_0_0_0
/-- Row `k` of the table of shifts, scales and gates. -/
abbrev mr (k : Nat) (h : ∀ a, (![k, 0] : Fin 2 → Nat) a + S1x1024.size a ≤ S9x1024.size a) : Rect S9x1024 := Rect.unit (s := S9x1024) ![k, 0] S1x1024.size h
/-- The first 1024 columns of a tile, its tokens. -/
abbrev t0 : Rect S512x1152 := Rect.unit (s := S512x1152) ![0, 0] S512x1024.size inb_S512x1152_S512x1024_0_0
/-- The column of the first expert's gate. -/
abbrev t1 : Rect S512x1152 := Rect.unit (s := S512x1152) ![0, 1024] S512x1.size inb_S512x1152_S512x1_0_1024
/-- The column of the second expert's gate. -/
abbrev t2 : Rect S512x1152 := Rect.unit (s := S512x1152) ![0, 1025] S512x1.size inb_S512x1152_S512x1_0_1025
/-- The column of the stream numbers. -/
abbrev t3 : Rect S512x1152 := Rect.unit (s := S512x1152) ![0, 1026] S512x1.size inb_S512x1152_S512x1_0_1026
/-- The norm's gain, whole. -/
abbrev gR : Rect S1x1024 := Rect.unit (s := S1x1024) ![0, 0] S1x1024.size inb_S1x1024_S1x1024_0_0
/-- Slot `0` of the first scratch. -/
abbrev u0 : Rect S2x1024x512 := Rect.unit (s := S2x1024x512) ![0, 0, 0] S1x1024x512.size inb_S2x1024x512_S1x1024x512_0_0_0
/-- Slot `1` of the first scratch. -/
abbrev u1 : Rect S2x1024x512 := Rect.unit (s := S2x1024x512) ![1, 0, 0] S1x1024x512.size inb_S2x1024x512_S1x1024x512_1_0_0

/-- What the first scratch holds once the two experts' gate and up weights are stored into it. -/
def scr0 (x3 x4 x6 x7 : Vec F S1x1x1024x256 .f32) : Vec F S2x1024x512 .bf16 :=
  View.canon [⟨q11, k0_pay1 (View.ld x7 wA)⟩, ⟨q10, k0_pay7 (View.ld x6 wA)⟩, ⟨q01, k0_pay5 (View.ld x4 wA)⟩, ⟨q00, k0_pay4 (View.ld x3 wA)⟩]

/-- What the second scratch holds once the two experts' down weights are stored into it. -/
def scr1 (x5 x8 : Vec F S1x1x256x1024 .f32) : Vec F S2x256x1024 .bf16 :=
  View.canon [⟨p1, k0_pay2 (View.ld x8 wB)⟩, ⟨p0, k0_pay6 (View.ld x5 wB)⟩]

/-- The normalised and modulated tokens of a tile. -/
def act0 (x0 : Vec F S512x1152 .f32) (x1 : Vec F S1x1024 .f32) (x2 : Vec F S9x1024 .f32) : FVec F S512x1024 .bf16 :=
  k0_pay17 (k0_pay8 (View.ld x0 t0)) (k0_pay12 (View.ld x1 gR)) (k0_pay13 (View.ld x0 t3) (View.ld x2 (mr 0 inb_S9x1024_S1x1024_0_0)) (View.ld x2 (mr 1 inb_S9x1024_S1x1024_1_0)) (View.ld x2 (mr 2 inb_S9x1024_S1x1024_2_0))) (k0_pay14 (View.ld x0 t3)) (k0_pay15 (View.ld x2 (mr 3 inb_S9x1024_S1x1024_3_0))) (k0_pay16 (View.ld x0 t3)) (View.ld x2 (mr 4 inb_S9x1024_S1x1024_4_0)) (View.ld x2 (mr 5 inb_S9x1024_S1x1024_5_0))

/-- The first expert's gated hidden activations of a tile. -/
def hid0 (x0 : Vec F S512x1152 .f32) (x1 : Vec F S1x1024 .f32) (x2 : Vec F S9x1024 .f32) (s0 : Vec F S2x1024x512 .bf16) : FVec F S512x256 .bf16 :=
  k0_pay18 (k0_pay8 (View.ld x0 t0)) (k0_pay9 (View.ld x0 t1)) (k0_pay12 (View.ld x1 gR)) (k0_pay13 (View.ld x0 t3) (View.ld x2 (mr 0 inb_S9x1024_S1x1024_0_0)) (View.ld x2 (mr 1 inb_S9x1024_S1x1024_1_0)) (View.ld x2 (mr 2 inb_S9x1024_S1x1024_2_0))) (k0_pay14 (View.ld x0 t3)) (k0_pay15 (View.ld x2 (mr 3 inb_S9x1024_S1x1024_3_0))) (k0_pay16 (View.ld x0 t3)) (View.ld x2 (mr 4 inb_S9x1024_S1x1024_4_0)) (View.ld x2 (mr 5 inb_S9x1024_S1x1024_5_0)) (View.ld s0 u0)

/-- What a tile in use writes, from its tokens and the weights in the two scratches. -/
def Out (x0 : Vec F S512x1152 .f32) (x1 : Vec F S1x1024 .f32) (x2 : Vec F S9x1024 .f32) (s0 : Vec F S2x1024x512 .bf16) (s1 : Vec F S2x256x1024 .bf16) : FVec F S512x1024 .f32 :=
  k0_pay19 (k0_pay8 (View.ld x0 t0)) (k0_pay10 (View.ld x0 t2)) (k0_pay11 (View.ld x0 t3)) (act0 x0 x1 x2) (hid0 x0 x1 x2 s0) (View.ld s1 p0) (View.ld s0 u1) (View.ld s1 p1) (View.ld x2 (mr 6 inb_S9x1024_S1x1024_6_0)) (View.ld x2 (mr 7 inb_S9x1024_S1x1024_7_0)) (View.ld x2 (mr 8 inb_S9x1024_S1x1024_8_0))

/-- The kernel body at a tile takes the two scratches from `s0`, `s1` to `s0'`, `s1'` and leaves `o` in the output's
    buffer, its inputs and its table as they were. -/
def Triple (c : Dev nD) (i : grid0.Coords) (q : PosShare TreeShare) (arg1 : Memref sig .tc .smem S1024 .i32) (harg1 : arg1.IsWhole) (arg2 : Memref sig .tc .vmem S512x1152 .f32) (harg2 : arg2.IsWhole) (arg3 : Memref sig .tc .vmem S1x1024 .f32) (harg3 : arg3.IsWhole) (arg4 : Memref sig .tc .vmem S9x1024 .f32) (harg4 : arg4.IsWhole) (arg5 : Memref sig .tc .vmem S1x1x1024x256 .f32) (harg5 : arg5.IsWhole) (arg6 : Memref sig .tc .vmem S1x1x1024x256 .f32) (harg6 : arg6.IsWhole) (arg7 : Memref sig .tc .vmem S1x1x256x1024 .f32) (harg7 : arg7.IsWhole) (arg8 : Memref sig .tc .vmem S1x1x1024x256 .f32) (harg8 : arg8.IsWhole) (arg9 : Memref sig .tc .vmem S1x1x1024x256 .f32) (harg9 : arg9.IsWhole) (arg10 : Memref sig .tc .vmem S1x1x256x1024 .f32) (harg10 : arg10.IsWhole) (arg11 : Memref sig .tc .vmem S512x1024 .f32) (harg11 : arg11.IsWhole) (arg12 : Memref sig .tc .vmem S2x1024x512 .bf16) (harg12 : arg12.IsWhole) (arg13 : Memref sig .tc .vmem S2x256x1024 .bf16) (harg13 : arg13.IsWhole)
    (tb : Vec F S1024 .i32) (x0 : Vec F S512x1152 .f32) (x1 : Vec F S1x1024 .f32) (x2 : Vec F S9x1024 .f32) (x3 x4 : Vec F S1x1x1024x256 .f32) (x5 : Vec F S1x1x256x1024 .f32) (x6 x7 : Vec F S1x1x1024x256 .f32) (x8 : Vec F S1x1x256x1024 .f32) (s0 : Vec F S2x1024x512 .bf16) (s1 : Vec F S2x256x1024 .bf16) (s0' : Vec F S2x1024x512 .bf16) (s1' : Vec F S2x256x1024 .bf16) (o : Vec F S512x1024 .f32) : Prop :=
  ∀ K : PUnit → sProp (MT nD τ sig Unit (Elt F) ℕ (UR sig nD τ) ℕ),
    iprop(owns (c : Thread nD τ) arg1 q tb ∗ owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare s0 ∗ owns (c : Thread nD τ) arg13 fullShare s1
        ∗ (iprop(owns (c : Thread nD τ) arg1 q tb ∗ owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare o ∗ owns (c : Thread nD τ) arg12 fullShare s0' ∗ owns (c : Thread nD τ) arg13 fullShare s1') -∗ K ⟨⟩))
      ⊢ wp frame (wpE (defs₀ (F := F)) Variants.none c none) Set.univ (cc0_moe_experts i arg1 harg1 arg2 harg2 arg3 harg3 arg4 harg4 arg5 harg5 arg6 harg6 arg7 harg7 arg8 harg8 arg9 harg9 arg10 harg10 arg11 harg11 arg12 harg12 arg13 harg13) K

/-- The four stores into the first scratch cover it. -/
theorem cover0 (w0 w1 w2 w3 : Vec F S1x1024x256 .bf16) (y : S2x1024x512.Idx) :
    ∃ pc ∈ ([⟨q11, w3⟩, ⟨q10, w2⟩, ⟨q01, w1⟩, ⟨q00, w0⟩] : List (View.Piece (Elt F) S2x1024x512 .bf16)), y ∈ pc.1.set :=
  View.cover_of_tiled [⟨q11, w3⟩, ⟨q10, w2⟩, ⟨q01, w1⟩, ⟨q00, w0⟩] S1x1024x256.size (by rfl) y

/-- The two stores into the second scratch cover it. -/
theorem cover1 (w0 w1 : Vec F S1x256x1024 .bf16) (y : S2x256x1024.Idx) :
    ∃ pc ∈ ([⟨p1, w1⟩, ⟨p0, w0⟩] : List (View.Piece (Elt F) S2x256x1024 .bf16)), y ∈ pc.1.set :=
  View.cover_of_tiled [⟨p1, w1⟩, ⟨p0, w0⟩] S1x256x1024.size (by rfl) y

/-- A store of the whole output block leaves its payload there. -/
theorem whole9 {sp : Space} (v : View sig .tc sp S512x1024 .f32) (f : v.ty.Contents (Elt F)) (w : Vec F S512x1024 .f32) :
    v.read (Elt F) (v.writes (Elt F) f [⟨Rect.unit ![0, 0] S512x1024.size inb_S512x1024_S512x1024_0_0, w⟩]) = w := by
  rw [View.read_writes_eq_canon _ _ _ (fun y => View.cover_of_tiled [⟨Rect.unit ![0, 0] S512x1024.size inb_S512x1024_S512x1024_0_0, w⟩] S512x1024.size (by rfl) y)]
  exact View.canon_cons_unit_lit _ _ _ (by decide)

set_option maxHeartbeats 4000000 in
/-- A tile in use whose experts differ from those of the tile before: the weights are stored first. -/
theorem run_new_lt (c : Dev nD) (i : grid0.Coords) (q : PosShare TreeShare) (arg1 : Memref sig .tc .smem S1024 .i32) (harg1 : arg1.IsWhole) (arg2 : Memref sig .tc .vmem S512x1152 .f32) (harg2 : arg2.IsWhole) (arg3 : Memref sig .tc .vmem S1x1024 .f32) (harg3 : arg3.IsWhole) (arg4 : Memref sig .tc .vmem S9x1024 .f32) (harg4 : arg4.IsWhole) (arg5 : Memref sig .tc .vmem S1x1x1024x256 .f32) (harg5 : arg5.IsWhole) (arg6 : Memref sig .tc .vmem S1x1x1024x256 .f32) (harg6 : arg6.IsWhole) (arg7 : Memref sig .tc .vmem S1x1x256x1024 .f32) (harg7 : arg7.IsWhole) (arg8 : Memref sig .tc .vmem S1x1x1024x256 .f32) (harg8 : arg8.IsWhole) (arg9 : Memref sig .tc .vmem S1x1x1024x256 .f32) (harg9 : arg9.IsWhole) (arg10 : Memref sig .tc .vmem S1x1x256x1024 .f32) (harg10 : arg10.IsWhole) (arg11 : Memref sig .tc .vmem S512x1024 .f32) (harg11 : arg11.IsWhole) (arg12 : Memref sig .tc .vmem S2x1024x512 .bf16) (harg12 : arg12.IsWhole) (arg13 : Memref sig .tc .vmem S2x256x1024 .bf16) (harg13 : arg13.IsWhole)
    (tb : Vec F S1024 .i32) (x0 : Vec F S512x1152 .f32) (x1 : Vec F S1x1024 .f32) (x2 : Vec F S9x1024 .f32) (x3 x4 : Vec F S1x1x1024x256 .f32) (x5 : Vec F S1x1x256x1024 .f32) (x6 x7 : Vec F S1x1x1024x256 .f32) (x8 : Vec F S1x1x256x1024 .f32) (s0 : Vec F S2x1024x512 .bf16) (s1 : Vec F S2x256x1024 .bf16)
    (hk : k0_chk1 i (word tb ![256] inb_S1024_S1_256))
    (hch : changed i (word tb _ (k0_off2_inb i _ hk 0)) (word tb _ (k0_off3_inb i _ hk 0)) (word tb _ (k0_off2_inb i _ hk 1)) (word tb _ (k0_off3_inb i _ hk 1)) = 1#1)
    (h2 : k0_cond2 i (word tb ![256] inb_S1024_S1_256) = 1#1) (h3 : ¬ k0_cond3 i (word tb ![256] inb_S1024_S1_256) = 1#1) :
    Triple c i q arg1 harg1 arg2 harg2 arg3 harg3 arg4 harg4 arg5 harg5 arg6 harg6 arg7 harg7 arg8 harg8 arg9 harg9 arg10 harg10 arg11 harg11 arg12 harg12 arg13 harg13 tb x0 x1 x2 x3 x4 x5 x6 x7 x8 s0 s1 (scr0 x3 x4 x6 x7) (scr1 x5 x8) (Out x0 x1 x2 (scr0 x3 x4 x6 x7) (scr1 x5 x8)) := by
  unfold Triple
  intro K
  simp only [cc0_moe_experts_eq_skeleton]; unfold cc0_moe_experts_skel
  simp only [k0_part1_eq_skeleton, k0_part2_eq_skeleton, k0_part3_eq_skeleton, k0_part4_eq_skeleton]
  unfold owns
  iintro ⟨⟨%ft, %hft, HT⟩, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fA, %hfA, HA⟩, ⟨%fB, %hfB, HB⟩, Hk⟩
  subst hft hf0 hf1 hf2 hf3 hf4 hf5 hf6 hf7 hf8 hfA hfB
  sl_exec (disch := first | sl_exact hk | sl_exact hch | sl_exact h2 | sl_exact h3)
  sl_step
  iapply Hk
  isplitl [HT]
  · iexists ft; isplitr; · ipureintro; rfl
    iexact HT
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (whole9 _ _ _).trans ?_
    sl_unfold_words
    simp only [View.readCov_eq_canon', View.readAt_eq_ld]
    unfold Out hid0 act0 scr0 scr1
    rfl
  isplitl [HA]
  · iexists _; isplitr
    swap; · iexact HA
    ipureintro
    exact View.read_writes_eq_canon _ _ _ (cover0 _ _ _ _)
  iexists _; isplitr
  swap; · iexact HB
  ipureintro
  exact View.read_writes_eq_canon _ _ _ (cover1 _ _)

set_option maxHeartbeats 4000000 in
/-- A tile in use whose experts are those of the tile before: the stored weights serve. -/
theorem run_old_lt (c : Dev nD) (i : grid0.Coords) (q : PosShare TreeShare) (arg1 : Memref sig .tc .smem S1024 .i32) (harg1 : arg1.IsWhole) (arg2 : Memref sig .tc .vmem S512x1152 .f32) (harg2 : arg2.IsWhole) (arg3 : Memref sig .tc .vmem S1x1024 .f32) (harg3 : arg3.IsWhole) (arg4 : Memref sig .tc .vmem S9x1024 .f32) (harg4 : arg4.IsWhole) (arg5 : Memref sig .tc .vmem S1x1x1024x256 .f32) (harg5 : arg5.IsWhole) (arg6 : Memref sig .tc .vmem S1x1x1024x256 .f32) (harg6 : arg6.IsWhole) (arg7 : Memref sig .tc .vmem S1x1x256x1024 .f32) (harg7 : arg7.IsWhole) (arg8 : Memref sig .tc .vmem S1x1x1024x256 .f32) (harg8 : arg8.IsWhole) (arg9 : Memref sig .tc .vmem S1x1x1024x256 .f32) (harg9 : arg9.IsWhole) (arg10 : Memref sig .tc .vmem S1x1x256x1024 .f32) (harg10 : arg10.IsWhole) (arg11 : Memref sig .tc .vmem S512x1024 .f32) (harg11 : arg11.IsWhole) (arg12 : Memref sig .tc .vmem S2x1024x512 .bf16) (harg12 : arg12.IsWhole) (arg13 : Memref sig .tc .vmem S2x256x1024 .bf16) (harg13 : arg13.IsWhole)
    (tb : Vec F S1024 .i32) (x0 : Vec F S512x1152 .f32) (x1 : Vec F S1x1024 .f32) (x2 : Vec F S9x1024 .f32) (x3 x4 : Vec F S1x1x1024x256 .f32) (x5 : Vec F S1x1x256x1024 .f32) (x6 x7 : Vec F S1x1x1024x256 .f32) (x8 : Vec F S1x1x256x1024 .f32) (s0 : Vec F S2x1024x512 .bf16) (s1 : Vec F S2x256x1024 .bf16)
    (hk : k0_chk1 i (word tb ![256] inb_S1024_S1_256))
    (hch : ¬ changed i (word tb _ (k0_off2_inb i _ hk 0)) (word tb _ (k0_off3_inb i _ hk 0)) (word tb _ (k0_off2_inb i _ hk 1)) (word tb _ (k0_off3_inb i _ hk 1)) = 1#1)
    (h2 : k0_cond2 i (word tb ![256] inb_S1024_S1_256) = 1#1) (h3 : ¬ k0_cond3 i (word tb ![256] inb_S1024_S1_256) = 1#1) :
    Triple c i q arg1 harg1 arg2 harg2 arg3 harg3 arg4 harg4 arg5 harg5 arg6 harg6 arg7 harg7 arg8 harg8 arg9 harg9 arg10 harg10 arg11 harg11 arg12 harg12 arg13 harg13 tb x0 x1 x2 x3 x4 x5 x6 x7 x8 s0 s1 s0 s1 (Out x0 x1 x2 s0 s1) := by
  unfold Triple
  intro K
  simp only [cc0_moe_experts_eq_skeleton]; unfold cc0_moe_experts_skel
  simp only [k0_part1_eq_skeleton, k0_part2_eq_skeleton, k0_part3_eq_skeleton, k0_part4_eq_skeleton]
  unfold owns
  iintro ⟨⟨%ft, %hft, HT⟩, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fA, %hfA, HA⟩, ⟨%fB, %hfB, HB⟩, Hk⟩
  subst hft hf0 hf1 hf2 hf3 hf4 hf5 hf6 hf7 hf8 hfA hfB
  sl_exec (disch := first | sl_exact hk | sl_exact hch | sl_exact h2 | sl_exact h3)
  sl_step
  iapply Hk
  isplitl [HT]
  · iexists ft; isplitr; · ipureintro; rfl
    iexact HT
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (whole9 _ _ _).trans ?_
    sl_unfold_words
    simp only [View.readCov_eq_canon', View.readAt_eq_ld]
    unfold Out hid0 act0
    rfl
  isplitl [HA]
  · iexists _; isplitr
    swap; · iexact HA
    ipureintro
    rfl
  iexists _; isplitr
  swap; · iexact HB
  ipureintro
  rfl

set_option maxHeartbeats 4000000 in
/-- A tile past the last in use, with new experts: zeros. -/
theorem run_new_ge (c : Dev nD) (i : grid0.Coords) (q : PosShare TreeShare) (arg1 : Memref sig .tc .smem S1024 .i32) (harg1 : arg1.IsWhole) (arg2 : Memref sig .tc .vmem S512x1152 .f32) (harg2 : arg2.IsWhole) (arg3 : Memref sig .tc .vmem S1x1024 .f32) (harg3 : arg3.IsWhole) (arg4 : Memref sig .tc .vmem S9x1024 .f32) (harg4 : arg4.IsWhole) (arg5 : Memref sig .tc .vmem S1x1x1024x256 .f32) (harg5 : arg5.IsWhole) (arg6 : Memref sig .tc .vmem S1x1x1024x256 .f32) (harg6 : arg6.IsWhole) (arg7 : Memref sig .tc .vmem S1x1x256x1024 .f32) (harg7 : arg7.IsWhole) (arg8 : Memref sig .tc .vmem S1x1x1024x256 .f32) (harg8 : arg8.IsWhole) (arg9 : Memref sig .tc .vmem S1x1x1024x256 .f32) (harg9 : arg9.IsWhole) (arg10 : Memref sig .tc .vmem S1x1x256x1024 .f32) (harg10 : arg10.IsWhole) (arg11 : Memref sig .tc .vmem S512x1024 .f32) (harg11 : arg11.IsWhole) (arg12 : Memref sig .tc .vmem S2x1024x512 .bf16) (harg12 : arg12.IsWhole) (arg13 : Memref sig .tc .vmem S2x256x1024 .bf16) (harg13 : arg13.IsWhole)
    (tb : Vec F S1024 .i32) (x0 : Vec F S512x1152 .f32) (x1 : Vec F S1x1024 .f32) (x2 : Vec F S9x1024 .f32) (x3 x4 : Vec F S1x1x1024x256 .f32) (x5 : Vec F S1x1x256x1024 .f32) (x6 x7 : Vec F S1x1x1024x256 .f32) (x8 : Vec F S1x1x256x1024 .f32) (s0 : Vec F S2x1024x512 .bf16) (s1 : Vec F S2x256x1024 .bf16)
    (hk : k0_chk1 i (word tb ![256] inb_S1024_S1_256))
    (hch : changed i (word tb _ (k0_off2_inb i _ hk 0)) (word tb _ (k0_off3_inb i _ hk 0)) (word tb _ (k0_off2_inb i _ hk 1)) (word tb _ (k0_off3_inb i _ hk 1)) = 1#1)
    (h2 : ¬ k0_cond2 i (word tb ![256] inb_S1024_S1_256) = 1#1) (h3 : k0_cond3 i (word tb ![256] inb_S1024_S1_256) = 1#1) :
    Triple c i q arg1 harg1 arg2 harg2 arg3 harg3 arg4 harg4 arg5 harg5 arg6 harg6 arg7 harg7 arg8 harg8 arg9 harg9 arg10 harg10 arg11 harg11 arg12 harg12 arg13 harg13 tb x0 x1 x2 x3 x4 x5 x6 x7 x8 s0 s1 (scr0 x3 x4 x6 x7) (scr1 x5 x8) (k0_pay3 (F := F)) := by
  unfold Triple
  intro K
  simp only [cc0_moe_experts_eq_skeleton]; unfold cc0_moe_experts_skel
  simp only [k0_part1_eq_skeleton, k0_part2_eq_skeleton, k0_part3_eq_skeleton, k0_part4_eq_skeleton]
  unfold owns
  iintro ⟨⟨%ft, %hft, HT⟩, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fA, %hfA, HA⟩, ⟨%fB, %hfB, HB⟩, Hk⟩
  subst hft hf0 hf1 hf2 hf3 hf4 hf5 hf6 hf7 hf8 hfA hfB
  sl_exec (disch := first | sl_exact hk | sl_exact hch | sl_exact h2 | sl_exact h3)
  sl_step
  iapply Hk
  isplitl [HT]
  · iexists ft; isplitr; · ipureintro; rfl
    iexact HT
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (whole9 _ _ _).trans ?_
    rfl
  isplitl [HA]
  · iexists _; isplitr
    swap; · iexact HA
    ipureintro
    exact View.read_writes_eq_canon _ _ _ (cover0 _ _ _ _)
  iexists _; isplitr
  swap; · iexact HB
  ipureintro
  exact View.read_writes_eq_canon _ _ _ (cover1 _ _)

set_option maxHeartbeats 4000000 in
/-- A tile past the last in use, its experts as before: zeros. -/
theorem run_old_ge (c : Dev nD) (i : grid0.Coords) (q : PosShare TreeShare) (arg1 : Memref sig .tc .smem S1024 .i32) (harg1 : arg1.IsWhole) (arg2 : Memref sig .tc .vmem S512x1152 .f32) (harg2 : arg2.IsWhole) (arg3 : Memref sig .tc .vmem S1x1024 .f32) (harg3 : arg3.IsWhole) (arg4 : Memref sig .tc .vmem S9x1024 .f32) (harg4 : arg4.IsWhole) (arg5 : Memref sig .tc .vmem S1x1x1024x256 .f32) (harg5 : arg5.IsWhole) (arg6 : Memref sig .tc .vmem S1x1x1024x256 .f32) (harg6 : arg6.IsWhole) (arg7 : Memref sig .tc .vmem S1x1x256x1024 .f32) (harg7 : arg7.IsWhole) (arg8 : Memref sig .tc .vmem S1x1x1024x256 .f32) (harg8 : arg8.IsWhole) (arg9 : Memref sig .tc .vmem S1x1x1024x256 .f32) (harg9 : arg9.IsWhole) (arg10 : Memref sig .tc .vmem S1x1x256x1024 .f32) (harg10 : arg10.IsWhole) (arg11 : Memref sig .tc .vmem S512x1024 .f32) (harg11 : arg11.IsWhole) (arg12 : Memref sig .tc .vmem S2x1024x512 .bf16) (harg12 : arg12.IsWhole) (arg13 : Memref sig .tc .vmem S2x256x1024 .bf16) (harg13 : arg13.IsWhole)
    (tb : Vec F S1024 .i32) (x0 : Vec F S512x1152 .f32) (x1 : Vec F S1x1024 .f32) (x2 : Vec F S9x1024 .f32) (x3 x4 : Vec F S1x1x1024x256 .f32) (x5 : Vec F S1x1x256x1024 .f32) (x6 x7 : Vec F S1x1x1024x256 .f32) (x8 : Vec F S1x1x256x1024 .f32) (s0 : Vec F S2x1024x512 .bf16) (s1 : Vec F S2x256x1024 .bf16)
    (hk : k0_chk1 i (word tb ![256] inb_S1024_S1_256))
    (hch : ¬ changed i (word tb _ (k0_off2_inb i _ hk 0)) (word tb _ (k0_off3_inb i _ hk 0)) (word tb _ (k0_off2_inb i _ hk 1)) (word tb _ (k0_off3_inb i _ hk 1)) = 1#1)
    (h2 : ¬ k0_cond2 i (word tb ![256] inb_S1024_S1_256) = 1#1) (h3 : k0_cond3 i (word tb ![256] inb_S1024_S1_256) = 1#1) :
    Triple c i q arg1 harg1 arg2 harg2 arg3 harg3 arg4 harg4 arg5 harg5 arg6 harg6 arg7 harg7 arg8 harg8 arg9 harg9 arg10 harg10 arg11 harg11 arg12 harg12 arg13 harg13 tb x0 x1 x2 x3 x4 x5 x6 x7 x8 s0 s1 s0 s1 (k0_pay3 (F := F)) := by
  unfold Triple
  intro K
  simp only [cc0_moe_experts_eq_skeleton]; unfold cc0_moe_experts_skel
  simp only [k0_part1_eq_skeleton, k0_part2_eq_skeleton, k0_part3_eq_skeleton, k0_part4_eq_skeleton]
  unfold owns
  iintro ⟨⟨%ft, %hft, HT⟩, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fA, %hfA, HA⟩, ⟨%fB, %hfB, HB⟩, Hk⟩
  subst hft hf0 hf1 hf2 hf3 hf4 hf5 hf6 hf7 hf8 hfA hfB
  sl_exec (disch := first | sl_exact hk | sl_exact hch | sl_exact h2 | sl_exact h3)
  sl_step
  iapply Hk
  isplitl [HT]
  · iexists ft; isplitr; · ipureintro; rfl
    iexact HT
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (whole9 _ _ _).trans ?_
    rfl
  isplitl [HA]
  · iexists _; isplitr
    swap; · iexact HA
    ipureintro
    rfl
  iexists _; isplitr
  swap; · iexact HB
  ipureintro
  rfl

end Cert.ExpertsIdealBody
-- ==== Proof.ExpertsIdealRow.lean ====
/- The body of the experts' call at a row and a lane, over exact numbers. -/
module

public import proofs.«01_k».proof.Proof.ExpertsIdealBody

@[expose] public section

set_option maxRecDepth 16384

noncomputable section

namespace Cert.ExpertsIdealRow

open Cert.ExpertsIdeal Cert.ExpertsIdeal.Gen Cert.ExpertsIdealBody Idealize.ShloMosaic Idealize.SL.Sem

/-- One of three values, by a stream's number as a float. -/
def pick (s a b c : EReal) : EReal :=
  if s < Ideal.ofBits .f32 0x3F000000#32 then a else if s < Ideal.ofBits .f32 0x3FC00000#32 then b else c

/-- A normalised and modulated lane of a token. -/
def modAt (x : Fin 1024 → EReal) (g sc sh : EReal) (d : Fin 1024) : EReal :=
  x d * Ideal.rsqrt (Ideal.div (∑ k : Fin 1024, x k * x k) (Ideal.ofBits .f32 0x44800000#32) + Ideal.ofBits .f32 0x358637BD#32) * g * (1 + sc) + sh

/-- A gated hidden activation: the gate's product with its own logistic, by the up product, by the routing weight. -/
def hidAt (a : Fin 1024 → EReal) (G U : Fin 1024 → EReal) (w : EReal) : EReal :=
  (∑ k : Fin 1024, a k * G k) * Ideal.logistic (∑ k : Fin 1024, a k * G k) * (∑ k : Fin 1024, a k * U k) * w

/-- A row picked of three by the stream number. -/
theorem pay13_apply (v : Vec Ideal S512x1 .f32) (a b c : Vec Ideal S1x1024 .f32) (p : Fin 512) (d : Fin 1024) :
    k0_pay13 (F := Ideal) v a b c (ix2 p d) = pick (v (ix2 p 0)) (a (ix2 0 d)) (b (ix2 0 d)) (c (ix2 0 d)) := by
  pointwise [k0_pay13, k0_pay11]
  rfl

/-- The normalised, modulated token, at a row and lane. -/
theorem pay17_apply (x : FVec Ideal S512x1024 .f32) (g : FVec Ideal S1x1024 .f32) (sh : FVec Ideal S512x1024 .f32) (f : Vec Ideal S512x1 .f32) (a b c : Vec Ideal S1x1024 .f32) (p : Fin 512) (d : Fin 1024) :
    k0_pay17 (F := Ideal) x g sh (k0_pay14 f) (k0_pay15 a) (k0_pay16 f) b c (ix2 p d)
      = modAt (fun k => x (ix2 p k)) (g (ix2 0 d)) (pick (f (ix2 p 0)) (a (ix2 0 d)) (b (ix2 0 d)) (c (ix2 0 d))) (sh (ix2 p d)) d := by
  pointwise [k0_pay17, k0_pay14, k0_pay15, k0_pay16, k0_pay11, modAt, pick]

/-- The hidden row of an expert, at a row and lane. -/
theorem pay18_apply (v33 : FVec Ideal S512x1024 .f32) (v35 : FVec Ideal S512x1 .f32) (v41 : FVec Ideal S1x1024 .f32) (v63 : FVec Ideal S512x1024 .f32) (v65 : IVec S512x1 1) (v67 : FVec Ideal S1x1024 .f32) (v69 : IVec S512x1 1) (v70 v72 : Vec Ideal S1x1024 .f32) (v103 : Vec Ideal S1x1024x512 .bf16) (p : Fin 512) (f : Fin 256) :
    k0_pay18 (F := Ideal) v33 v35 v41 v63 v65 v67 v69 v70 v72 v103 (ix2 p f)
      = hidAt (fun k => k0_pay17 (F := Ideal) v33 v41 v63 v65 v67 v69 v70 v72 (ix2 p k)) (fun k => v103 (ix3 0 k ⟨f.val, by omega⟩)) (fun k => v103 (ix3 0 k ⟨256 + f.val, by omega⟩)) (v35 (ix2 p 0)) := by
  unfold k0_pay18 hidAt
  generalize k0_pay17 (F := Ideal) v33 v41 v63 v65 v67 v69 v70 v72 = a
  pointwise

/-- The result row, at a row and lane. -/
theorem pay19_apply (x : FVec Ideal S512x1024 .f32) (w : FVec Ideal S512x1 .f32) (f : FVec Ideal S512x1 .f32) (a : FVec Ideal S512x1024 .bf16) (h : FVec Ideal S512x256 .bf16) (d0 : Vec Ideal S1x256x1024 .bf16) (gu : Vec Ideal S1x1024x512 .bf16) (d1 : Vec Ideal S1x256x1024 .bf16) (g0 g1 g2 : Vec Ideal S1x1024 .f32) (p : Fin 512) (d : Fin 1024) :
    k0_pay19 (F := Ideal) x w f a h d0 gu d1 g0 g1 g2 (ix2 p d)
      = x (ix2 p d) + pick (f (ix2 p 0)) (g0 (ix2 0 d)) (g1 (ix2 0 d)) (g2 (ix2 0 d))
        * ((∑ j : Fin 256, h (ix2 p j) * d0 (ix3 0 j d))
          + ∑ j : Fin 256, hidAt (fun k => a (ix2 p k)) (fun k => gu (ix3 0 k ⟨j.val, by omega⟩)) (fun k => gu (ix3 0 k ⟨256 + j.val, by omega⟩)) (w (ix2 p 0)) * d1 (ix3 0 j d)) := by
  unfold k0_pay19
  pointwise [hidAt, pick]

/-- A lane of a tile's tokens. -/
theorem ld_t0 (x : Vec Ideal S512x1152 .f32) (p : Fin 512) (k : Fin 1024) : View.ld x t0 (ix2 p k) = x (ix2 p ⟨k.val, by omega⟩) :=
  congrArg x (funext fun a => Fin.ext (by show (Rect.emb t0 (ix2 p k) a).val = _; rw [ValueKit.rect_emb_unit_val]; fin_cases a <;> simp [ix2]))
/-- A row's first routing weight. -/
theorem ld_t1 (x : Vec Ideal S512x1152 .f32) (p : Fin 512) : View.ld x t1 (ix2 p 0) = x (ix2 p ⟨1024, by omega⟩) :=
  congrArg x (funext fun a => Fin.ext (by show (Rect.emb t1 (ix2 p 0) a).val = _; rw [ValueKit.rect_emb_unit_val]; fin_cases a <;> simp [ix2]))
/-- A row's second routing weight. -/
theorem ld_t2 (x : Vec Ideal S512x1152 .f32) (p : Fin 512) : View.ld x t2 (ix2 p 0) = x (ix2 p ⟨1025, by omega⟩) :=
  congrArg x (funext fun a => Fin.ext (by show (Rect.emb t2 (ix2 p 0) a).val = _; rw [ValueKit.rect_emb_unit_val]; fin_cases a <;> simp [ix2]))
/-- A row's stream number. -/
theorem ld_t3 (x : Vec Ideal S512x1152 .f32) (p : Fin 512) : View.ld x t3 (ix2 p 0) = x (ix2 p ⟨1026, by omega⟩) :=
  congrArg x (funext fun a => Fin.ext (by show (Rect.emb t3 (ix2 p 0) a).val = _; rw [ValueKit.rect_emb_unit_val]; fin_cases a <;> simp [ix2]))
/-- A row of the table of shifts, scales and gates. -/
theorem ld_mr (x : Vec Ideal S9x1024 .f32) (k : ℕ) (hk : k < 9) (h : ∀ a, (![k, 0] : Fin 2 → Nat) a + S1x1024.size a ≤ S9x1024.size a) (d : Fin 1024) :
    View.ld x (mr k h) (ix2 0 d) = x (ix2 ⟨k, hk⟩ d) :=
  congrArg x (funext fun a => Fin.ext (by show (Rect.emb (mr k h) (ix2 0 d) a).val = _; rw [ValueKit.rect_emb_unit_val]; fin_cases a <;> simp [ix2]))
/-- The norm's gain. -/
theorem ld_g (x : Vec Ideal S1x1024 .f32) (d : Fin 1024) : View.ld x gR (ix2 0 d) = x (ix2 0 d) :=
  congrArg x (funext fun a => Fin.ext (by show (Rect.emb gR (ix2 0 d) a).val = _; rw [ValueKit.rect_emb_unit_val]; fin_cases a <;> simp [ix2]))
/-- The first expert's gate and up weights. -/
theorem ld_u0 (x : Vec Ideal S2x1024x512 .bf16) (k : Fin 1024) (f : Fin 512) : View.ld x u0 (ix3 0 k f) = x (ix3 0 k f) :=
  congrArg x (funext fun a => Fin.ext (by show (Rect.emb u0 (ix3 0 k f) a).val = _; rw [ValueKit.rect_emb_unit_val]; fin_cases a <;> simp [ix3]))
/-- The second expert's gate and up weights. -/
theorem ld_u1 (x : Vec Ideal S2x1024x512 .bf16) (k : Fin 1024) (f : Fin 512) : View.ld x u1 (ix3 0 k f) = x (ix3 1 k f) :=
  congrArg x (funext fun a => Fin.ext (by show (Rect.emb u1 (ix3 0 k f) a).val = _; rw [ValueKit.rect_emb_unit_val]; fin_cases a <;> simp [ix3]))
/-- The first expert's down weights. -/
theorem ld_p0 (x : Vec Ideal S2x256x1024 .bf16) (k : Fin 256) (f : Fin 1024) : View.ld x p0 (ix3 0 k f) = x (ix3 0 k f) :=
  congrArg x (funext fun a => Fin.ext (by show (Rect.emb p0 (ix3 0 k f) a).val = _; rw [ValueKit.rect_emb_unit_val]; fin_cases a <;> simp [ix3]))
/-- The second expert's down weights. -/
theorem ld_p1 (x : Vec Ideal S2x256x1024 .bf16) (k : Fin 256) (f : Fin 1024) : View.ld x p1 (ix3 0 k f) = x (ix3 1 k f) :=
  congrArg x (funext fun a => Fin.ext (by show (Rect.emb p1 (ix3 0 k f) a).val = _; rw [ValueKit.rect_emb_unit_val]; fin_cases a <;> simp [ix3]))

/-- What is stored of a block of gate or up weights. -/
theorem pay4_apply (x : Vec Ideal S1x1x1024x256 .f32) (k : Fin 1024) (f : Fin 256) : k0_pay4 (F := Ideal) (View.ld x wA) (ix3 0 k f) = x (ix4 0 0 k f) := by
  rw [View.ld_unit_lit' _ _ (by decide)]
  pointwise [k0_pay4]
/-- A weight block, read for the scratch. -/
theorem pay5_apply (x : Vec Ideal S1x1x1024x256 .f32) (k : Fin 1024) (f : Fin 256) : k0_pay5 (F := Ideal) (View.ld x wA) (ix3 0 k f) = x (ix4 0 0 k f) := by
  rw [View.ld_unit_lit' _ _ (by decide)]
  pointwise [k0_pay5]
/-- A weight block, read for the scratch. -/
theorem pay7_apply (x : Vec Ideal S1x1x1024x256 .f32) (k : Fin 1024) (f : Fin 256) : k0_pay7 (F := Ideal) (View.ld x wA) (ix3 0 k f) = x (ix4 0 0 k f) := by
  rw [View.ld_unit_lit' _ _ (by decide)]
  pointwise [k0_pay7]
/-- A weight block, read for the scratch. -/
theorem pay1_apply (x : Vec Ideal S1x1x1024x256 .f32) (k : Fin 1024) (f : Fin 256) : k0_pay1 (F := Ideal) (View.ld x wA) (ix3 0 k f) = x (ix4 0 0 k f) := by
  rw [View.ld_unit_lit' _ _ (by decide)]
  pointwise [k0_pay1]
/-- A weight block, read for the scratch. -/
theorem pay2_apply (x : Vec Ideal S1x1x256x1024 .f32) (k : Fin 256) (f : Fin 1024) : k0_pay2 (F := Ideal) (View.ld x wB) (ix3 0 k f) = x (ix4 0 0 k f) := by
  rw [View.ld_unit_lit' _ _ (by decide)]
  pointwise [k0_pay2]
/-- A weight block, read for the scratch. -/
theorem pay6_apply (x : Vec Ideal S1x1x256x1024 .f32) (k : Fin 256) (f : Fin 1024) : k0_pay6 (F := Ideal) (View.ld x wB) (ix3 0 k f) = x (ix4 0 0 k f) := by
  rw [View.ld_unit_lit' _ _ (by decide)]
  pointwise [k0_pay6]

/-- The first expert's places lie in none of the second's boxes, and its gate columns not among its up columns. -/
theorem nm_p1 (k : Fin 256) (f : Fin 1024) : (ix3 0 k f : S2x256x1024.Idx) ∉ p1.set := fun h => absurd (show 1 ≤ 0 from (Rect.mem_set_unit.mp h 0).1) (by omega)
/-- This entry lies outside that piece of the scratch. -/
theorem nm_q11 (k : Fin 1024) (f : Fin 512) : (ix3 0 k f : S2x1024x512.Idx) ∉ q11.set := fun h => absurd (show 1 ≤ 0 from (Rect.mem_set_unit.mp h 0).1) (by omega)
/-- This entry lies outside that piece of the scratch. -/
theorem nm_q10 (k : Fin 1024) (f : Fin 512) : (ix3 0 k f : S2x1024x512.Idx) ∉ q10.set := fun h => absurd (show 1 ≤ 0 from (Rect.mem_set_unit.mp h 0).1) (by omega)
/-- This entry lies outside that piece of the scratch. -/
theorem nm_q01 (k : Fin 1024) (f : Fin 256) : (ix3 0 k ⟨f.val, by omega⟩ : S2x1024x512.Idx) ∉ q01.set := fun h => absurd (show 256 ≤ f.val from (Rect.mem_set_unit.mp h 2).1) (by omega)
/-- This entry lies outside that piece of the scratch. -/
theorem nm_q11_g (k : Fin 1024) (f : Fin 256) : (ix3 1 k ⟨f.val, by omega⟩ : S2x1024x512.Idx) ∉ q11.set := fun h => absurd (show 256 ≤ f.val from (Rect.mem_set_unit.mp h 2).1) (by omega)

section Scratch

variable (x3 x4 : Vec Ideal S1x1x1024x256 .f32) (x5 : Vec Ideal S1x1x256x1024 .f32) (x6 x7 : Vec Ideal S1x1x1024x256 .f32) (x8 : Vec Ideal S1x1x256x1024 .f32)

/-- The second scratch, for the first expert. -/
theorem scr1_0 (k : Fin 256) (f : Fin 1024) : scr1 (F := Ideal) x5 x8 (ix3 0 k f) = x5 (ix4 0 0 k f) := by
  unfold scr1
  refine (View.canon_cons_of_not_mem (⟨p1, _⟩ : View.Piece (Elt Ideal) S2x256x1024 .bf16) _ (nm_p1 k f)).trans ?_
  rw [show (ix3 0 k f : S2x256x1024.Idx) = p0.emb (ix3 0 k f) from funext fun a => Fin.ext (by rw [ValueKit.rect_emb_unit_val]; exact match a with | ⟨0, _⟩ => rfl | ⟨1, _⟩ => (Nat.zero_add _).symm | ⟨2, _⟩ => (Nat.zero_add _).symm)]
  rw [View.canon_cons_emb]
  exact pay6_apply x5 k f

/-- The second scratch, for the second expert. -/
theorem scr1_1 (k : Fin 256) (f : Fin 1024) : scr1 (F := Ideal) x5 x8 (ix3 1 k f) = x8 (ix4 0 0 k f) := by
  unfold scr1
  rw [show (ix3 1 k f : S2x256x1024.Idx) = p1.emb (ix3 0 k f) from funext fun a => Fin.ext (by rw [ValueKit.rect_emb_unit_val]; exact match a with | ⟨0, _⟩ => rfl | ⟨1, _⟩ => (Nat.zero_add _).symm | ⟨2, _⟩ => (Nat.zero_add _).symm)]
  rw [View.canon_cons_emb]
  exact pay2_apply x8 k f

/-- The first scratch: the first expert's gate columns. -/
theorem scr0_g0 (k : Fin 1024) (f : Fin 256) : scr0 (F := Ideal) x3 x4 x6 x7 (ix3 0 k ⟨f.val, by omega⟩) = x3 (ix4 0 0 k f) := by
  unfold scr0
  refine (View.canon_cons_of_not_mem (⟨q11, _⟩ : View.Piece (Elt Ideal) S2x1024x512 .bf16) _ (nm_q11 k _)).trans ?_
  refine (View.canon_cons_of_not_mem (⟨q10, _⟩ : View.Piece (Elt Ideal) S2x1024x512 .bf16) _ (nm_q10 k _)).trans ?_
  refine (View.canon_cons_of_not_mem (⟨q01, _⟩ : View.Piece (Elt Ideal) S2x1024x512 .bf16) _ (nm_q01 k f)).trans ?_
  rw [show (ix3 0 k ⟨f.val, by omega⟩ : S2x1024x512.Idx) = q00.emb (ix3 0 k f) from funext fun a => Fin.ext (by rw [ValueKit.rect_emb_unit_val]; exact match a with | ⟨0, _⟩ => rfl | ⟨1, _⟩ => (Nat.zero_add _).symm | ⟨2, _⟩ => (Nat.zero_add _).symm)]
  rw [View.canon_cons_emb]
  exact pay4_apply x3 k f

/-- The first expert's up columns. -/
theorem scr0_u0 (k : Fin 1024) (f : Fin 256) : scr0 (F := Ideal) x3 x4 x6 x7 (ix3 0 k ⟨256 + f.val, by omega⟩) = x4 (ix4 0 0 k f) := by
  unfold scr0
  refine (View.canon_cons_of_not_mem (⟨q11, _⟩ : View.Piece (Elt Ideal) S2x1024x512 .bf16) _ (nm_q11 k _)).trans ?_
  refine (View.canon_cons_of_not_mem (⟨q10, _⟩ : View.Piece (Elt Ideal) S2x1024x512 .bf16) _ (nm_q10 k _)).trans ?_
  rw [show (ix3 0 k ⟨256 + f.val, by omega⟩ : S2x1024x512.Idx) = q01.emb (ix3 0 k f) from funext fun a => Fin.ext (by rw [ValueKit.rect_emb_unit_val]; exact match a with | ⟨0, _⟩ => rfl | ⟨1, _⟩ => (Nat.zero_add _).symm | ⟨2, _⟩ => rfl)]
  rw [View.canon_cons_emb]
  exact pay5_apply x4 k f

/-- The second expert's gate columns. -/
theorem scr0_g1 (k : Fin 1024) (f : Fin 256) : scr0 (F := Ideal) x3 x4 x6 x7 (ix3 1 k ⟨f.val, by omega⟩) = x6 (ix4 0 0 k f) := by
  unfold scr0
  refine (View.canon_cons_of_not_mem (⟨q11, _⟩ : View.Piece (Elt Ideal) S2x1024x512 .bf16) _ (nm_q11_g k f)).trans ?_
  rw [show (ix3 1 k ⟨f.val, by omega⟩ : S2x1024x512.Idx) = q10.emb (ix3 0 k f) from funext fun a => Fin.ext (by rw [ValueKit.rect_emb_unit_val]; exact match a with | ⟨0, _⟩ => rfl | ⟨1, _⟩ => (Nat.zero_add _).symm | ⟨2, _⟩ => (Nat.zero_add _).symm)]
  rw [View.canon_cons_emb]
  exact pay7_apply x6 k f

/-- The second expert's up columns. -/
theorem scr0_u1 (k : Fin 1024) (f : Fin 256) : scr0 (F := Ideal) x3 x4 x6 x7 (ix3 1 k ⟨256 + f.val, by omega⟩) = x7 (ix4 0 0 k f) := by
  unfold scr0
  rw [show (ix3 1 k ⟨256 + f.val, by omega⟩ : S2x1024x512.Idx) = q11.emb (ix3 0 k f) from funext fun a => Fin.ext (by rw [ValueKit.rect_emb_unit_val]; exact match a with | ⟨0, _⟩ => rfl | ⟨1, _⟩ => (Nat.zero_add _).symm | ⟨2, _⟩ => rfl)]
  rw [View.canon_cons_emb]
  exact pay1_apply x7 k f

variable (x0 : Vec Ideal S512x1152 .f32) (x1 : Vec Ideal S1x1024 .f32) (x2 : Vec Ideal S9x1024 .f32)

/-- A tile's token, normalised and modulated by its stream's row of the table. -/
def tokAt (p : Fin 512) (d : Fin 1024) : EReal :=
  modAt (fun k => x0 (ix2 p ⟨k.val, by omega⟩)) (x1 (ix2 0 d)) (pick (x0 (ix2 p ⟨1026, by omega⟩)) (x2 (ix2 3 d)) (x2 (ix2 4 d)) (x2 (ix2 5 d)))
    (pick (x0 (ix2 p ⟨1026, by omega⟩)) (x2 (ix2 0 d)) (x2 (ix2 1 d)) (x2 (ix2 2 d))) d

/-- The token the body computes. -/
theorem act0_apply (p : Fin 512) (d : Fin 1024) : act0 (F := Ideal) x0 x1 x2 (ix2 p d) = tokAt x0 x1 x2 p d := by
  unfold act0
  rw [pay17_apply, pay13_apply]
  unfold tokAt k0_pay8 k0_pay12
  simp only [shapeCast_self]
  rw [ld_mr x2 0 (by omega), ld_mr x2 1 (by omega), ld_mr x2 2 (by omega), ld_mr x2 3 (by omega), ld_mr x2 4 (by omega), ld_mr x2 5 (by omega), ld_t3, ld_g, funext (ld_t0 x0 p)]
  rfl

/-- The hidden row the body computes. -/
theorem hid0_apply (s0 : Vec Ideal S2x1024x512 .bf16) (p : Fin 512) (f : Fin 256) :
    hid0 (F := Ideal) x0 x1 x2 s0 (ix2 p f)
      = hidAt (tokAt x0 x1 x2 p) (fun k => s0 (ix3 0 k ⟨f.val, by omega⟩)) (fun k => s0 (ix3 0 k ⟨256 + f.val, by omega⟩)) (x0 (ix2 p ⟨1024, by omega⟩)) := by
  unfold hid0
  rw [pay18_apply]
  have e : ∀ k, k0_pay17 (F := Ideal) (k0_pay8 (View.ld x0 t0)) (k0_pay12 (View.ld x1 gR)) (k0_pay13 (View.ld x0 t3) (View.ld x2 (mr 0 inb_S9x1024_S1x1024_0_0)) (View.ld x2 (mr 1 inb_S9x1024_S1x1024_1_0)) (View.ld x2 (mr 2 inb_S9x1024_S1x1024_2_0))) (k0_pay14 (View.ld x0 t3)) (k0_pay15 (View.ld x2 (mr 3 inb_S9x1024_S1x1024_3_0))) (k0_pay16 (View.ld x0 t3)) (View.ld x2 (mr 4 inb_S9x1024_S1x1024_4_0)) (View.ld x2 (mr 5 inb_S9x1024_S1x1024_5_0)) (ix2 p k) = tokAt x0 x1 x2 p k := fun k => act0_apply x0 x1 x2 p k
  unfold k0_pay9
  rw [funext e, shapeCast_self, ld_t1, funext fun k => ld_u0 s0 k ⟨f.val, by omega⟩, funext fun k => ld_u0 s0 k ⟨256 + f.val, by omega⟩]

/-- What a tile in use writes, at a row and a lane. -/
theorem Out_apply (p : Fin 512) (d : Fin 1024) :
    Out (F := Ideal) x0 x1 x2 (scr0 x3 x4 x6 x7) (scr1 x5 x8) (ix2 p d)
      = x0 (ix2 p ⟨d.val, by omega⟩) + pick (x0 (ix2 p ⟨1026, by omega⟩)) (x2 (ix2 6 d)) (x2 (ix2 7 d)) (x2 (ix2 8 d))
        * ((∑ j : Fin 256, hidAt (tokAt x0 x1 x2 p) (fun k => x3 (ix4 0 0 k j)) (fun k => x4 (ix4 0 0 k j)) (x0 (ix2 p ⟨1024, by omega⟩)) * x5 (ix4 0 0 j d))
          + ∑ j : Fin 256, hidAt (tokAt x0 x1 x2 p) (fun k => x6 (ix4 0 0 k j)) (fun k => x7 (ix4 0 0 k j)) (x0 (ix2 p ⟨1025, by omega⟩)) * x8 (ix4 0 0 j d)) := by
  unfold Out
  rw [pay19_apply, ld_mr x2 6 (by omega), ld_mr x2 7 (by omega), ld_mr x2 8 (by omega)]
  unfold k0_pay8 k0_pay10 k0_pay11
  rw [shapeCast_self, shapeCast_self, shapeCast_self, ld_t0, ld_t2, ld_t3, funext fun k => act0_apply x0 x1 x2 p k]
  refine congrArg _ (congrArg (_ * ·) (congr (congrArg _ (Finset.sum_congr rfl fun j _ => ?_)) (Finset.sum_congr rfl fun j _ => ?_)))
  · rw [hid0_apply, ld_p0, scr1_0, funext fun k => scr0_g0 x3 x4 x6 x7 k j, funext fun k => scr0_u0 x3 x4 x6 x7 k j]
  · rw [ld_p1, scr1_1, funext fun k => ld_u1 (scr0 x3 x4 x6 x7) k ⟨j.val, by omega⟩, funext fun k => ld_u1 (scr0 x3 x4 x6 x7) k ⟨256 + j.val, by omega⟩,
      funext fun k => scr0_g1 x3 x4 x6 x7 k j, funext fun k => scr0_u1 x3 x4 x6 x7 k j]

end Scratch

end Cert.ExpertsIdealRow

end
-- ==== Proof.ExpertsIdealTab.lean ====
/- The words of the table of tiles that the experts' call prefetches, and what the index maps and the body compute of them. -/
module

public import proofs.«01_k».proof.Proof.ExpertsIdealBody
public import Idealize.ShloMosaic.Lib.ValueIdxCore

@[expose] public section

noncomputable section

namespace Cert.ExpertsIdealBody

open Idealize.ShloMosaic Idealize.ShloMosaic.TcCoe
open Cert.ExpertsIdeal Cert.ExpertsIdeal.Gen

variable {F : FTy → Type} [FloatOps F]

/-- The table's words: `n` tiles in use, and the two experts of tile `min t (n - 1)` for each tile `t` of the grid. -/
structure TabOK (tb : S1024.Idx → BitVec 32) (n : Nat) (e : Fin 2 → Nat → Nat) : Prop where
  npos : 1 ≤ n
  nle : n ≤ 55
  cnt : tb (ix1 256) = BitVec.ofNat 32 n
  pick : ∀ (r : Fin 2) (t : Nat) (ht : t < 55), tb (ix1 ⟨128 * r.val + t, by omega⟩) = BitVec.ofNat 32 (e r (min t (n - 1)))
  lt16 : ∀ (r : Fin 2) (t : Nat), t < n → e r t < 16

/-- A word loaded at a literal offset is the table's at that offset. -/
theorem word_eq (tb : Vec F S1024 .i32) (off : Fin 1 → Nat) (h : ∀ a, off a + S1.size a ≤ S1024.size a) (k : Nat) (hk : k < 1024)
    (he : off 0 = k) : word tb off h = tb (ix1 ⟨k, hk⟩) := by
  unfold word
  refine congrArg tb (funext fun a => ?_)
  match a with
  | ⟨0, _⟩ => exact Fin.ext (by show off 0 + 1 * 0 = k; omega)

/-- The offset of a tile's own word, in the clamped form the body computes. -/
theorem num2 : ∀ (k : Fin 55) (n : Fin 56), 1 ≤ n.val → ∀ r : Fin 2,
    (Scalar.indexCast (Scalar.addi (BitVec.ofNat 32 (128 * r.val)) (Scalar.minsi (BitVec.ofNat 32 k.val) (Scalar.subi (BitVec.ofNat 32 n.val) 1#32))) : BitVec 32).toNat
      = 128 * r.val + min k.val (n.val - 1) := by decide +kernel

/-- The offset of the word of the tile before. -/
theorem num3 : ∀ (k : Fin 55) (n : Fin 56), 1 ≤ n.val → ∀ r : Fin 2,
    (Scalar.indexCast (Scalar.addi (BitVec.ofNat 32 (128 * r.val)) (Scalar.minsi (Scalar.maxsi (Scalar.subi (BitVec.ofNat 32 k.val) 1#32) 0#32) (Scalar.subi (BitVec.ofNat 32 n.val) 1#32))) : BitVec 32).toNat
      = 128 * r.val + min (k.val - 1) (n.val - 1) := by decide +kernel

/-- The offset an index map reads. -/
theorem num1 : ∀ (k : Fin 55) (r : Fin 2),
    (Scalar.indexCast (Scalar.addi (BitVec.ofNat 32 (128 * r.val)) (BitVec.ofNat 32 k.val)) : BitVec 32).toNat = 128 * r.val + k.val := by
  decide +kernel

/-- The tile whose tokens a grid point reads. -/
theorem num0 : ∀ (k : Fin 55) (n : Fin 56), 1 ≤ n.val →
    (Scalar.minsi (BitVec.ofNat 32 k.val) (Scalar.subi (BitVec.ofNat 32 n.val) 1#32) : BitVec 32).toNat = min k.val (n.val - 1) := by
  decide +kernel

/-- Whether a tile is in use, as the body asks it. -/
theorem numc2 : ∀ (k : Fin 55) (n : Fin 56),
    (Scalar.cmpi .ne (Scalar.extui (Scalar.cmpi .slt (BitVec.ofNat 32 k.val) (BitVec.ofNat 32 n.val)) : BitVec 32) 0#32 : BitVec 1) = 1#1 ↔ k.val < n.val := by
  decide +kernel

/-- Whether a tile is past the last in use. -/
theorem numc3 : ∀ (k : Fin 55) (n : Fin 56),
    (Scalar.cmpi .ne (Scalar.extui (Scalar.cmpi .sge (BitVec.ofNat 32 k.val) (BitVec.ofNat 32 n.val)) : BitVec 32) 0#32 : BitVec 1) = 1#1 ↔ n.val ≤ k.val := by
  decide +kernel

/-- Where the body finds no change of experts, the tile is not the first and the words are equal. -/
theorem numch : ∀ (k : Fin 55) (a b c d : BitVec 32),
    ¬ (Scalar.cmpi .ne (Scalar.extui (Scalar.ori (Scalar.ori (Scalar.cmpi .eq (BitVec.ofNat 32 k.val) 0#32) (Scalar.cmpi .ne a b)) (Scalar.cmpi .ne c d)) : BitVec 32) 0#32 : BitVec 1) = 1#1 →
      k.val ≠ 0 ∧ a = b ∧ c = d := by
  intro k a b c d h
  have e1 : ∀ k : Fin 55, (Scalar.cmpi .eq (BitVec.ofNat 32 k.val) 0#32 : BitVec 1) = if k.val = 0 then 1#1 else 0#1 := by decide +kernel
  have e2 : ∀ x y : BitVec 32, (Scalar.cmpi .ne x y : BitVec 1) = if x = y then 0#1 else 1#1 := by
    intro x y
    by_cases hxy : x = y
    · rw [if_pos hxy]; simp [Scalar.cmpi, IntOp.cmpi, hxy]
    · rw [if_neg hxy]; simp only [Scalar.cmpi, IntOp.cmpi, bne_iff_ne.mpr hxy]; rfl
  rw [e1, e2 a b, e2 c d] at h
  by_cases h0 : k.val = 0 <;> by_cases h1 : a = b <;> by_cases h2 : c = d <;> simp only [h0, h1, h2, if_true, if_false] at h <;>
    first | exact ⟨h0, h1, h2⟩ | exact absurd (by decide) h

/-- A grid point's number. -/
theorem coord_lt (i : grid0.Coords) : (i 0).val < 55 := (i 0).isLt

section
variable {tb : S1024.Idx → BitVec 32} {n : Nat} {e : Fin 2 → Nat → Nat} (ok : TabOK tb n e)
include ok

/-- The table's word for the number of tiles in use. -/
theorem word_cnt : word (F := F) tb ![256] inb_S1024_S1_256 = BitVec.ofNat 32 n :=
  (word_eq tb _ _ 256 (by decide) rfl).trans ok.cnt

/-- The offsets of the two tables' words of a tile. -/
theorem off2_eq (i : grid0.Coords) (r : Fin 2) : k0_off2 i (BitVec.ofNat 32 n) (BitVec.ofNat 32 (128 * r.val)) 0 = 128 * r.val + min (i 0).val (n - 1) :=
  num2 ⟨(i 0).val, coord_lt i⟩ ⟨n, by have := ok.nle; omega⟩ ok.npos r

/-- Where the body reads the tile before's expert. -/
theorem off3_eq (i : grid0.Coords) (r : Fin 2) : k0_off3 i (BitVec.ofNat 32 n) (BitVec.ofNat 32 (128 * r.val)) 0 = 128 * r.val + min ((i 0).val - 1) (n - 1) :=
  num3 ⟨(i 0).val, coord_lt i⟩ ⟨n, by have := ok.nle; omega⟩ ok.npos r

/-- The body's side condition. -/
theorem chk_n (i : grid0.Coords) : k0_chk1 i (BitVec.ofNat 32 n) := by
  have h1 := coord_lt i
  have h2 := ok.nle
  refine ⟨fun r a => ?_, fun r a => ?_⟩
  · match a with
    | ⟨0, _⟩ =>
      show k0_off2 i (BitVec.ofNat 32 n) (BitVec.ofNat 32 (128 * r.val)) 0 + 1 ≤ 1024
      rw [off2_eq ok i r]; omega
  · match a with
    | ⟨0, _⟩ =>
      show k0_off3 i (BitVec.ofNat 32 n) (BitVec.ofNat 32 (128 * r.val)) 0 + 1 ≤ 1024
      rw [off3_eq ok i r]; omega

/-- Those reads stay inside the table. -/
theorem chk (i : grid0.Coords) : k0_chk1 i (word (F := F) tb ![256] inb_S1024_S1_256) := by
  rw [word_cnt ok]; exact chk_n ok i

/-- The two experts' words of a tile. -/
theorem cur_word (i : grid0.Coords) (v : BitVec 32) (hv : v = BitVec.ofNat 32 n) (r : Fin 2) (h) :
    word (F := F) tb (k0_off2 i v (BitVec.ofNat 32 (128 * r.val))) h = BitVec.ofNat 32 (e r (min (i 0).val (n - 1))) := by
  subst hv
  have h1 := coord_lt i
  have h2 := ok.nle
  rw [word_eq (F := F) tb _ h (128 * r.val + min (i 0).val (n - 1)) (by omega) (off2_eq ok i r)]
  exact (ok.pick r (min (i 0).val (n - 1)) (by omega)).trans (by rw [Nat.min_assoc, Nat.min_self])

/-- The two experts' words of the tile before. -/
theorem prev_word (i : grid0.Coords) (v : BitVec 32) (hv : v = BitVec.ofNat 32 n) (r : Fin 2) (h) :
    word (F := F) tb (k0_off3 i v (BitVec.ofNat 32 (128 * r.val))) h = BitVec.ofNat 32 (e r (min ((i 0).val - 1) (n - 1))) := by
  subst hv
  have h1 := coord_lt i
  have h2 := ok.nle
  rw [word_eq (F := F) tb _ h (128 * r.val + min ((i 0).val - 1) (n - 1)) (by omega) (off3_eq ok i r)]
  exact (ok.pick r (min ((i 0).val - 1) (n - 1)) (by omega)).trans (by rw [Nat.min_assoc, Nat.min_self])

/-- The body's test for a tile in use. -/
theorem cond2_iff (i : grid0.Coords) : k0_cond2 i (word (F := F) tb ![256] inb_S1024_S1_256) = 1#1 ↔ (i 0).val < n := by
  rw [word_cnt ok]
  exact numc2 ⟨(i 0).val, coord_lt i⟩ ⟨n, by have := ok.nle; omega⟩

/-- The body's test for a tile out of use. -/
theorem cond3_iff (i : grid0.Coords) : k0_cond3 i (word (F := F) tb ![256] inb_S1024_S1_256) = 1#1 ↔ n ≤ (i 0).val := by
  rw [word_cnt ok]
  exact numc3 ⟨(i 0).val, coord_lt i⟩ ⟨n, by have := ok.nle; omega⟩

/-- Where the body finds no change of experts, the tile is not the first and its experts are those of the tile before. -/
theorem same_experts (i : grid0.Coords) (hk : k0_chk1 i (word (F := F) tb ![256] inb_S1024_S1_256))
    (h : ¬ changed i (word (F := F) tb _ (k0_off2_inb i _ hk 0)) (word (F := F) tb _ (k0_off3_inb i _ hk 0)) (word (F := F) tb _ (k0_off2_inb i _ hk 1)) (word (F := F) tb _ (k0_off3_inb i _ hk 1)) = 1#1) :
    (i 0).val ≠ 0 ∧ ∀ r : Fin 2, e r (min (i 0).val (n - 1)) = e r (min ((i 0).val - 1) (n - 1)) := by
  obtain ⟨h0, h1, h2⟩ := numch ⟨(i 0).val, coord_lt i⟩ _ _ _ _ h
  have hn := word_cnt (F := F) ok
  have key : ∀ r : Fin 2, BitVec.ofNat 32 (e r (min (i 0).val (n - 1))) = BitVec.ofNat 32 (e r (min ((i 0).val - 1) (n - 1))) →
      e r (min (i 0).val (n - 1)) = e r (min ((i 0).val - 1) (n - 1)) := fun r hr => by
    have a1 := ok.lt16 r (min (i 0).val (n - 1)) (by have := ok.npos; omega)
    have a2 := ok.lt16 r (min ((i 0).val - 1) (n - 1)) (by have := ok.npos; omega)
    have := congrArg BitVec.toNat hr
    simp only [BitVec.toNat_ofNat] at this
    omega
  refine ⟨h0, fun r => key r ?_⟩
  match r with
  | ⟨0, _⟩ => exact ((cur_word ok i _ hn 0 _).symm.trans h1).trans (prev_word ok i _ hn 0 _)
  | ⟨1, _⟩ => exact ((cur_word ok i _ hn 1 _).symm.trans h2).trans (prev_word ok i _ hn 1 _)

end

/-- The tile of tokens, or the expert, an index map reads of the table. -/
theorem at_eq (pf : pre0.Contents (Elt F)) (off : Fin 1 → Nat) (h : ∀ a, off a + S1.size a ≤ S1024.size a) (k : Nat) (hk : k < 1024)
    (he : off 0 = k) : (pf.at 0 (Rect.unit (s := S1024) off S1.size h) numel1_S1 : BitVec 32) = (pf 0 : S1024.Idx → BitVec 32) (ix1 ⟨k, hk⟩) :=
  word_eq (F := F) (pf 0) off h k hk he

section
variable {pf : pre0.Contents (Elt F)} {n : Nat} {e : Fin 2 → Nat → Nat} (ok : TabOK (pf 0) n e)
include ok

/-- The tile of tokens a grid point reads. -/
theorem tr0 (i : grid0.Coords) : cc0_transform_0 inb_S1024_S1_256 numel1_S1 pf i = ![min (i 0).val (n - 1), 0] := by
  have h : (pf.at 0 (Rect.unit (s := S1024) ![256] S1.size inb_S1024_S1_256) numel1_S1 : BitVec 32) = BitVec.ofNat 32 n :=
    (at_eq pf _ _ 256 (by decide) rfl).trans ok.cnt
  unfold cc0_transform_0
  simp only
  rw [h]
  exact congrArg (fun x => ![x, 0]) (num0 ⟨(i 0).val, coord_lt i⟩ ⟨n, by have := ok.nle; omega⟩ ok.npos)

/-- The word of an expert that an index map reads. -/
theorem at_expert (i : grid0.Coords) (r : Fin 2) (h) :
    (pf.at 0 (Rect.unit (s := S1024) (k0_off1 i (BitVec.ofNat 32 (128 * r.val))) S1.size h) numel1_S1 : BitVec 32).toNat = e r (min (i 0).val (n - 1)) := by
  have h1 := coord_lt i
  rw [at_eq pf _ h (128 * r.val + (i 0).val) (by omega) (num1 ⟨(i 0).val, coord_lt i⟩ r), ok.pick r _ h1, BitVec.toNat_ofNat]
  have := ok.lt16 r (min (i 0).val (n - 1)) (by have := ok.npos; omega)
  omega

/-- The weight block a tile takes is its expert's. -/
theorem tr3 (i : grid0.Coords) : cc0_transform_3 k0_off1_inb numel1_S1 pf i = ![0, e 0 (min (i 0).val (n - 1)), 0, 0] :=
  congrArg (fun x => ![0, x, 0, 0]) (at_expert ok i 0 _)
/-- The weight block a tile takes is its expert's. -/
theorem tr4 (i : grid0.Coords) : cc0_transform_4 k0_off1_inb numel1_S1 pf i = ![0, e 0 (min (i 0).val (n - 1)), 0, 0] :=
  congrArg (fun x => ![0, x, 0, 0]) (at_expert ok i 0 _)
/-- The weight block a tile takes is its expert's. -/
theorem tr5 (i : grid0.Coords) : cc0_transform_5 k0_off1_inb numel1_S1 pf i = ![0, e 0 (min (i 0).val (n - 1)), 0, 0] :=
  congrArg (fun x => ![0, x, 0, 0]) (at_expert ok i 0 _)
/-- The weight block a tile takes is its expert's. -/
theorem tr6 (i : grid0.Coords) : cc0_transform_6 k0_off1_inb numel1_S1 pf i = ![0, e 1 (min (i 0).val (n - 1)), 0, 0] :=
  congrArg (fun x => ![0, x, 0, 0]) (at_expert ok i 1 _)
/-- The weight block a tile takes is its expert's. -/
theorem tr7 (i : grid0.Coords) : cc0_transform_7 k0_off1_inb numel1_S1 pf i = ![0, e 1 (min (i 0).val (n - 1)), 0, 0] :=
  congrArg (fun x => ![0, x, 0, 0]) (at_expert ok i 1 _)
/-- The weight block a tile takes is its expert's. -/
theorem tr8 (i : grid0.Coords) : cc0_transform_8 k0_off1_inb numel1_S1 pf i = ![0, e 1 (min (i 0).val (n - 1)), 0, 0] :=
  congrArg (fun x => ![0, x, 0, 0]) (at_expert ok i 1 _)

/-- So every block the index maps name lies inside its array. -/
theorem ok_of_tab : ok0 pf := by
  have hb : ∀ (r : Fin 2) (i : grid0.Coords), e r (min (i 0).val (n - 1)) < 16 := fun r i => ok.lt16 r _ (by have := ok.npos; omega)
  have hn := ok.nle
  refine ⟨fun i => ⟨?_, Or.inl rfl⟩, fun i => ⟨?_, Or.inl rfl⟩, fun i => ⟨?_, Or.inl rfl⟩, fun i => ⟨?_, Or.inl rfl⟩, fun i => ⟨?_, Or.inl rfl⟩, fun i => ⟨?_, Or.inl rfl⟩, fun i => ⟨?_, Or.inl rfl⟩⟩
  · rw [tr0 ok i]
    intro a
    match a with
    | ⟨0, _⟩ => show (min (i 0).val (n - 1) + 1) * 512 ≤ 28160; omega
    | ⟨1, _⟩ => show (0 + 1) * 1152 ≤ 1152; omega
  · rw [tr3 ok i]
    intro a
    have := hb 0 i
    match a with
    | ⟨0, _⟩ => show (0 + 1) * 1 ≤ 4; omega
    | ⟨1, _⟩ => show (e 0 (min (i 0).val (n - 1)) + 1) * 1 ≤ 16; omega
    | ⟨2, _⟩ => show (0 + 1) * 1024 ≤ 1024; omega
    | ⟨3, _⟩ => show (0 + 1) * 256 ≤ 256; omega
  · rw [tr4 ok i]
    intro a
    have := hb 0 i
    match a with
    | ⟨0, _⟩ => show (0 + 1) * 1 ≤ 4; omega
    | ⟨1, _⟩ => show (e 0 (min (i 0).val (n - 1)) + 1) * 1 ≤ 16; omega
    | ⟨2, _⟩ => show (0 + 1) * 1024 ≤ 1024; omega
    | ⟨3, _⟩ => show (0 + 1) * 256 ≤ 256; omega
  · rw [tr5 ok i]
    intro a
    have := hb 0 i
    match a with
    | ⟨0, _⟩ => show (0 + 1) * 1 ≤ 4; omega
    | ⟨1, _⟩ => show (e 0 (min (i 0).val (n - 1)) + 1) * 1 ≤ 16; omega
    | ⟨2, _⟩ => show (0 + 1) * 256 ≤ 256; omega
    | ⟨3, _⟩ => show (0 + 1) * 1024 ≤ 1024; omega
  · rw [tr6 ok i]
    intro a
    have := hb 1 i
    match a with
    | ⟨0, _⟩ => show (0 + 1) * 1 ≤ 4; omega
    | ⟨1, _⟩ => show (e 1 (min (i 0).val (n - 1)) + 1) * 1 ≤ 16; omega
    | ⟨2, _⟩ => show (0 + 1) * 1024 ≤ 1024; omega
    | ⟨3, _⟩ => show (0 + 1) * 256 ≤ 256; omega
  · rw [tr7 ok i]
    intro a
    have := hb 1 i
    match a with
    | ⟨0, _⟩ => show (0 + 1) * 1 ≤ 4; omega
    | ⟨1, _⟩ => show (e 1 (min (i 0).val (n - 1)) + 1) * 1 ≤ 16; omega
    | ⟨2, _⟩ => show (0 + 1) * 1024 ≤ 1024; omega
    | ⟨3, _⟩ => show (0 + 1) * 256 ≤ 256; omega
  · rw [tr8 ok i]
    intro a
    have := hb 1 i
    match a with
    | ⟨0, _⟩ => show (0 + 1) * 1 ≤ 4; omega
    | ⟨1, _⟩ => show (e 1 (min (i 0).val (n - 1)) + 1) * 1 ≤ 16; omega
    | ⟨2, _⟩ => show (0 + 1) * 256 ≤ 256; omega
    | ⟨3, _⟩ => show (0 + 1) * 1024 ≤ 1024; omega

end

/-- One of the body's two branches is taken at every tile: the output is stored. -/
theorem not_idle (pf : pre0.Contents (Elt F)) (i : grid0.Coords) : idle0 pf 9 i = false := by
  have h : ∀ k v : BitVec 32, (!((Scalar.cmpi .ne (Scalar.extui (Scalar.cmpi .slt k v) : BitVec 32) 0#32 : BitVec 1) == 1#1) && !((Scalar.cmpi .ne (Scalar.extui (Scalar.cmpi .sge k v) : BitVec 32) 0#32 : BitVec 1) == 1#1)) = false := by
    intro k v
    simp only [Scalar.cmpi, IntOp.cmpi]
    by_cases hc : k.slt v = true
    · rw [hc]; rfl
    · have hc' : k.slt v = false := by simpa using hc
      have : v.sle k = true := by
        simp only [BitVec.slt, BitVec.sle, decide_eq_true_eq, decide_eq_false_iff_not] at hc' ⊢; omega
      simp only [hc', this]; rfl
  exact h _ _

end Cert.ExpertsIdealBody
-- ==== Proof.ExpertsIdealRun.lean ====
/- The run of the experts' call: what each block holds, what the two scratches hold from tile to tile, and that the arguments end as they began. -/
module

public import proofs.«01_k».proof.Proof.ExpertsIdealTab
public import Idealize.ShloMosaic.Lib.Claim
public import Idealize.ShloMosaic.Lib.Ring

@[expose] public section

noncomputable section

namespace Cert.ExpertsIdealBody

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The host's operations before the call, stretch by stretch. -/
abbrev opss : List (List (HloOp τ sig (Elt F))) := [hostOps0, hostOps0_1, hostOps0_2]

/-- A core's buffers when the call begins. -/
abbrev V (c : Dev nD) (b : Ref sig .tc) : Buf (Elt F) ((c : Thread nD τ).loc b) := StableHlo.after (opss (F := F)).flatten (fun b => m (c, b)) b

/-- The host operations make no new arrays. -/
theorem ops_fresh : (opss (F := F)).Forall fun ops => ops.Forall fun op => op.fresh = ∅ := by
  simp only [List.Forall]; repeat' constructor

/-- The host operations work on the program's arrays. -/
theorem ops_sub : (opss (F := F)).Forall fun ops => ops.Forall fun op => op.bufs ⊆ StableHlo.tcRefs τ sig :=
  ⟨hostOps0_sub, hostOps0_1_sub, hostOps0_2_sub⟩

set_option maxHeartbeats 800000 in
/-- The program up to the call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main opss ops_sub ops_fresh main_chain

/-- No host operation writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [opss, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- No host operation writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [opss, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- No host operation writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [opss, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- No host operation writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [opss, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- No host operation writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [opss, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- No host operation writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [opss, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- No host operation writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [opss, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- No host operation writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [opss, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- No host operation writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [opss, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- The table the call prefetches. -/
def pf : pre0.Contents (Elt F) := fun k => V m 0 (pre0.ref k)

variable {n : Nat} {e : Fin 2 → Nat → Nat} (ok : TabOK (pf m 0) n e)

/-- The table as contents the call admits. -/
abbrev adm : (p : Fin 1) → (pcfgs (F := F) p).Adm := fun _ => ⟨pf m, ok_of_tab ok⟩

/-- The call at its table. -/
abbrev cfg := cfg0 (F := F) ⟨pf m, ok_of_tab ok⟩

/-- Window `w`'s block at a tile. -/
def iblk (c : Dev nD) (w : Fin 10) (t : Fin (cfg m ok).N) : (((cfg m ok).win w).xblock ((cfg m ok).grid.coords t)).Idx → Elt F ((cfg m ok).win w).elt :=
  (((cfg m ok).win w).blk t).view.read (Elt F) (V m c (Pipeline.arrRef spec0 w))

/-- Window 0's buffer holds its block at every tile. -/
theorem before_0_of {c : Dev nD} (dat : Dat τ (Elt F) Unit ℕ (UR sig nD τ) ℕ (cfg m ok) c) (hA : dat.A 0 = V m c (Pipeline.arrRef spec0 0))
    (hafter : ∀ t, dat.after 0 t = iblk m ok c 0 t) (t : Fin (cfg m ok).N) (d) : dat.before 0 t d = iblk m ok c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Window 1's buffer holds its block at every tile. -/
theorem before_1_of {c : Dev nD} (dat : Dat τ (Elt F) Unit ℕ (UR sig nD τ) ℕ (cfg m ok) c) (hA : dat.A 1 = V m c (Pipeline.arrRef spec0 1))
    (hafter : ∀ t, dat.after 1 t = iblk m ok c 1 t) (t : Fin (cfg m ok).N) (d) : dat.before 1 t d = iblk m ok c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Window 2's buffer holds its block at every tile. -/
theorem before_2_of {c : Dev nD} (dat : Dat τ (Elt F) Unit ℕ (UR sig nD τ) ℕ (cfg m ok) c) (hA : dat.A 2 = V m c (Pipeline.arrRef spec0 2))
    (hafter : ∀ t, dat.after 2 t = iblk m ok c 2 t) (t : Fin (cfg m ok).N) (d) : dat.before 2 t d = iblk m ok c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Window 3's buffer holds its block at every tile. -/
theorem before_3_of {c : Dev nD} (dat : Dat τ (Elt F) Unit ℕ (UR sig nD τ) ℕ (cfg m ok) c) (hA : dat.A 3 = V m c (Pipeline.arrRef spec0 3))
    (hafter : ∀ t, dat.after 3 t = iblk m ok c 3 t) (t : Fin (cfg m ok).N) (d) : dat.before 3 t d = iblk m ok c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Window 4's buffer holds its block at every tile. -/
theorem before_4_of {c : Dev nD} (dat : Dat τ (Elt F) Unit ℕ (UR sig nD τ) ℕ (cfg m ok) c) (hA : dat.A 4 = V m c (Pipeline.arrRef spec0 4))
    (hafter : ∀ t, dat.after 4 t = iblk m ok c 4 t) (t : Fin (cfg m ok).N) (d) : dat.before 4 t d = iblk m ok c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Window 5's buffer holds its block at every tile. -/
theorem before_5_of {c : Dev nD} (dat : Dat τ (Elt F) Unit ℕ (UR sig nD τ) ℕ (cfg m ok) c) (hA : dat.A 5 = V m c (Pipeline.arrRef spec0 5))
    (hafter : ∀ t, dat.after 5 t = iblk m ok c 5 t) (t : Fin (cfg m ok).N) (d) : dat.before 5 t d = iblk m ok c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Window 6's buffer holds its block at every tile. -/
theorem before_6_of {c : Dev nD} (dat : Dat τ (Elt F) Unit ℕ (UR sig nD τ) ℕ (cfg m ok) c) (hA : dat.A 6 = V m c (Pipeline.arrRef spec0 6))
    (hafter : ∀ t, dat.after 6 t = iblk m ok c 6 t) (t : Fin (cfg m ok).N) (d) : dat.before 6 t d = iblk m ok c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Window 7's buffer holds its block at every tile. -/
theorem before_7_of {c : Dev nD} (dat : Dat τ (Elt F) Unit ℕ (UR sig nD τ) ℕ (cfg m ok) c) (hA : dat.A 7 = V m c (Pipeline.arrRef spec0 7))
    (hafter : ∀ t, dat.after 7 t = iblk m ok c 7 t) (t : Fin (cfg m ok).N) (d) : dat.before 7 t d = iblk m ok c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Window 8's buffer holds its block at every tile. -/
theorem before_8_of {c : Dev nD} (dat : Dat τ (Elt F) Unit ℕ (UR sig nD τ) ℕ (cfg m ok) c) (hA : dat.A 8 = V m c (Pipeline.arrRef spec0 8))
    (hafter : ∀ t, dat.after 8 t = iblk m ok c 8 t) (t : Fin (cfg m ok).N) (d) : dat.before 8 t d = iblk m ok c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- A grid point's only coordinate is its number. -/
theorem coords_val : ∀ t : Fin grid0.N, (grid0.coords t 0).val = t.val := by decide +kernel

/-- One expert's block of gate or up weights. -/
def wsel (W : S4x16x1024x256.Idx → Elt F .f32) (k : Nat) : S1x1x1024x256.Idx → Elt F .f32 := fun y => W (ix4 0 (Fin.ofNat 16 k) (y 2) (y 3))

/-- One expert's block of down weights. -/
def dsel (W : S4x16x256x1024.Idx → Elt F .f32) (k : Nat) : S1x1x256x1024.Idx → Elt F .f32 := fun y => W (ix4 0 (Fin.ofNat 16 k) (y 2) (y 3))

/-- This block is the gate weights of the tile's expert. -/
theorem blk3 (c : Dev nD) (t : Fin (cfg m ok).N) : iblk m ok c 3 t = wsel (V m c main_arg6) (e 0 (min t.val (n - 1))) := by
  have hN : t.val < 55 := t.isLt
  have hlt := ok.lt16 0 (min t.val (n - 1)) (by have := ok.npos; omega)
  have hc := coords_val t
  have ht := tr3 ok (grid0.coords t)
  rw [hc] at ht
  unfold iblk wsel
  funext y
  refine congrArg (V m c main_arg6) (funext fun a => Fin.ext ?_)
  show cc0_transform_3 k0_off1_inb numel1_S1 (pf m) (grid0.coords t) a * _ + 1 * (y a).val = _
  rw [ht]
  match a with
  | ⟨0, _⟩ => show 0 * 1 + 1 * (y 0).val = 0; have : (y 0).val < 1 := (y 0).isLt; omega
  | ⟨1, _⟩ => show e 0 (min t.val (n - 1)) * 1 + 1 * (y 1).val = e 0 (min t.val (n - 1)) % 16; have : (y 1).val < 1 := (y 1).isLt; rw [Nat.mod_eq_of_lt hlt]; omega
  | ⟨2, _⟩ => show 0 * _ + 1 * (y 2).val = (y 2).val; omega
  | ⟨3, _⟩ => show 0 * _ + 1 * (y 3).val = (y 3).val; omega

/-- This block is the up weights of the tile's expert. -/
theorem blk4 (c : Dev nD) (t : Fin (cfg m ok).N) : iblk m ok c 4 t = wsel (V m c main_arg7) (e 0 (min t.val (n - 1))) := by
  have hN : t.val < 55 := t.isLt
  have hlt := ok.lt16 0 (min t.val (n - 1)) (by have := ok.npos; omega)
  have hc := coords_val t
  have ht := tr4 ok (grid0.coords t)
  rw [hc] at ht
  unfold iblk wsel
  funext y
  refine congrArg (V m c main_arg7) (funext fun a => Fin.ext ?_)
  show cc0_transform_4 k0_off1_inb numel1_S1 (pf m) (grid0.coords t) a * _ + 1 * (y a).val = _
  rw [ht]
  match a with
  | ⟨0, _⟩ => show 0 * 1 + 1 * (y 0).val = 0; have : (y 0).val < 1 := (y 0).isLt; omega
  | ⟨1, _⟩ => show e 0 (min t.val (n - 1)) * 1 + 1 * (y 1).val = e 0 (min t.val (n - 1)) % 16; have : (y 1).val < 1 := (y 1).isLt; rw [Nat.mod_eq_of_lt hlt]; omega
  | ⟨2, _⟩ => show 0 * _ + 1 * (y 2).val = (y 2).val; omega
  | ⟨3, _⟩ => show 0 * _ + 1 * (y 3).val = (y 3).val; omega

/-- This block is the down weights of the tile's expert. -/
theorem blk5 (c : Dev nD) (t : Fin (cfg m ok).N) : iblk m ok c 5 t = dsel (V m c main_arg8) (e 0 (min t.val (n - 1))) := by
  have hN : t.val < 55 := t.isLt
  have hlt := ok.lt16 0 (min t.val (n - 1)) (by have := ok.npos; omega)
  have hc := coords_val t
  have ht := tr5 ok (grid0.coords t)
  rw [hc] at ht
  unfold iblk dsel
  funext y
  refine congrArg (V m c main_arg8) (funext fun a => Fin.ext ?_)
  show cc0_transform_5 k0_off1_inb numel1_S1 (pf m) (grid0.coords t) a * _ + 1 * (y a).val = _
  rw [ht]
  match a with
  | ⟨0, _⟩ => show 0 * 1 + 1 * (y 0).val = 0; have : (y 0).val < 1 := (y 0).isLt; omega
  | ⟨1, _⟩ => show e 0 (min t.val (n - 1)) * 1 + 1 * (y 1).val = e 0 (min t.val (n - 1)) % 16; have : (y 1).val < 1 := (y 1).isLt; rw [Nat.mod_eq_of_lt hlt]; omega
  | ⟨2, _⟩ => show 0 * _ + 1 * (y 2).val = (y 2).val; omega
  | ⟨3, _⟩ => show 0 * _ + 1 * (y 3).val = (y 3).val; omega

/-- This block is the gate weights of the tile's expert. -/
theorem blk6 (c : Dev nD) (t : Fin (cfg m ok).N) : iblk m ok c 6 t = wsel (V m c main_arg6) (e 1 (min t.val (n - 1))) := by
  have hN : t.val < 55 := t.isLt
  have hlt := ok.lt16 1 (min t.val (n - 1)) (by have := ok.npos; omega)
  have hc := coords_val t
  have ht := tr6 ok (grid0.coords t)
  rw [hc] at ht
  unfold iblk wsel
  funext y
  refine congrArg (V m c main_arg6) (funext fun a => Fin.ext ?_)
  show cc0_transform_6 k0_off1_inb numel1_S1 (pf m) (grid0.coords t) a * _ + 1 * (y a).val = _
  rw [ht]
  match a with
  | ⟨0, _⟩ => show 0 * 1 + 1 * (y 0).val = 0; have : (y 0).val < 1 := (y 0).isLt; omega
  | ⟨1, _⟩ => show e 1 (min t.val (n - 1)) * 1 + 1 * (y 1).val = e 1 (min t.val (n - 1)) % 16; have : (y 1).val < 1 := (y 1).isLt; rw [Nat.mod_eq_of_lt hlt]; omega
  | ⟨2, _⟩ => show 0 * _ + 1 * (y 2).val = (y 2).val; omega
  | ⟨3, _⟩ => show 0 * _ + 1 * (y 3).val = (y 3).val; omega

/-- This block is the up weights of the tile's expert. -/
theorem blk7 (c : Dev nD) (t : Fin (cfg m ok).N) : iblk m ok c 7 t = wsel (V m c main_arg7) (e 1 (min t.val (n - 1))) := by
  have hN : t.val < 55 := t.isLt
  have hlt := ok.lt16 1 (min t.val (n - 1)) (by have := ok.npos; omega)
  have hc := coords_val t
  have ht := tr7 ok (grid0.coords t)
  rw [hc] at ht
  unfold iblk wsel
  funext y
  refine congrArg (V m c main_arg7) (funext fun a => Fin.ext ?_)
  show cc0_transform_7 k0_off1_inb numel1_S1 (pf m) (grid0.coords t) a * _ + 1 * (y a).val = _
  rw [ht]
  match a with
  | ⟨0, _⟩ => show 0 * 1 + 1 * (y 0).val = 0; have : (y 0).val < 1 := (y 0).isLt; omega
  | ⟨1, _⟩ => show e 1 (min t.val (n - 1)) * 1 + 1 * (y 1).val = e 1 (min t.val (n - 1)) % 16; have : (y 1).val < 1 := (y 1).isLt; rw [Nat.mod_eq_of_lt hlt]; omega
  | ⟨2, _⟩ => show 0 * _ + 1 * (y 2).val = (y 2).val; omega
  | ⟨3, _⟩ => show 0 * _ + 1 * (y 3).val = (y 3).val; omega

/-- This block is the down weights of the tile's expert. -/
theorem blk8 (c : Dev nD) (t : Fin (cfg m ok).N) : iblk m ok c 8 t = dsel (V m c main_arg8) (e 1 (min t.val (n - 1))) := by
  have hN : t.val < 55 := t.isLt
  have hlt := ok.lt16 1 (min t.val (n - 1)) (by have := ok.npos; omega)
  have hc := coords_val t
  have ht := tr8 ok (grid0.coords t)
  rw [hc] at ht
  unfold iblk dsel
  funext y
  refine congrArg (V m c main_arg8) (funext fun a => Fin.ext ?_)
  show cc0_transform_8 k0_off1_inb numel1_S1 (pf m) (grid0.coords t) a * _ + 1 * (y a).val = _
  rw [ht]
  match a with
  | ⟨0, _⟩ => show 0 * 1 + 1 * (y 0).val = 0; have : (y 0).val < 1 := (y 0).isLt; omega
  | ⟨1, _⟩ => show e 1 (min t.val (n - 1)) * 1 + 1 * (y 1).val = e 1 (min t.val (n - 1)) % 16; have : (y 1).val < 1 := (y 1).isLt; rw [Nat.mod_eq_of_lt hlt]; omega
  | ⟨2, _⟩ => show 0 * _ + 1 * (y 2).val = (y 2).val; omega
  | ⟨3, _⟩ => show 0 * _ + 1 * (y 3).val = (y 3).val; omega

/-- The first scratch after tile `t`. -/
def scrA (n : Nat) (e : Fin 2 → Nat → Nat) (c : Dev nD) (t : Nat) : Vec F S2x1024x512 .bf16 :=
  scr0 (wsel (V m c main_arg6) (e 0 (min t (n - 1)))) (wsel (V m c main_arg7) (e 0 (min t (n - 1)))) (wsel (V m c main_arg6) (e 1 (min t (n - 1)))) (wsel (V m c main_arg7) (e 1 (min t (n - 1))))

/-- The second scratch after tile `t`. -/
def scrB (n : Nat) (e : Fin 2 → Nat → Nat) (c : Dev nD) (t : Nat) : Vec F S2x256x1024 .bf16 :=
  scr1 (dsel (V m c main_arg8) (e 0 (min t (n - 1)))) (dsel (V m c main_arg8) (e 1 (min t (n - 1))))

/-- What a tile writes. -/
def outAt (c : Dev nD) (t : Fin (cfg m ok).N) : FVec F S512x1024 .f32 :=
  if t.val < n then Out (iblk m ok c 0 t) (iblk m ok c 1 t) (iblk m ok c 2 t) (scrA m n e c t.val) (scrB m n e c t.val) else k0_pay3

/-- What is kept from tile to tile: the two scratches at the weights of the tile before, and the table. -/
def Inv (n : Nat) (e : Fin 2 → Nat → Nat) (c : Dev nD) (t : Nat) : sProp (MT nD τ sig Unit (Elt F) ℕ (UR sig nD τ) ℕ) :=
  iprop(∃ (s0 : Vec F S2x1024x512 .bf16) (s1 : Vec F S2x256x1024 .bf16), ⌜t ≠ 0 → s0 = scrA m n e c (t - 1) ∧ s1 = scrB m n e c (t - 1)⌝
    ∗ owns (c : Thread nD τ) (Memref.whole cc0_scratch0) fullShare s0 ∗ owns (c : Thread nD τ) (Memref.whole cc0_scratch1) fullShare s1
    ∗ owns (c : Thread nD τ) (Memref.whole main_v18) fullShare.right (pf m 0) ∗ ∃ r, prngReg c r)

/-- The proof data of the call. -/
def dats (_ : Fin 1) (c : Dev nD) : Dat τ (Elt F) Unit ℕ (UR sig nD τ) ℕ (cfg m ok) c where
  A w := V m c (Pipeline.arrRef spec0 w)
  after w t := match w with
    | ⟨0, _⟩ => iblk m ok c 0 t
    | ⟨1, _⟩ => iblk m ok c 1 t
    | ⟨2, _⟩ => iblk m ok c 2 t
    | ⟨3, _⟩ => iblk m ok c 3 t
    | ⟨4, _⟩ => iblk m ok c 4 t
    | ⟨5, _⟩ => iblk m ok c 5 t
    | ⟨6, _⟩ => iblk m ok c 6 t
    | ⟨7, _⟩ => iblk m ok c 7 t
    | ⟨8, _⟩ => iblk m ok c 8 t
    | ⟨9, _⟩ => outAt m ok c t
  Φ t := Inv m n e c t.val
  q w := Pipeline.shareOf spec0 w
  owed _ := 0

/-- A window's array holds what the host left. -/
theorem A_eq (c : Dev nD) (w : Fin 10) : (dats m ok 0 c).A w = V m c (Pipeline.arrRef spec0 w) := by
  dsimp only [dats]

/-- After a tile, this block is as it was. -/
theorem after_0 (c : Dev nD) (t : Fin (cfg m ok).N) : (dats m ok 0 c).after 0 t = iblk m ok c 0 t := rfl
/-- After a tile, this block is as it was. -/
theorem after_1 (c : Dev nD) (t : Fin (cfg m ok).N) : (dats m ok 0 c).after 1 t = iblk m ok c 1 t := rfl
/-- After a tile, this block is as it was. -/
theorem after_2 (c : Dev nD) (t : Fin (cfg m ok).N) : (dats m ok 0 c).after 2 t = iblk m ok c 2 t := rfl
/-- After a tile, this block is as it was. -/
theorem after_3 (c : Dev nD) (t : Fin (cfg m ok).N) : (dats m ok 0 c).after 3 t = iblk m ok c 3 t := rfl
/-- After a tile, this block is as it was. -/
theorem after_4 (c : Dev nD) (t : Fin (cfg m ok).N) : (dats m ok 0 c).after 4 t = iblk m ok c 4 t := rfl
/-- After a tile, this block is as it was. -/
theorem after_5 (c : Dev nD) (t : Fin (cfg m ok).N) : (dats m ok 0 c).after 5 t = iblk m ok c 5 t := rfl
/-- After a tile, this block is as it was. -/
theorem after_6 (c : Dev nD) (t : Fin (cfg m ok).N) : (dats m ok 0 c).after 6 t = iblk m ok c 6 t := rfl
/-- After a tile, this block is as it was. -/
theorem after_7 (c : Dev nD) (t : Fin (cfg m ok).N) : (dats m ok 0 c).after 7 t = iblk m ok c 7 t := rfl
/-- After a tile, this block is as it was. -/
theorem after_8 (c : Dev nD) (t : Fin (cfg m ok).N) : (dats m ok 0 c).after 8 t = iblk m ok c 8 t := rfl
/-- After a tile, the result block holds the tile's result. -/
theorem after_9 (c : Dev nD) (t : Fin (cfg m ok).N) : (dats m ok 0 c).after 9 t = outAt m ok c t := rfl

/-- Before a tile, this block is the array's. -/
theorem before_0 (c : Dev nD) (t : Fin (cfg m ok).N) (d) : (dats m ok 0 c).before 0 t d = iblk m ok c 0 t :=
  before_0_of m ok (dats m ok 0 c) (A_eq m ok c 0) (after_0 m ok c) t d
/-- Before a tile, this block is the array's. -/
theorem before_1 (c : Dev nD) (t : Fin (cfg m ok).N) (d) : (dats m ok 0 c).before 1 t d = iblk m ok c 1 t :=
  before_1_of m ok (dats m ok 0 c) (A_eq m ok c 1) (after_1 m ok c) t d
/-- Before a tile, this block is the array's. -/
theorem before_2 (c : Dev nD) (t : Fin (cfg m ok).N) (d) : (dats m ok 0 c).before 2 t d = iblk m ok c 2 t :=
  before_2_of m ok (dats m ok 0 c) (A_eq m ok c 2) (after_2 m ok c) t d
/-- Before a tile, this block is the array's. -/
theorem before_3 (c : Dev nD) (t : Fin (cfg m ok).N) (d) : (dats m ok 0 c).before 3 t d = iblk m ok c 3 t :=
  before_3_of m ok (dats m ok 0 c) (A_eq m ok c 3) (after_3 m ok c) t d
/-- Before a tile, this block is the array's. -/
theorem before_4 (c : Dev nD) (t : Fin (cfg m ok).N) (d) : (dats m ok 0 c).before 4 t d = iblk m ok c 4 t :=
  before_4_of m ok (dats m ok 0 c) (A_eq m ok c 4) (after_4 m ok c) t d
/-- Before a tile, this block is the array's. -/
theorem before_5 (c : Dev nD) (t : Fin (cfg m ok).N) (d) : (dats m ok 0 c).before 5 t d = iblk m ok c 5 t :=
  before_5_of m ok (dats m ok 0 c) (A_eq m ok c 5) (after_5 m ok c) t d
/-- Before a tile, this block is the array's. -/
theorem before_6 (c : Dev nD) (t : Fin (cfg m ok).N) (d) : (dats m ok 0 c).before 6 t d = iblk m ok c 6 t :=
  before_6_of m ok (dats m ok 0 c) (A_eq m ok c 6) (after_6 m ok c) t d
/-- Before a tile, this block is the array's. -/
theorem before_7 (c : Dev nD) (t : Fin (cfg m ok).N) (d) : (dats m ok 0 c).before 7 t d = iblk m ok c 7 t :=
  before_7_of m ok (dats m ok 0 c) (A_eq m ok c 7) (after_7 m ok c) t d
/-- Before a tile, this block is the array's. -/
theorem before_8 (c : Dev nD) (t : Fin (cfg m ok).N) (d) : (dats m ok 0 c).before 8 t d = iblk m ok c 8 t :=
  before_8_of m ok (dats m ok 0 c) (A_eq m ok c 8) (after_8 m ok c) t d

/-- The body at a tile, on the buffers the pipeline hands it. -/
abbrev bodyAt (t : Fin (cfg m ok).N) : Prog (TpuEff nD τ sig (Elt F) Λ₀ .tc) PUnit :=
  cc0_moe_experts (grid0.coords t) (Memref.whole main_v18) (Memref.isWhole_whole _) (spec0_0.stage ((cfg m ok).slots t 0)) (hstage0_0 (((cfg m ok).slots t 0).cast nbuf0_0)) (spec0_1.stage ((cfg m ok).slots t 1)) (hstage0_1 (((cfg m ok).slots t 1).cast nbuf0_1)) (spec0_2.stage ((cfg m ok).slots t 2)) (hstage0_2 (((cfg m ok).slots t 2).cast nbuf0_2)) (spec0_3.stage ((cfg m ok).slots t 3)) (hstage0_3 (((cfg m ok).slots t 3).cast nbuf0_3)) (spec0_4.stage ((cfg m ok).slots t 4)) (hstage0_4 (((cfg m ok).slots t 4).cast nbuf0_4)) (spec0_5.stage ((cfg m ok).slots t 5)) (hstage0_5 (((cfg m ok).slots t 5).cast nbuf0_5)) (spec0_6.stage ((cfg m ok).slots t 6)) (hstage0_6 (((cfg m ok).slots t 6).cast nbuf0_6)) (spec0_7.stage ((cfg m ok).slots t 7)) (hstage0_7 (((cfg m ok).slots t 7).cast nbuf0_7)) (spec0_8.stage ((cfg m ok).slots t 8)) (hstage0_8 (((cfg m ok).slots t 8).cast nbuf0_8)) (spec0_9.stage ((cfg m ok).slots t 9)) (hstage0_9 (((cfg m ok).slots t 9).cast nbuf0_9)) (Memref.whole cc0_scratch0) (Memref.isWhole_whole _) (Memref.whole cc0_scratch1) (Memref.isWhole_whole _)

/-- What the body is called with at a tile. -/
def bodyPre (c : Dev nD) (t : Fin (cfg m ok).N) : sProp (MT nD τ sig Unit (Elt F) ℕ (UR sig nD τ) ℕ) :=
  iprop((dats m ok 0 c).Φ t.castSucc ∗ (dats m ok 0 c).owesAt () t.castSucc
    ∗ (∃ d, owns (c : Thread nD τ) (spec0_0.stage ((cfg m ok).slots t 0)) fullShare ((dats m ok 0 c).before 0 t d))
    ∗ (∃ d, owns (c : Thread nD τ) (spec0_1.stage ((cfg m ok).slots t 1)) fullShare ((dats m ok 0 c).before 1 t d))
    ∗ (∃ d, owns (c : Thread nD τ) (spec0_2.stage ((cfg m ok).slots t 2)) fullShare ((dats m ok 0 c).before 2 t d))
    ∗ (∃ d, owns (c : Thread nD τ) (spec0_3.stage ((cfg m ok).slots t 3)) fullShare ((dats m ok 0 c).before 3 t d))
    ∗ (∃ d, owns (c : Thread nD τ) (spec0_4.stage ((cfg m ok).slots t 4)) fullShare ((dats m ok 0 c).before 4 t d))
    ∗ (∃ d, owns (c : Thread nD τ) (spec0_5.stage ((cfg m ok).slots t 5)) fullShare ((dats m ok 0 c).before 5 t d))
    ∗ (∃ d, owns (c : Thread nD τ) (spec0_6.stage ((cfg m ok).slots t 6)) fullShare ((dats m ok 0 c).before 6 t d))
    ∗ (∃ d, owns (c : Thread nD τ) (spec0_7.stage ((cfg m ok).slots t 7)) fullShare ((dats m ok 0 c).before 7 t d))
    ∗ (∃ d, owns (c : Thread nD τ) (spec0_8.stage ((cfg m ok).slots t 8)) fullShare ((dats m ok 0 c).before 8 t d))
    ∗ (∃ d, owns (c : Thread nD τ) (spec0_9.stage ((cfg m ok).slots t 9)) fullShare ((dats m ok 0 c).before 9 t d)))

/-- What it returns. -/
def bodyPost (c : Dev nD) (t : Fin (cfg m ok).N) : sProp (MT nD τ sig Unit (Elt F) ℕ (UR sig nD τ) ℕ) :=
  iprop((dats m ok 0 c).Φ t.succ ∗ (dats m ok 0 c).owesAt () t.succ
    ∗ owns (c : Thread nD τ) (spec0_0.stage ((cfg m ok).slots t 0)) fullShare ((dats m ok 0 c).after 0 t)
    ∗ owns (c : Thread nD τ) (spec0_1.stage ((cfg m ok).slots t 1)) fullShare ((dats m ok 0 c).after 1 t)
    ∗ owns (c : Thread nD τ) (spec0_2.stage ((cfg m ok).slots t 2)) fullShare ((dats m ok 0 c).after 2 t)
    ∗ owns (c : Thread nD τ) (spec0_3.stage ((cfg m ok).slots t 3)) fullShare ((dats m ok 0 c).after 3 t)
    ∗ owns (c : Thread nD τ) (spec0_4.stage ((cfg m ok).slots t 4)) fullShare ((dats m ok 0 c).after 4 t)
    ∗ owns (c : Thread nD τ) (spec0_5.stage ((cfg m ok).slots t 5)) fullShare ((dats m ok 0 c).after 5 t)
    ∗ owns (c : Thread nD τ) (spec0_6.stage ((cfg m ok).slots t 6)) fullShare ((dats m ok 0 c).after 6 t)
    ∗ owns (c : Thread nD τ) (spec0_7.stage ((cfg m ok).slots t 7)) fullShare ((dats m ok 0 c).after 7 t)
    ∗ owns (c : Thread nD τ) (spec0_8.stage ((cfg m ok).slots t 8)) fullShare ((dats m ok 0 c).after 8 t)
    ∗ owns (c : Thread nD τ) (spec0_9.stage ((cfg m ok).slots t 9)) fullShare ((dats m ok 0 c).after 9 t))

/-- The scratches' weights, from the blocks. -/
theorem scrA_eq (c : Dev nD) (t : Fin (cfg m ok).N) : scr0 (iblk m ok c 3 t) (iblk m ok c 4 t) (iblk m ok c 6 t) (iblk m ok c 7 t) = scrA m n e c t.val := by
  rw [blk3, blk4, blk6, blk7]; rfl
/-- The down scratch filled from the tile's blocks. -/
theorem scrB_eq (c : Dev nD) (t : Fin (cfg m ok).N) : scr1 (iblk m ok c 5 t) (iblk m ok c 8 t) = scrB m n e c t.val := by
  rw [blk5, blk8]; rfl

/-- Two tiles with the same experts leave the same weights in the scratches. -/
theorem scrA_congr (c : Dev nD) (t t' : Nat) (h : ∀ r : Fin 2, e r (min t (n - 1)) = e r (min t' (n - 1))) : scrA m n e c t = scrA m n e c t' := by
  unfold scrA; rw [h 0, h 1]
/-- The down scratch is the same when the experts are. -/
theorem scrB_congr (c : Dev nD) (t t' : Nat) (h : ∀ r : Fin 2, e r (min t (n - 1)) = e r (min t' (n - 1))) : scrB m n e c t = scrB m n e c t' := by
  unfold scrB; rw [h 0, h 1]

set_option maxHeartbeats 1600000 in
/-- The body at any tile: from the scratches of the tile before to the scratches of this one. -/
theorem triple (c : Dev nD) (t : Fin (cfg m ok).N) (s0 : Vec F S2x1024x512 .bf16) (s1 : Vec F S2x256x1024 .bf16)
    (hs : t.val ≠ 0 → s0 = scrA m n e c (t.val - 1) ∧ s1 = scrB m n e c (t.val - 1)) :
    Triple c (grid0.coords t) fullShare.right (Memref.whole main_v18) (Memref.isWhole_whole _) (spec0_0.stage ((cfg m ok).slots t 0)) (hstage0_0 (((cfg m ok).slots t 0).cast nbuf0_0)) (spec0_1.stage ((cfg m ok).slots t 1)) (hstage0_1 (((cfg m ok).slots t 1).cast nbuf0_1)) (spec0_2.stage ((cfg m ok).slots t 2)) (hstage0_2 (((cfg m ok).slots t 2).cast nbuf0_2)) (spec0_3.stage ((cfg m ok).slots t 3)) (hstage0_3 (((cfg m ok).slots t 3).cast nbuf0_3)) (spec0_4.stage ((cfg m ok).slots t 4)) (hstage0_4 (((cfg m ok).slots t 4).cast nbuf0_4)) (spec0_5.stage ((cfg m ok).slots t 5)) (hstage0_5 (((cfg m ok).slots t 5).cast nbuf0_5)) (spec0_6.stage ((cfg m ok).slots t 6)) (hstage0_6 (((cfg m ok).slots t 6).cast nbuf0_6)) (spec0_7.stage ((cfg m ok).slots t 7)) (hstage0_7 (((cfg m ok).slots t 7).cast nbuf0_7)) (spec0_8.stage ((cfg m ok).slots t 8)) (hstage0_8 (((cfg m ok).slots t 8).cast nbuf0_8)) (spec0_9.stage ((cfg m ok).slots t 9)) (hstage0_9 (((cfg m ok).slots t 9).cast nbuf0_9)) (Memref.whole cc0_scratch0) (Memref.isWhole_whole _) (Memref.whole cc0_scratch1) (Memref.isWhole_whole _) (pf m 0) (iblk m ok c 0 t) (iblk m ok c 1 t) (iblk m ok c 2 t) (iblk m ok c 3 t) (iblk m ok c 4 t) (iblk m ok c 5 t) (iblk m ok c 6 t) (iblk m ok c 7 t) (iblk m ok c 8 t) s0 s1 (scrA m n e c t.val) (scrB m n e c t.val) (outAt m ok c t) := by
  have hc := coords_val t
  have hk := chk (F := F) ok (grid0.coords t)
  have hA := scrA_eq m ok c t
  have hB := scrB_eq m ok c t
  by_cases hlt : t.val < n
  · have h2 : k0_cond2 (grid0.coords t) (word (F := F) (pf m 0) ![256] inb_S1024_S1_256) = 1#1 := (cond2_iff ok _).2 (by rw [hc]; exact hlt)
    have h3 : ¬ k0_cond3 (grid0.coords t) (word (F := F) (pf m 0) ![256] inb_S1024_S1_256) = 1#1 := fun h => absurd ((cond3_iff ok _).1 h) (by rw [hc]; omega)
    have ho : outAt m ok c t = Out (iblk m ok c 0 t) (iblk m ok c 1 t) (iblk m ok c 2 t) (scrA m n e c t.val) (scrB m n e c t.val) := by
      unfold outAt; rw [if_pos hlt]
    rw [ho]
    by_cases hch : changed (grid0.coords t) (word (F := F) (pf m 0) _ (k0_off2_inb (grid0.coords t) _ hk 0)) (word (F := F) (pf m 0) _ (k0_off3_inb (grid0.coords t) _ hk 0)) (word (F := F) (pf m 0) _ (k0_off2_inb (grid0.coords t) _ hk 1)) (word (F := F) (pf m 0) _ (k0_off3_inb (grid0.coords t) _ hk 1)) = 1#1
    · rw [← hA, ← hB]
      exact run_new_lt c (grid0.coords t) fullShare.right _ _ _ _ _ _ _ _ _ _ _ _ _ _ _ _ _ _ _ _ _ _ _ _ _ _ (pf m 0) (iblk m ok c 0 t) (iblk m ok c 1 t) (iblk m ok c 2 t) (iblk m ok c 3 t) (iblk m ok c 4 t) (iblk m ok c 5 t) (iblk m ok c 6 t) (iblk m ok c 7 t) (iblk m ok c 8 t) s0 s1 hk hch h2 h3
    · obtain ⟨h0, hsame⟩ := same_experts ok _ hk hch
      rw [hc] at h0 hsame
      obtain ⟨e0, e1⟩ := hs h0
      rw [scrA_congr m c t.val (t.val - 1) hsame, scrB_congr m c t.val (t.val - 1) hsame, ← e0, ← e1]
      exact run_old_lt c (grid0.coords t) fullShare.right _ _ _ _ _ _ _ _ _ _ _ _ _ _ _ _ _ _ _ _ _ _ _ _ _ _ (pf m 0) (iblk m ok c 0 t) (iblk m ok c 1 t) (iblk m ok c 2 t) (iblk m ok c 3 t) (iblk m ok c 4 t) (iblk m ok c 5 t) (iblk m ok c 6 t) (iblk m ok c 7 t) (iblk m ok c 8 t) s0 s1 hk hch h2 h3
  · have h2 : ¬ k0_cond2 (grid0.coords t) (word (F := F) (pf m 0) ![256] inb_S1024_S1_256) = 1#1 := fun h => absurd ((cond2_iff ok _).1 h) (by rw [hc]; exact hlt)
    have h3 : k0_cond3 (grid0.coords t) (word (F := F) (pf m 0) ![256] inb_S1024_S1_256) = 1#1 := (cond3_iff ok _).2 (by rw [hc]; omega)
    have ho : outAt m ok c t = k0_pay3 := by
      unfold outAt; rw [if_neg hlt]
    rw [ho]
    by_cases hch : changed (grid0.coords t) (word (F := F) (pf m 0) _ (k0_off2_inb (grid0.coords t) _ hk 0)) (word (F := F) (pf m 0) _ (k0_off3_inb (grid0.coords t) _ hk 0)) (word (F := F) (pf m 0) _ (k0_off2_inb (grid0.coords t) _ hk 1)) (word (F := F) (pf m 0) _ (k0_off3_inb (grid0.coords t) _ hk 1)) = 1#1
    · rw [← hA, ← hB]
      exact run_new_ge c (grid0.coords t) fullShare.right _ _ _ _ _ _ _ _ _ _ _ _ _ _ _ _ _ _ _ _ _ _ _ _ _ _ (pf m 0) (iblk m ok c 0 t) (iblk m ok c 1 t) (iblk m ok c 2 t) (iblk m ok c 3 t) (iblk m ok c 4 t) (iblk m ok c 5 t) (iblk m ok c 6 t) (iblk m ok c 7 t) (iblk m ok c 8 t) s0 s1 hk hch h2 h3
    · obtain ⟨h0, hsame⟩ := same_experts ok _ hk hch
      rw [hc] at h0 hsame
      obtain ⟨e0, e1⟩ := hs h0
      rw [scrA_congr m c t.val (t.val - 1) hsame, scrB_congr m c t.val (t.val - 1) hsame, ← e0, ← e1]
      exact run_old_ge c (grid0.coords t) fullShare.right _ _ _ _ _ _ _ _ _ _ _ _ _ _ _ _ _ _ _ _ _ _ _ _ _ _ (pf m 0) (iblk m ok c 0 t) (iblk m ok c 1 t) (iblk m ok c 2 t) (iblk m ok c 3 t) (iblk m ok c 4 t) (iblk m ok c 5 t) (iblk m ok c 6 t) (iblk m ok c 7 t) (iblk m ok c 8 t) s0 s1 hk hch h2 h3

set_option maxHeartbeats 1600000 in
/-- The body at any tile. -/
theorem sound_body (c : Dev nD) (t : Fin (cfg m ok).N) :
    bodyPre m ok c t ⊢ wp frame (wpE (defs₀ (F := F)) Variants.none c none) Set.univ (bodyAt m ok t) (fun _ => bodyPost m ok c t) := by
  unfold bodyPre bodyPost bodyAt
  simp only [before_0, before_1, before_2, before_3, before_4, before_5, before_6, before_7, before_8]
  rw [show (dats m ok 0 c).Φ t.succ = Inv m n e c (t.val + 1) from rfl,
    show (dats m ok 0 c).Φ t.castSucc = Inv m n e c t.val from rfl,
    show (dats m ok 0 c).owesAt () t.succ = (dats m ok 0 c).owesAt () t.castSucc from rfl,
    after_0, after_1, after_2, after_3, after_4, after_5, after_6, after_7, after_8, after_9]
  unfold Inv
  iintro ⟨⟨%s0, %s1, %hs, HA, HB, HT, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have tri := triple m ok c t s0 s1 hs
  unfold Triple at tri
  iapply (tri _)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HA]; · iexact HA
  isplitl [HB]; · iexact HB
  iintro ⟨HT, H0, H1, H2, H3, H4, H5, H6, H7, H8, H9, HA, HB⟩
  isplitl [HA HB HT HP]
  · iexists (scrA m n e c t.val), (scrB m n e c t.val)
    isplitr
    · ipureintro; exact fun _ => ⟨rfl, rfl⟩
    isplitl [HA]; · iexact HA
    isplitl [HB]; · iexact HB
    isplitl [HT]; · iexact HT
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at a tile's buffers is the body as written above. -/
theorem defs₀_row (t : Fin (cfg m ok).N) :
    defs₀ (F := F) .tc (cfg m ok).body ((cfg m ok).bodyArgs t ((cfg m ok).slots t)) = bodyAt m ok t := by
  unfold defs₀; rw [Defs.onTc_tc]

end Cert.ExpertsIdealBody
-- ==== Proof.ExpertsIdealFrame.lean ====
/- The launch of the experts' call: its frame. -/
module

public import proofs.«01_k».proof.Proof.ExpertsIdealRun

@[expose] public section

noncomputable section

namespace Cert.ExpertsIdealBody

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

variable {n : Nat} {e : Fin 2 → Nat → Nat} (ok : TabOK (pf m 0) n e)

/-- A body obligation where no window is ever idle. -/
theorem obligation_of_live {cfg : Pipeline.Cfg sig Λ₀} {c : Dev nD} (dat : Dat τ (Elt F) Unit ℕ (UR sig nD τ) ℕ cfg c)
    (hidle : ∀ t w, cfg.idle w (cfg.grid.coords t) = false)
    (h : ∀ t : Fin cfg.N, iprop(dat.Φ t.castSucc ∗ dat.owesAt () t.castSucc
        ∗ bigSep Finset.univ fun w : Fin cfg.W => iprop(∃ d, owns (c : Thread nD τ) ((cfg.win w).stage (cfg.slots t w)) fullShare (dat.before w t d)))
      ⊢ wp frame (wpE (defs₀ (F := F)) Variants.none c none) Set.univ (defs₀ .tc cfg.body (cfg.bodyArgs t (cfg.slots t))) fun _ =>
        iprop(dat.Φ t.succ ∗ dat.owesAt () t.succ
          ∗ bigSep Finset.univ fun w : Fin cfg.W => owns (c : Thread nD τ) ((cfg.win w).stage (cfg.slots t w)) fullShare (dat.after w t))) :
    BodyObligation dat (defs₀ (F := F)) Variants.none () Set.univ := fun t => by
  simp only [hidle]
  exact h t

/-- No window is idle at any tile. -/
theorem no_idle (a : (pcfg0 (F := F)).Adm) (i : grid0.Coords) (w : Fin 10) : (cfg0 a).idle w i = false := by
  show idle0 a.1 w i = false
  match w with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => exact not_idle a.1 i

/-- The pipeline's obligation of the body, at every tile. -/
theorem body_obligation (c : Dev nD) : BodyObligation (dats (F := F) m ok 0 c) (defs₀ (F := F)) Variants.none () Set.univ :=
  obligation_of_live (dats m ok 0 c) (fun _ w => no_idle _ _ w) fun t => by
    rw [bigSep_W0, bigSep_W0, defs₀_row]
    exact triple_restated (sound_body m ok c t) rfl .rfl fun _ => .rfl

set_option backward.isDefEq.respectTransparency.types false in
/-- The launch hands the body its scratches and its table. -/
theorem inv_in (c : Dev nD) : iprop(Pipeline.ΦA (Val := Elt F) (U := UR sig nD τ) spec0 c ∗ Pipeline.ΦT (U := UR sig nD τ) pre0 (pf m) c) ⊢ (Inv m n e c 0 : sProp (MT nD τ sig Unit (Elt F) ℕ (UR sig nD τ) ℕ)) := by
  unfold Pipeline.ΦA Inv
  rw [scopedRest0_eq]
  unfold Pipeline.ΦT Pipeline.prefHeld
  have hT : (owns (c : Thread nD τ) (Memref.whole main_v18) fullShare.right (pf m 0) : sProp (MT nD τ sig Unit (Elt F) ℕ (UR sig nD τ) ℕ)) = ((c : Thread nD τ).loc main_v18 ↦{fullShare.right} pf m 0) := owns_whole (c : Thread nD τ) main_v18 fullShare.right (pf m 0)
  rw [show (Finset.univ : Finset (Fin pre0.K)) = {(0 : Fin 1)} from rfl, bigSep_singleton]
  iintro ⟨⟨⟨⟨%fA, HA⟩, ⟨%fB, HB⟩⟩, HP⟩, HT⟩
  iexists fA, fB
  isplitr
  · ipureintro; exact fun h => absurd rfl h
  rw [owns_whole (c : Thread nD τ) cc0_scratch0, owns_whole (c : Thread nD τ) cc0_scratch1, hT]
  isplitl [HA]; · iexact HA
  isplitl [HB]; · iexact HB
  isplitl [HT]; · iexact HT
  iexact HP

/-- A whole buffer owned at some contents is its points-to at some contents. -/
theorem owned_out (c : Dev nD) (b : Ref sig .tc) (X : b.ty.Contents (Elt F)) :
    (owns (c : Thread nD τ) (Memref.whole b) fullShare X : sProp (MT nD τ sig Unit (Elt F) ℕ (UR sig nD τ) ℕ)) ⊢ iprop(∃ f, ((c : Thread nD τ).loc b) ↦{fullShare} f) := by
  rw [owns_whole (c : Thread nD τ) b]
  iintro H; iexists X; iexact H

/-- And takes the scratches back. -/
theorem inv_out (c : Dev nD) (t : Nat) : (Inv m n e c t : sProp (MT nD τ sig Unit (Elt F) ℕ (UR sig nD τ) ℕ)) ⊢ Pipeline.ΦA (Val := Elt F) (U := UR sig nD τ) spec0 c := by
  unfold Pipeline.ΦA Inv
  rw [scopedRest0_eq]
  iintro ⟨%s0, %s1, -, HA, HB, -, HP⟩
  isplitl [HA HB]
  · isplitl [HA]
    · iapply (owned_out c cc0_scratch0 s0); iexact HA
    iapply (owned_out c cc0_scratch1 s1); iexact HB
  iexact HP

set_option backward.isDefEq.respectTransparency.types false in
set_option maxHeartbeats 1600000 in
/-- The run: every array of the call ends as the pipeline computes it from the proof data, every other buffer as the call found it,
    and every semaphore counter ends at zero. -/
theorem run_quiescent : θ_run defs (onTc (τ := τ) (main (F := F))) (s₀ m ρ) (fun r => (Pipeline.FramePost (Pipeline.pin pcfgs (adm m ok)) (dats m ok) 0 (V m)) r ∧ r.2.sem = fun _ => 0) :=
  Pipeline.θ_run_frameP_track_shared (Q' := _) pcfgs (adm m ok) (dats m ok) (0 : Fin 1) launch₀0 defs₀ Variants.none m ρ main
    (hbody := fun c => (body_obligation m ok c).loose) (hq := fun _ _ _ => rfl)
    (howed := fun _ _ => rfl) (V := V m) (hmain := hmain m Variants.none) (hA := A_eq m ok)
    (hpf := fun c k => by obtain rfl : c = 0 := Subsingleton.elim _ _; rfl)
    (hin := fun c => inv_in m c) (hout := fun c => inv_out m c _)

/-- What a run of the whole program leaves. -/
theorem run_main : θ_run defs (onTc (τ := τ) (main (F := F))) (s₀ m ρ) (Pipeline.FramePost (Pipeline.pin pcfgs (adm m ok)) (dats m ok) 0 (V m)) :=
  (θ_run defs _ _).mono (fun _ h => h.1) (run_quiescent m ρ ok)

include ok in
/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (show ∀ w : Fin 10, (spec0 w).arr.view.ref ≠ main_arg0 by decide))).trans (V_main_arg0 m c),
      ((h c).2 main_arg1 (Pipeline.mem_restRefs_of main_arg1 (by decide) (show ∀ w : Fin 10, (spec0 w).arr.view.ref ≠ main_arg1 by decide))).trans (V_main_arg1 m c),
      ((h c).2 main_arg2 (Pipeline.mem_restRefs_of main_arg2 (by decide) (show ∀ w : Fin 10, (spec0 w).arr.view.ref ≠ main_arg2 by decide))).trans (V_main_arg2 m c),
      ((h c).2 main_arg3 (Pipeline.mem_restRefs_of main_arg3 (by decide) (show ∀ w : Fin 10, (spec0 w).arr.view.ref ≠ main_arg3 by decide))).trans (V_main_arg3 m c),
      ((h c).2 main_arg4 (Pipeline.mem_restRefs_of main_arg4 (by decide) (show ∀ w : Fin 10, (spec0 w).arr.view.ref ≠ main_arg4 by decide))).trans (V_main_arg4 m c),
      ((h c).2 main_arg5 (Pipeline.mem_restRefs_of main_arg5 (by decide) (show ∀ w : Fin 10, (spec0 w).arr.view.ref ≠ main_arg5 by decide))).trans (V_main_arg5 m c),
      ((((h c).1 3).trans (Dat.arrAt_in (dats m ok 0 c) 3 rfl _)).trans (A_eq m ok c 3)).trans (V_main_arg6 m c),
      ((((h c).1 4).trans (Dat.arrAt_in (dats m ok 0 c) 4 rfl _)).trans (A_eq m ok c 4)).trans (V_main_arg7 m c),
      ((((h c).1 5).trans (Dat.arrAt_in (dats m ok 0 c) 5 rfl _)).trans (A_eq m ok c 5)).trans (V_main_arg8 m c)⟩) (run_main m ρ ok)

include ok in
/-- The frame: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ ok) ((θ_run defs _ _).mono (fun _ h => h.2) (run_quiescent m ρ ok))

end Cert.ExpertsIdealBody
-- ==== Proof.ExpertsIdealHost.lean ====
/- What the experts' call is given by the host operations before it, over exact numbers: the tokens with their two
   routing weights and stream number beside them, the table of shifts, scales and gates, and the norm's gain. -/
module

public import proofs.«01_k».proof.Proof.ExpertsIdealRow
public import proofs.«01_k».proof.Proof.ExpertsIdealFrame

@[expose] public section

set_option maxRecDepth 16384

noncomputable section

namespace Cert.ExpertsIdealHost

open Cert.ExpertsIdeal Cert.ExpertsIdeal.Gen Cert.ExpertsIdealBody Cert.ExpertsIdealRow Idealize.ShloMosaic Idealize.ShloMosaic.TcCoe Idealize.SL.Sem

variable {F : FTy → Type} [FloatOps F]

/-- The tokens, each row followed by its two routing weights, its stream number and zeros. -/
def xLay (x : FVec F S28160x1024 .f32) (w : FVec F S28160x2 .f32) (st : IVec S28160 32) : FVec F S28160x1152 .f32 :=
  concatenate S28160x1152 1 [⟨S28160x1024, x⟩, ⟨S28160x128, concatenate S28160x128 1 [⟨S28160x2, w⟩, ⟨S28160x1, broadcastInDim S28160x1 ![0] bcast_S28160_S28160x1_0 (sitofp .f32 st)⟩,
    ⟨S28160x125, broadcastInDim S28160x125 ![] bcast_S_S28160x125 (constant S_ .f32 0x00000000#32)⟩] concatenates_S28160x2_S28160x1_S28160x125_S28160x128_d1⟩] concatenates_S28160x1024_S28160x128_S28160x1152_d1

/-- The table of the layer's shifts, scales and gates, a row for each stream. -/
def tLay (mod : FVec F S4x6x3x1x1024 .f32) : FVec F S9x1024 .f32 :=
  shapeCast S9x1024 (shapeCast S3x3x1024 (extractStridedSlice S1x3x3x1x1024 ![0, 3, 0, 0, 0] mod slices_S4x6x3x1x1024_S1x3x3x1x1024_0_3_0_0_0) shapeCasts_S1x3x3x1x1024_S3x3x1024) shapeCasts_S3x3x1024_S9x1024

/-- The layer's gain. -/
def gLay (g : FVec F S4x1024 .f32) : FVec F S1x1024 .f32 :=
  broadcastInDim S1x1024 ![1] bcast_S1024_S1x1024_1 (shapeCast S1024 (extractStridedSlice S1x1024 ![0, 0] g slices_S4x1024_S1x1024_0_0) shapeCasts_S1x1024_S1024)

variable (m : (ℓ : Loc nD τ sig) → Buf (Elt F) ℓ) (c : Dev nD)

set_option maxHeartbeats 4000000 in
/-- The rows array the host lays out. -/
theorem V_x : V m c main_v4 = xLay (m ((c : Thread nD τ).loc main_arg0)) (m ((c : Thread nD τ).loc main_arg1)) (m ((c : Thread nD τ).loc main_arg2)) := by
  unfold V opss; entry_read; rfl
/-- The modulation table the host lays out. -/
theorem V_t : V m c main_v7 = tLay (m ((c : Thread nD τ).loc main_arg4)) := by
  unfold V opss; entry_read; rfl
/-- The gain row the host lays out. -/
theorem V_g : V m c main_v10 = gLay (m ((c : Thread nD τ).loc main_arg5)) := by
  unfold V opss; entry_read; rfl

/-- The first 1024 lanes of a laid out row are the token. -/
theorem xLay_tok (x : FVec Ideal S28160x1024 .f32) (w : FVec Ideal S28160x2 .f32) (st : IVec S28160 32) (r : Fin 28160) (k : Fin 1024) :
    xLay (F := Ideal) x w st (ix2 r ⟨k.val, by omega⟩) = x (ix2 r k) := by
  pointwise [xLay]
/-- Then comes the first weight. -/
theorem xLay_w0 (x : FVec Ideal S28160x1024 .f32) (w : FVec Ideal S28160x2 .f32) (st : IVec S28160 32) (r : Fin 28160) :
    xLay (F := Ideal) x w st (ix2 r ⟨1024, by omega⟩) = w (ix2 r 0) := by
  pointwise [xLay]
/-- Then the second weight. -/
theorem xLay_w1 (x : FVec Ideal S28160x1024 .f32) (w : FVec Ideal S28160x2 .f32) (st : IVec S28160 32) (r : Fin 28160) :
    xLay (F := Ideal) x w st (ix2 r ⟨1025, by omega⟩) = w (ix2 r 1) := by
  pointwise [xLay]
/-- Then the stream number. -/
theorem xLay_st (x : FVec Ideal S28160x1024 .f32) (w : FVec Ideal S28160x2 .f32) (st : IVec S28160 32) (r : Fin 28160) :
    xLay (F := Ideal) x w st (ix2 r ⟨1026, by omega⟩) = (((st (ix1 r)).toInt : ℝ) : EReal) := by
  pointwise [xLay]
  rfl
/-- A row of the modulation table. -/
theorem tLay_apply (mod : FVec Ideal S4x6x3x1x1024 .f32) (k s : Fin 3) (j : Fin 9) (hj : j.val = 3 * k.val + s.val) (d : Fin 1024) :
    tLay (F := Ideal) mod (ix2 j d) = mod (ix5 0 ⟨3 + k.val, by omega⟩ s 0 d) := by
  pointwise [tLay]
  have h1 : j.val / 3 = k.val := by omega
  have h2 : j.val % 3 = s.val := by omega
  exact congrArg₂ (fun a b => mod (ix5 0 a b 0 d)) (Fin.ext (by show 3 + j.val / 3 = _; rw [h1])) (Fin.ext h2)
/-- The gain row is the first layer's. -/
theorem gLay_apply (g : FVec Ideal S4x1024 .f32) (d : Fin 1024) : gLay (F := Ideal) g (ix2 0 d) = g (ix2 0 d) := by
  pointwise [gLay]

end Cert.ExpertsIdealHost

end
-- ==== Proof.ExpertsIdealFinal.lean ====
/- What the experts' call leaves: in each row of a tile in use the token plus its gated experts, elsewhere zeros. -/
module

public import proofs.«01_k».proof.Proof.ExpertsIdealHost

@[expose] public section

set_option maxRecDepth 16384

noncomputable section

namespace Cert.ExpertsIdealFinal

open Cert.ExpertsIdeal Cert.ExpertsIdeal.Gen Cert.ExpertsIdealBody Cert.ExpertsIdealRow Cert.ExpertsIdealHost Idealize.ShloMosaic Idealize.ShloMosaic.TcCoe Idealize.SL.Sem

section Rows
variable (x : FVec Ideal S28160x1024 .f32) (w : FVec Ideal S28160x2 .f32) (st : IVec S28160 32) (mod : FVec Ideal S4x6x3x1x1024 .f32)
  (g : FVec Ideal S4x1024 .f32) (wg wu : FVec Ideal S4x16x1024x256 .f32) (wd : FVec Ideal S4x16x256x1024 .f32)

/-- Of a row's stream, the layer's shift, scale or gate at a lane. -/
def modOf (k : Fin 3) (r : Fin 28160) (d : Fin 1024) : EReal :=
  pick (((st (ix1 r)).toInt : ℝ) : EReal) (mod (ix5 0 ⟨3 + k.val, by omega⟩ 0 0 d)) (mod (ix5 0 ⟨3 + k.val, by omega⟩ 1 0 d)) (mod (ix5 0 ⟨3 + k.val, by omega⟩ 2 0 d))

/-- A row's normalised and modulated token. -/
def tokOf (r : Fin 28160) (d : Fin 1024) : EReal :=
  modAt (fun k => x (ix2 r k)) (g (ix2 0 d)) (modOf st mod 1 r d) (modOf st mod 0 r d) d

/-- What one expert adds to a row, its routing weight included. -/
def partOf (r : Fin 28160) (d : Fin 1024) (e : Fin 16) (v : EReal) : EReal :=
  ∑ j : Fin 256, hidAt (tokOf x st mod g r) (fun k => wg (ix4 0 e k j)) (fun k => wu (ix4 0 e k j)) v * wd (ix4 0 e j d)

/-- A row whose two experts are given. -/
def rowOf (e0 e1 : Fin 16) (r : Fin 28160) (d : Fin 1024) : EReal :=
  x (ix2 r d) + modOf st mod 2 r d * (partOf x st mod g wg wu wd r d e0 (w (ix2 r 0)) + partOf x st mod g wg wu wd r d e1 (w (ix2 r 1)))

/-- All the rows: those of the tiles in use, and zeros. -/
def rows (n : Nat) (e : Fin 2 → Nat → Nat) : FVec Ideal S28160x1024 .f32 := fun i =>
  if (i 0).val / 512 < n then rowOf x w st mod g wg wu wd (Fin.ofNat 16 (e 0 ((i 0).val / 512))) (Fin.ofNat 16 (e 1 ((i 0).val / 512))) (i 0) (i 1) else 0

/-- A row of the body's result is the row of its two experts. -/
theorem Out_row (b0 : FVec Ideal S512x1152 .f32) (b1 : FVec Ideal S1x1024 .f32) (b2 : FVec Ideal S9x1024 .f32) (a b : Nat) (p : Fin 512) (r : Fin 28160)
    (h0 : ∀ k, b0 (ix2 p k) = xLay (F := Ideal) x w st (ix2 r k)) (h1 : b1 = gLay (F := Ideal) g) (h2 : b2 = tLay (F := Ideal) mod) (d : Fin 1024) :
    Out (F := Ideal) b0 b1 b2 (scr0 (wsel wg a) (wsel wu a) (wsel wg b) (wsel wu b)) (scr1 (dsel wd a) (dsel wd b)) (ix2 p d)
      = rowOf x w st mod g wg wu wd (Fin.ofNat 16 a) (Fin.ofNat 16 b) r d := by
  subst h1 h2
  have ht : tokAt b0 (gLay (F := Ideal) g) (tLay (F := Ideal) mod) p = tokOf x st mod g r := by
    funext d
    unfold tokAt
    rw [funext fun k : Fin 1024 => (h0 ⟨k.val, by omega⟩).trans (xLay_tok x w st r k), h0, xLay_st, gLay_apply,
      tLay_apply _ 0 0 0 rfl, tLay_apply _ 0 1 1 rfl, tLay_apply _ 0 2 2 rfl, tLay_apply _ 1 0 3 rfl, tLay_apply _ 1 1 4 rfl, tLay_apply _ 1 2 5 rfl]
    rfl
  rw [Out_apply, ht, h0, xLay_tok, h0, xLay_st, h0, xLay_w0, h0, xLay_w1, tLay_apply _ 2 0 6 rfl, tLay_apply _ 2 1 7 rfl, tLay_apply _ 2 2 8 rfl]
  rfl

end Rows

variable (m : (ℓ : Loc nD τ sig) → Buf (Elt Ideal) ℓ) (ρ : Dev nD → PrngReg)
variable {n : Nat} {e : Fin 2 → Nat → Nat} (ok : TabOK (pf m 0) n e)

/-- The gain is taken whole. -/
theorem tr1 : ∀ t : Fin grid0.N, cc0_transform_1 (grid0.coords t) = ![0, 0] := by decide +kernel
/-- The modulation table is taken whole. -/
theorem tr2 : ∀ t : Fin grid0.N, cc0_transform_2 (grid0.coords t) = ![0, 0] := by decide +kernel
/-- Tile `t` writes result block `t`. -/
theorem tr9 : ∀ t : Fin grid0.N, cc0_transform_9 (grid0.coords t) = ![t.val, 0] := by decide +kernel
/-- Every result block is written back. -/
theorem flush9 : ∀ t : Fin grid0.N, Pipeline.Window.flushOf grid0 true cc0_transform_9 t = true := by decide +kernel

/-- The tokens' block at a tile in use is the tile's rows. -/
theorem blk0 (c : Dev nD) (t : Fin (cfg m ok).N) (ht : t.val < n) (p : Fin 512) (r : Fin 28160) (hr : r.val = 512 * t.val + p.val)
    (k : Fin 1152) : iblk m ok c 0 t (ix2 p k) = V m c main_v4 (ix2 r k) := by
  have hc := coords_val t
  have h := tr0 ok (grid0.coords t)
  rw [hc] at h
  unfold iblk
  refine congrArg (V m c main_v4) (funext fun a => Fin.ext ?_)
  show cc0_transform_0 inb_S1024_S1_256 numel1_S1 (pf m) (grid0.coords t) a * _ + 1 * (ix2 p k a).val = _
  rw [h]
  match a with
  | ⟨0, _⟩ => show min t.val (n - 1) * 512 + 1 * p.val = r.val; omega
  | ⟨1, _⟩ => show 0 * _ + 1 * k.val = k.val; omega

/-- The block of the gain is the gain. -/
theorem blk1 (c : Dev nD) (t : Fin (cfg m ok).N) : iblk m ok c 1 t = V m c main_v10 := by
  have h := tr1 t
  unfold iblk
  funext y
  refine congrArg (V m c main_v10) (funext fun a => Fin.ext ?_)
  show cc0_transform_1 (grid0.coords t) a * _ + 1 * (y a).val = _
  rw [h]
  match a with
  | ⟨0, _⟩ => show 0 * _ + 1 * (y 0).val = (y 0).val; omega
  | ⟨1, _⟩ => show 0 * _ + 1 * (y 1).val = (y 1).val; omega

/-- The block of the table is the table. -/
theorem blk2 (c : Dev nD) (t : Fin (cfg m ok).N) : iblk m ok c 2 t = V m c main_v7 := by
  have h := tr2 t
  unfold iblk
  funext y
  refine congrArg (V m c main_v7) (funext fun a => Fin.ext ?_)
  show cc0_transform_2 (grid0.coords t) a * _ + 1 * (y a).val = _
  rw [h]
  match a with
  | ⟨0, _⟩ => show 0 * _ + 1 * (y 0).val = (y 0).val; omega
  | ⟨1, _⟩ => show 0 * _ + 1 * (y 1).val = (y 1).val; omega

/-- The array of rows of the call's arguments. -/
abbrev outRows (n : Nat) (e : Fin 2 → Nat → Nat) (c : Dev nD) : FVec Ideal S28160x1024 .f32 :=
  rows (m ((c : Thread nD τ).loc main_arg0)) (m ((c : Thread nD τ).loc main_arg1)) (m ((c : Thread nD τ).loc main_arg2)) (m ((c : Thread nD τ).loc main_arg4))
    (m ((c : Thread nD τ).loc main_arg5)) (m ((c : Thread nD τ).loc main_arg6)) (m ((c : Thread nD τ).loc main_arg7)) (m ((c : Thread nD τ).loc main_arg8)) n e

/-- What the body leaves at a tile is the tile's rows. -/
theorem outAt_apply (c : Dev nD) (t : Fin (cfg m ok).N) (p : Fin 512) (d : Fin 1024) (r : Fin 28160) (hr : r.val = 512 * t.val + p.val) :
    outAt m ok c t (ix2 p d) = outRows m n e c (ix2 r d) := by
  have hq : r.val / 512 = t.val := by omega
  unfold outAt outRows rows
  show _ = if r.val / 512 < n then rowOf _ _ _ _ _ _ _ _ (Fin.ofNat 16 (e 0 (r.val / 512))) (Fin.ofNat 16 (e 1 (r.val / 512))) r d else 0
  rw [hq]
  by_cases ht : t.val < n
  · have hm : min t.val (n - 1) = t.val := by omega
    rw [if_pos ht, if_pos ht]
    unfold scrA scrB
    rw [hm]
    have h1 := (blk1 m ok c t).trans (V_g m c)
    have h2 := (blk2 m ok c t).trans (V_t m c)
    exact Out_row _ _ _ _ _ _ _ _ _ _ _ _ _ p r (fun k => (blk0 m ok c t ht p r hr k).trans (congrFun (V_x m c) _)) h1 h2 d
  · rw [if_neg ht, if_neg ht]
    show Ideal.ofBits .f32 0x00000000#32 = 0
    exact Ideal.ofBits_zero _

/-- The result's blocks cover it. -/
theorem cover9 : ((cfg m ok).win 9).Covers := by
  have h0 : ((cfg m ok).win 9).nblk (0 : Fin 2) = 55 := by
    show (S28160x1024.size 0 + S512x1024.size 0 - 1) / S512x1024.size 0 = 55
    decide
  have h1 : ((cfg m ok).win 9).nblk (1 : Fin 2) = 1 := by
    show (S28160x1024.size 1 + S512x1024.size 1 - 1) / S512x1024.size 1 = 1
    decide
  refine ⟨fun a => ?_, fun β => ⟨⟨(β (0 : Fin 2)).val, (β (0 : Fin 2)).isLt.trans_eq h0⟩, flush9 _, fun a => ⟨?_, .inl ?_⟩⟩⟩
  · match a with
    | ⟨0, _⟩ => exact (by decide : 0 < 512)
    | ⟨1, _⟩ => exact (by decide : 0 < 1024)
  · refine (congrFun (tr9 _) a).trans ?_
    match a with
    | ⟨0, _⟩ => rfl
    | ⟨1, h⟩ => have : (β (1 : Fin 2)).val < 1 := (β (1 : Fin 2)).isLt.trans_eq h1; show 0 = (β (1 : Fin 2)).val; omega
  · rfl

/-- The call's result is the array of rows. -/
theorem final (c : Dev nD) : (dats m ok 0 c).arrAt 9 (cfg m ok).N = outRows m n e c := by
  refine (dats m ok 0 c).arrAt_eq_of_covers 9 _ (cover9 m ok) fun t hf y => ?_
  have key : ∀ y : S512x1024.Idx, outAt m ok c t y = outRows m n e c ((((cfg m ok).win 9).blk t).view.emb y) := by
    intro y
    have ht : t.val < 55 := t.isLt
    have hy : y = ix2 (y 0) (y 1) := by funext a; match a with | ⟨0, _⟩ => rfl | ⟨1, _⟩ => rfl
    have hp : (y 0).val < 512 := (y 0).isLt
    refine ((congrArg (outAt m ok c t) hy).trans (outAt_apply m ok c t (y 0) (y 1) ⟨512 * t.val + (y 0).val, by omega⟩ rfl)).trans ?_
    refine congrArg (outRows m n e c) (funext fun a => Fin.ext ?_)
    show _ = cc0_transform_9 (grid0.coords t) a * _ + 1 * (y a).val
    rw [tr9 t]
    match a with
    | ⟨0, _⟩ => show 512 * t.val + (y 0).val = t.val * 512 + 1 * (y 0).val; omega
    | ⟨1, _⟩ => show (y 1).val = 0 * _ + 1 * (y 1).val; omega
  exact key y

end Cert.ExpertsIdealFinal

end
-- ==== Proof.ExpertsSame.lean ====
/- The experts' call as printed and its idealisation have one text: at float words the one run is the other's. -/
module
public import proofs.«01_k».proof.Proof.ExpertsIdealFrame
public import proofs.«01_k».proof.Proof.Gen.Experts
public import proofs.«01_k».proof.Proof.Gen.Experts.Launch
@[expose] public section
noncomputable section
namespace Cert.ExpertsSame
attribute [local instance] Cert.ExpertsIdeal.Gen.facts Cert.Experts.Gen.facts
open Idealize.ShloMosaic Idealize.ShloMosaic.TcCoe Idealize.SL.Sem
/-- The two programs have the same buffers. -/
theorem sig_same : Cert.Experts.sig = Cert.ExpertsIdeal.sig := rfl
/-- And run on as many devices. -/
theorem nD_same : Cert.Experts.nD = Cert.ExpertsIdeal.nD := rfl
/-- The same kernel body. -/
theorem body_same : @Cert.Experts.cc0_moe_experts Bits _ _ = @Cert.ExpertsIdeal.cc0_moe_experts Bits _ _ := by rfl
/-- The same windows. -/
theorem spec_same : @Cert.Experts.spec0 _  = @Cert.ExpertsIdeal.spec0 _ := by rfl
/-- The same pipeline. -/
theorem pcfg_same : @Cert.Experts.pcfg0 Bits _ _ = @Cert.ExpertsIdeal.pcfg0 Bits _ _ := by rfl
/-- The same host operations, first stretch. -/
theorem h0 : Cert.Experts.Gen.hostOps0 (F := Bits) = Cert.ExpertsIdeal.Gen.hostOps0 (F := Bits) := by rfl
/-- Second stretch. -/
theorem h1 : Cert.Experts.Gen.hostOps0_1 (F := Bits) = Cert.ExpertsIdeal.Gen.hostOps0_1 (F := Bits) := by rfl
/-- Third stretch. -/
theorem h2 : Cert.Experts.Gen.hostOps0_2 (F := Bits) = Cert.ExpertsIdeal.Gen.hostOps0_2 (F := Bits) := by rfl
/-- The same table of bodies. -/
theorem defs0_same : Cert.Experts.defs₀ (F := Bits) = Cert.ExpertsIdeal.defs₀ (F := Bits) :=
  congrArg Defs.onTc (funext fun l => funext fun a => match l, a with
    | ⟨0, _⟩, (t, s) => rfl
    | ⟨_ + 1, h⟩, _ => absurd h (Nat.not_lt.2 (Nat.le_add_left _ _)))
/-- The same definitions. -/
theorem defs_same : Cert.Experts.defs (F := Bits) = Cert.ExpertsIdeal.defs (F := Bits) :=
  congrArg (Pipeline.defs (Cert.ExpertsIdeal.pcfgs (F := Bits))) defs0_same
/-- The same admissible tables. -/
theorem adm_same : (fun p => (Cert.Experts.pcfgs (F := Bits) p).Adm) = (fun p => (Cert.ExpertsIdeal.pcfgs (F := Bits) p).Adm) := by rfl
open Cert.ExpertsIdeal in
/-- A program of three stretches of host operations and one last call. -/
def G (A : Fin 1 → Type) (o0 o1 o2 : List (HloOp τ sig (Elt Bits))) (q : Prog (TpuEff nD τ sig (Elt Bits) (Pipeline.Sig Λ₀ (Fin 1) A) .tc) PUnit) : Prog (TpuEff nD τ sig (Elt Bits) (Pipeline.Sig Λ₀ (Fin 1) A) .tc) PUnit :=
  Pipeline.chain [StableHlo.seq o0, StableHlo.seq o1, StableHlo.seq o2, q]
/-- The printed program as that chain. -/
theorem mainA (c : Dev 1) : Cert.Experts.main (F := Bits) c = G (fun p => (Cert.Experts.pcfgs (F := Bits) p).Adm) Cert.Experts.Gen.hostOps0 Cert.Experts.Gen.hostOps0_1 Cert.Experts.Gen.hostOps0_2 (Prog.lift (.customCall (Pipeline.entry 0) ())) := Cert.Experts.Gen.main_chain c
/-- The idealised program as that chain. -/
theorem mainB (c : Dev 1) : Cert.ExpertsIdeal.main (F := Bits) c = G (fun p => (Cert.ExpertsIdeal.pcfgs (F := Bits) p).Adm) Cert.ExpertsIdeal.Gen.hostOps0 Cert.ExpertsIdeal.Gen.hostOps0_1 Cert.ExpertsIdeal.Gen.hostOps0_2 (Prog.lift (.customCall (Pipeline.entry 0) ())) := Cert.ExpertsIdeal.Gen.main_chain c
/-- The two programs are one text. -/
theorem main_same (c : Dev 1) : Cert.Experts.main (F := Bits) c = Cert.ExpertsIdeal.main (F := Bits) c := by
  rw [mainA, mainB, h0, h1, h2]; rfl
/-- So a run of one is a run of the other. -/
theorem run_same : θ_run (Cert.Experts.defs (F := Bits)) (onTc (τ := Cert.Experts.τ) (Cert.Experts.main (F := Bits))) = θ_run (Cert.ExpertsIdeal.defs (F := Bits)) (onTc (τ := Cert.ExpertsIdeal.τ) (Cert.ExpertsIdeal.main (F := Bits))) :=
  congrArg₂ (fun d mn => θ_run d (onTc (τ := Cert.ExpertsIdeal.τ) mn)) defs_same (funext main_same)
end Cert.ExpertsSame
-- ==== Proof.ExpertsPlan.lean ====
/- The table of tiles the experts' call prefetches, from the plan the caller hands over: what the precondition says of
   the plan, and what the host's gather of its columns leaves. -/
module

public import proofs.«01_k».proof.Defs
public import proofs.«01_k».proof.Proof.ExpertsIdealFrame
public import proofs.«01_k».proof.Proof.Gen.Pre_routed
public import proofs.«01_k».proof.Proof.ExpertsSame
public import Idealize.ShloMosaic.Lib.ReduceAll
public import Idealize.ShloMosaic.Lib.Pointwise

@[expose] public section

noncomputable section

namespace Cert.ExpertsPlan

open Cert.ExpertsIdeal Cert.ExpertsIdeal.Gen Cert.ExpertsIdealBody Idealize.ShloMosaic Idealize.ShloMosaic.TcCoe Idealize.SL.Sem

variable {F : FTy → Type} [FloatOps F]

/-- A plan that routes: two distinct experts for each tile in use, and 1 to 55 tiles in use. -/
structure Routed (pl : S8x128.Idx → BitVec 32) : Prop where
  two : ∀ t : Fin 128, (t.val : ℤ) < (pl (ix2 2 0)).toInt → (0 ≤ (pl (ix2 0 t)).toInt ∧ (pl (ix2 0 t)).toInt < 16) ∧ (0 ≤ (pl (ix2 1 t)).toInt ∧ (pl (ix2 1 t)).toInt < 16)
    ∧ pl (ix2 0 t) ≠ pl (ix2 1 t)
  one : 1 ≤ (pl (ix2 2 0)).toInt
  most : (pl (ix2 2 0)).toInt ≤ 55

/-- What a signed comparison's bit says. -/
theorem sge_iff (x y : BitVec 32) (h : IntOp.cmpi .sge x y = 1#1) : y.toInt ≤ x.toInt := by
  simp only [IntOp.cmpi] at h
  by_contra hc
  have : y.sle x = false := by simp [BitVec.sle]; omega
  rw [this] at h; exact absurd h (by decide)
/-- What a signed "less than" bit says. -/
theorem slt_iff (x y : BitVec 32) (h : IntOp.cmpi .slt x y = 1#1) : x.toInt < y.toInt := by
  simp only [IntOp.cmpi] at h
  by_contra hc
  have : x.slt y = false := by simp [BitVec.slt]; omega
  rw [this] at h; exact absurd h (by decide)
/-- What a signed "at most" bit says. -/
theorem sle_iff (x y : BitVec 32) (h : IntOp.cmpi .sle x y = 1#1) : x.toInt ≤ y.toInt := by
  simp only [IntOp.cmpi] at h
  by_contra hc
  have : x.sle y = false := by simp [BitVec.sle]; omega
  rw [this] at h; exact absurd h (by decide)

/-- What a "not equal" bit says. -/
theorem ne_iff (x y : BitVec 32) (h : IntOp.cmpi .ne x y = 1#1) : x ≠ y := by
  rintro rfl
  simp [IntOp.cmpi] at h

/-- Row 0 or 1 of the plan, cut out and laid flat. -/
theorem row_apply (pl : S8x128.Idx → BitVec 32) (r : Fin 8) (off : Fin 2 → Nat) (ho : off = ![r.val, 0])
    (h : S8x128.Slices off Cert.Pre_routed.S1x128) (h' : Cert.Pre_routed.S1x128.ShapeCasts Cert.Pre_routed.S128) (t : Fin 128) :
    shapeCast Cert.Pre_routed.S128 (extractStridedSlice Cert.Pre_routed.S1x128 off pl h) h' (ix1 t) = pl (ix2 r t) := by
  subst ho
  rw [shapeCast_apply _ h' (ix1 t) (ix2 0 t) (by rw [Shape.rowMajor_val_two, Shape.rowMajor_val_one]; show 0 * 128 + t.val = t.val; omega)]
  exact extractStridedSlice_apply _ pl h (ix2 0 t) (ix2 r t) (fun a => match a with
    | ⟨0, _⟩ => by show r.val = r.val + 0; omega
    | ⟨1, _⟩ => by show t.val = 0 + t.val; omega)

/-- The precondition, read. -/
theorem pre_routed (x0 : FVec F S28160x1024 .f32) (x1 : FVec F S28160x2 .f32) (x2 : IVec S28160 32) (pl : IVec S8x128 32) (x4 : FVec F S4x6x3x1x1024 .f32) (x5 : FVec F S4x1024 .f32)
    (x6 x7 : FVec F S4x16x1024x256 .f32) (x8 : FVec F S4x16x256x1024 .f32) [Cert.Pre_routed.Facts]
    (h : Cert.Pre_routed.fn (F := F) x0 x1 x2 pl x4 x5 x6 x7 x8 = fun _ => 1#1) : Routed pl := by
  have h' := congrFun h (fun x => x.elim0)
  dsimp only [Cert.Pre_routed.fn, Cert.Pre_routed.fn_part1] at h'
  have ha : ∀ a b : BitVec 1, IntOp.andi a b = 1#1 → a = 1#1 ∧ b = 1#1 := by decide
  have ho : ∀ a b : BitVec 1, IntOp.ori a b = 1#1 → a = 1#1 ∨ b = 1#1 := by decide
  obtain ⟨h', h5⟩ := ha _ _ h'
  obtain ⟨h1, h4⟩ := ha _ _ h'
  haveI : Subsingleton Cert.Pre_routed.S_.Idx := ⟨fun a b => funext fun x => x.elim0⟩
  have hn : ∀ z : Cert.Pre_routed.S_.Idx, shapeCast Cert.Pre_routed.S_ (extractStridedSlice Cert.Pre_routed.S1x1 ![2, 0] pl Cert.Pre_routed.Facts.slices_S8x128_S1x1_2_0) Cert.Pre_routed.Facts.shapeCasts_S1x1_S_ z = pl (ix2 2 0) := by
    intro z
    rw [shapeCast_apply _ _ z (ix2 0 0) (by rw [Shape.rowMajor_val_two]; have := (Cert.Pre_routed.S_.rowMajor z).isLt; have e : Cert.Pre_routed.S_.numel = 1 := by decide
                                            show 0 * 1 + 0 = _; omega)]
    exact extractStridedSlice_apply _ pl _ (ix2 0 0) (ix2 2 0) (fun a => match a with
      | ⟨0, _⟩ => rfl
      | ⟨1, _⟩ => rfl)
  refine ⟨fun t ht => ?_, ?_, ?_⟩
  · rcases ho _ _ (Host.reduce_andi_all _ _ _ _ _ h1 (ix1 t)) with h | h
    · obtain ⟨h, c5⟩ := ha _ _ h
      obtain ⟨h, c4⟩ := ha _ _ h
      obtain ⟨h, c3⟩ := ha _ _ h
      obtain ⟨c1, c2⟩ := ha _ _ h
      have d1 := sge_iff _ _ c1
      have d2 := slt_iff _ _ c2
      have d3 := sge_iff _ _ c3
      have d4 := slt_iff _ _ c4
      have d5 := ne_iff _ _ c5
      rw [row_apply pl 0 ![0, 0] rfl] at d1 d2 d5
      rw [row_apply pl 1 ![1, 0] rfl] at d3 d4 d5
      exact ⟨⟨d1, d2⟩, ⟨d3, d4⟩, d5⟩
    · have d := sge_iff _ _ h
      have d' : (pl (ix2 2 0)).toInt ≤ (BitVec.ofNat 32 t.val).toInt := (congrArg BitVec.toInt (hn _)).symm.le.trans d
      have hx : (BitVec.ofNat 32 t.val).toInt = t.val := by
        have := t.isLt
        rw [BitVec.toInt_eq_toNat_of_lt] <;> rw [BitVec.toNat_ofNat] <;> omega
      omega
  · have := sge_iff _ _ h4
    rw [hn] at this
    exact this
  · have := sle_iff _ _ h5
    rw [hn] at this
    exact this

/-- The host's gather of columns: result column `t` is the operand's column at the start index, clamped. -/
theorem cols_apply (x : S8x128.Idx → BitVec 32) (idx : IVec S128x1 32) (r : Fin 8) (t : Fin 128) :
    Host.gather gather_S8x128_S128x1_S8x128_0_1_n_n_1_1_81 x idx (ix2 r t) = x (ix2 r ⟨min (idx (ix2 t 0)).toInt.toNat 127, by omega⟩) := by
  unfold Host.gather
  refine congrArg x (funext fun a => Fin.ext ?_)
  match a with
  | ⟨0, _⟩ =>
    show _ + _ + _ = r.val
    have h1 : GatherDims.start gather_S8x128_S128x1_S8x128_0_1_n_n_1_1_81 (ix2 r t) idx 0 = 0 := by unfold GatherDims.start; rw [dif_neg (by decide)]
    have h2 : GatherDims.batchCoord gather_S8x128_S128x1_S8x128_0_1_n_n_1_1_81 (ix2 r t) 0 = 0 := GatherDims.batchCoord_eq_zero _ _ _ List.not_mem_nil
    have h3 : GatherDims.offCoord gather_S8x128_S128x1_S8x128_0_1_n_n_1_1_81 (ix2 r t) 0 = r.val := by unfold GatherDims.offCoord; rw [dif_pos (by decide)]; rfl
    exact (congrArg₂ (· + ·) (congrArg₂ (· + ·) h1 h2) h3).trans (by simp)
  | ⟨1, _⟩ =>
    show _ + _ + _ = min _ 127
    have h1 : GatherDims.start gather_S8x128_S128x1_S8x128_0_1_n_n_1_1_81 (ix2 r t) idx 1 = min (idx (ix2 t 0)).toInt.toNat 127 := by
      unfold GatherDims.start; rw [dif_pos (by decide)]
      refine congrArg (fun z => min (idx z).toInt.toNat 127) (funext fun b => Fin.ext ?_)
      match b with
      | ⟨0, _⟩ => rfl
      | ⟨1, _⟩ => rfl
    have h2 : GatherDims.batchCoord gather_S8x128_S128x1_S8x128_0_1_n_n_1_1_81 (ix2 r t) 1 = 0 := GatherDims.batchCoord_eq_zero _ _ _ List.not_mem_nil
    have h3 : GatherDims.offCoord gather_S8x128_S128x1_S8x128_0_1_n_n_1_1_81 (ix2 r t) 1 = 0 := GatherDims.offCoord_eq_zero _ _ _ (by decide)
    exact (congrArg₂ (· + ·) (congrArg₂ (· + ·) h1 h2) h3).trans (by simp)

/-- The clamped columns' numbers. -/
def colIdx (pl : S8x128.Idx → BitVec 32) : IVec S128x1 32 :=
  broadcastInDim S128x1 ![0] bcast_S128_S128x1_0 (minsi (iotaInDim S128 32 0)
    (broadcastInDim S128 ![] bcast_S_S128 (subi (shapeCast S_ (extractStridedSlice S1x1 ![2, 0] pl slices_S8x128_S1x1_2_0) shapeCasts_S1x1_S_) (constantI S_ 32 1#32))))

/-- The prefetched table, as the host computes it. -/
def tab (pl : S8x128.Idx → BitVec 32) : S1024.Idx → BitVec 32 :=
  shapeCast S1024 (Host.gather gather_S8x128_S128x1_S8x128_0_1_n_n_1_1_81 pl (colIdx pl)) shapeCasts_S8x128_S1024

variable (m : (ℓ : Loc nD τ sig) → Buf (Elt F) ℓ)

/-- The call's table is that one. -/
theorem pf_eq : pf m 0 = tab (m (((0 : Dev nD) : Thread nD τ).loc main_arg3)) := by
  show V m 0 main_v18 = _
  unfold V opss
  entry_read; rfl

/-- A column's clamped number. -/
theorem colIdx_apply (pl : S8x128.Idx → BitVec 32) (h : Routed pl) (t : Fin 128) :
    min (colIdx pl (ix2 t 0)).toInt.toNat 127 = min t.val ((pl (ix2 2 0)).toNat - 1) := by
  have hn : ∀ z : S_.Idx, shapeCast S_ (extractStridedSlice S1x1 ![2, 0] pl slices_S8x128_S1x1_2_0) shapeCasts_S1x1_S_ z = pl (ix2 2 0) := by
    intro z
    rw [shapeCast_apply _ _ z (ix2 0 0) (by rw [Shape.rowMajor_val_two]; have := (S_.rowMajor z).isLt; have e : S_.numel = 1 := by decide
                                            show 0 * 1 + 0 = _; omega)]
    exact extractStridedSlice_apply _ pl _ (ix2 0 0) (ix2 2 0) (fun a => match a with
      | ⟨0, _⟩ => rfl
      | ⟨1, _⟩ => rfl)
  have e : colIdx pl (ix2 t 0) = IntOp.minsi (BitVec.ofNat 32 t.val) (IntOp.subi (pl (ix2 2 0)) 1#32) := by
    show IntOp.minsi (BitVec.ofNat 32 t.val) (IntOp.subi (shapeCast S_ (extractStridedSlice S1x1 ![2, 0] pl slices_S8x128_S1x1_2_0) shapeCasts_S1x1_S_ _) 1#32) = _
    rw [hn]
  rw [e]
  obtain ⟨k, hk, hk1, hk2⟩ : ∃ k : Nat, pl (ix2 2 0) = BitVec.ofNat 32 k ∧ 1 ≤ k ∧ k ≤ 55 := by
    have h1 := h.one; have h2 := h.most
    refine ⟨(pl (ix2 2 0)).toNat, by simp, ?_, ?_⟩ <;> (rw [BitVec.toInt_eq_toNat_cond] at h1 h2; split at h1 <;> omega)
  rw [hk]
  have key : ∀ (t : Fin 128) (k : Fin 56), 1 ≤ k.val → min (IntOp.minsi (BitVec.ofNat 32 t.val) (IntOp.subi (BitVec.ofNat 32 k.val) 1#32)).toInt.toNat 127 = min t.val ((BitVec.ofNat 32 k.val).toNat - 1) := by
    decide +kernel
  exact key t ⟨k, by omega⟩ hk1

/-- A word of the table. -/
theorem tab_apply (pl : S8x128.Idx → BitVec 32) (h : Routed pl) (r : Fin 8) (t : Fin 128) :
    tab pl (ix1 ⟨128 * r.val + t.val, by omega⟩) = pl (ix2 r ⟨min t.val ((pl (ix2 2 0)).toNat - 1), by omega⟩) := by
  unfold tab
  rw [shapeCast_apply _ shapeCasts_S8x128_S1024 _ (ix2 r t) (by rw [Shape.rowMajor_val_two, Shape.rowMajor_val_one]; show r.val * 128 + t.val = 128 * r.val + t.val; omega), cols_apply]
  exact congrArg (fun z => pl (ix2 r z)) (Fin.ext (colIdx_apply pl h t))

/-- The expert of a tile. -/
def expert (pl : S8x128.Idx → BitVec 32) (r : Fin 2) (t : Nat) : Nat := (pl (ix2 (Fin.castLE (by omega) r) ⟨t % 128, by omega⟩)).toNat

/-- How many tiles are in use. -/
def used (pl : S8x128.Idx → BitVec 32) : Nat := (pl (ix2 2 0)).toNat

/-- Between 1 and 55 tiles are in use. -/
theorem used_pos {pl : S8x128.Idx → BitVec 32} (h : Routed pl) : 1 ≤ used pl ∧ used pl ≤ 55 := by
  have h1 := h.one; have h2 := h.most
  unfold used
  rw [BitVec.toInt_eq_toNat_cond] at h1 h2; split at h1 <;> constructor <;> omega

/-- The two experts of a tile in use are below 16, and distinct. -/
theorem expert_lt {pl : S8x128.Idx → BitVec 32} (h : Routed pl) (t : Nat) (ht : t < used pl) : expert pl 0 t < 16 ∧ expert pl 1 t < 16 ∧ expert pl 0 t ≠ expert pl 1 t := by
  have hm := h.most
  have h1 := h.one
  obtain ⟨u1, u2⟩ := used_pos h
  have hu : (pl (ix2 2 0)).toInt = used pl := by
    unfold used at u2 ⊢
    rw [BitVec.toInt_eq_toNat_of_lt]; omega
  obtain ⟨⟨a1, a2⟩, ⟨a3, a4⟩, a5⟩ := h.two ⟨t % 128, by omega⟩ (by rw [hu]; show ((t % 128 : ℕ) : ℤ) < _; omega)
  show (pl (ix2 0 ⟨t % 128, _⟩)).toNat < 16 ∧ (pl (ix2 1 ⟨t % 128, _⟩)).toNat < 16 ∧ (pl (ix2 0 ⟨t % 128, _⟩)).toNat ≠ (pl (ix2 1 ⟨t % 128, _⟩)).toNat
  refine ⟨?_, ?_, fun e => a5 (BitVec.eq_of_toNat_eq e)⟩
  · rw [BitVec.toInt_eq_toNat_cond] at a1 a2
    have b0 := (pl (ix2 0 ⟨t % 128, by omega⟩)).isLt
    split at a1 <;> omega
  · rw [BitVec.toInt_eq_toNat_cond] at a3 a4
    have b0 := (pl (ix2 1 ⟨t % 128, by omega⟩)).isLt
    split at a3 <;> omega

/-- A routed plan's table is one the call takes. -/
theorem tab_ok {pl : S8x128.Idx → BitVec 32} (h : Routed pl) : TabOK (tab pl) (used pl) (expert pl) := by
  obtain ⟨u1, u2⟩ := used_pos h
  refine ⟨u1, u2, ?_, fun r t ht => ?_, fun r t ht => ?_⟩
  · have := tab_apply pl h 2 0
    refine this.trans ?_
    have e : (⟨min (0 : Fin 128).val ((pl (ix2 2 0)).toNat - 1), by omega⟩ : Fin 128) = 0 := Fin.ext (by simp)
    rw [e]; unfold used; simp
  · have := tab_apply pl h (Fin.castLE (by omega) r) ⟨t, by omega⟩
    refine this.trans ?_
    have e : (⟨min t ((pl (ix2 2 0)).toNat - 1), by omega⟩ : Fin 128) = ⟨min t (used pl - 1) % 128, by omega⟩ := Fin.ext (by show min t (used pl - 1) = min t (used pl - 1) % 128; omega)
    unfold expert
    rw [← e]; simp
  · have := expert_lt h t ht
    match r with
    | ⟨0, _⟩ => exact this.1
    | ⟨1, _⟩ => exact this.2.1

/-- With a routed plan, the call's table is one it takes. -/
theorem pf_ok (h : Routed (m (((0 : Dev nD) : Thread nD τ).loc main_arg3))) :
    TabOK (pf m 0) (used (m (((0 : Dev nD) : Thread nD τ).loc main_arg3))) (expert (m (((0 : Dev nD) : Thread nD τ).loc main_arg3))) := by
  rw [pf_eq]; exact tab_ok h

set_option maxHeartbeats 800000 in
/-- The frame of the idealised call. -/
theorem frame_ideal : @Cert.quiescent_ExpertsIdeal Cert.ExpertsIdeal.Gen.facts Cert.Pre_routed.Gen.facts := fun m ρ hp => by
  letI := Cert.Pre_routed.Gen.facts
  exact Cert.ExpertsIdealBody.frame (F := Ideal) m ρ (pf_ok m (pre_routed _ _ _ _ _ _ _ _ _ (hp 0)))

/-- The frame of the call as printed: the same text at float words. -/
theorem frame_bits : @Cert.quiescent_Experts Cert.Experts.Gen.facts Cert.Pre_routed.Gen.facts := fun m ρ hp => by
  letI := Cert.Pre_routed.Gen.facts
  have h := Cert.ExpertsIdealBody.frame (F := Bits) m ρ (pf_ok m (pre_routed _ _ _ _ _ _ _ _ _ (hp 0)))
  exact (congrFun (congrArg DFunLike.coe (congrFun Cert.ExpertsSame.run_same _)) _).mpr h

end Cert.ExpertsPlan
-- ==== Proof.ExpertsRef.lean ====
/- The reference of the experts' call, read at a row and a lane. -/
module

public import proofs.«01_k».proof.Proof.ExpertsIdealFinal
public import proofs.«01_k».proof.Proof.Gen.ExpertsRefIdeal.Read
public import proofs.«01_k».proof.Proof.ExpertsPlan
public import Idealize.ShloMosaic.Lib.TwoAxisContraction

@[expose] public section

set_option maxRecDepth 16384

noncomputable section

namespace Cert.ExpertsRef

open Cert.ExpertsRefIdeal Cert.ExpertsRefIdeal.Gen Cert.ExpertsRefIdeal.Read Cert.ExpertsIdealRow Cert.ExpertsIdealFinal Idealize.ShloMosaic Idealize.ShloMosaic.TcCoe Idealize.SL.Sem

variable (x : FVec Ideal S28160x1024 .f32) (w : FVec Ideal S28160x2 .f32) (st : IVec S28160 32) (pl : IVec S8x128 32) (mod : FVec Ideal S4x6x3x1x1024 .f32)
  (g : FVec Ideal S4x1024 .f32) (wg wu : FVec Ideal S4x16x1024x256 .f32) (wd : FVec Ideal S4x16x256x1024 .f32)

/-- A row's two experts are its tile's. -/
theorem v3_at (r : Fin 28160) (k : Fin 2) : val_main_v3 (F := Ideal) pl (ix2 r k) = pl (ix2 (Fin.castLE (by omega) k) ⟨r.val / 512, by omega⟩) := by
  rw [val_main_v3_apply, val_main_v2_apply, val_main_v1_apply, val_main_v0_apply]
  refine congrArg pl (funext fun a => Fin.ext ?_)
  match a with
  | ⟨0, _⟩ => show (r.val * 2 + k.val) % 2 = k.val; omega
  | ⟨1, _⟩ => show (r.val * 2 + k.val) / 1024 = r.val / 512; omega

/-- A row taken of the three by its number, clamped. -/
theorem take_at (y : S3x1024.Idx → EReal) (idx : IVec S28160x1 32) (r : Fin 28160) (d : Fin 1024) :
    Host.gather gather_S3x1024_S28160x1_S28160x1024_1_0_n_n_0_1_11024 y idx (ix2 r d) = y (ix2 ⟨min (idx (ix2 r 0)).toInt.toNat 2, by omega⟩ d) := by
  unfold Host.gather
  refine congrArg y (funext fun a => Fin.ext ?_)
  match a with
  | ⟨0, _⟩ =>
    show _ + _ + _ = min _ 2
    have h1 : GatherDims.start gather_S3x1024_S28160x1_S28160x1024_1_0_n_n_0_1_11024 (ix2 r d) idx 0 = min (idx (ix2 r 0)).toInt.toNat 2 := by
      unfold GatherDims.start; rw [dif_pos (by decide)]
      refine congrArg (fun z => min (idx z).toInt.toNat 2) (funext fun b => Fin.ext ?_)
      match b with
      | ⟨0, _⟩ => rfl
      | ⟨1, _⟩ => rfl
    have h2 : GatherDims.batchCoord gather_S3x1024_S28160x1_S28160x1024_1_0_n_n_0_1_11024 (ix2 r d) 0 = 0 := GatherDims.batchCoord_eq_zero _ _ _ List.not_mem_nil
    have h3 : GatherDims.offCoord gather_S3x1024_S28160x1_S28160x1024_1_0_n_n_0_1_11024 (ix2 r d) 0 = 0 := GatherDims.offCoord_eq_zero _ _ _ (by decide)
    exact (congrArg₂ (· + ·) (congrArg₂ (· + ·) h1 h2) h3).trans (by simp)
  | ⟨1, _⟩ =>
    show _ + _ + _ = d.val
    have h1 : GatherDims.start gather_S3x1024_S28160x1_S28160x1024_1_0_n_n_0_1_11024 (ix2 r d) idx 1 = 0 := by unfold GatherDims.start; rw [dif_neg (by decide)]
    have h2 : GatherDims.batchCoord gather_S3x1024_S28160x1_S28160x1024_1_0_n_n_0_1_11024 (ix2 r d) 1 = 0 := GatherDims.batchCoord_eq_zero _ _ _ List.not_mem_nil
    have h3 : GatherDims.offCoord gather_S3x1024_S28160x1_S28160x1024_1_0_n_n_0_1_11024 (ix2 r d) 1 = d.val := by unfold GatherDims.offCoord; rw [dif_pos (by decide)]; rfl
    exact (congrArg₂ (· + ·) (congrArg₂ (· + ·) h1 h2) h3).trans (by simp)

/-- The word of one half. -/
theorem half_eq : Ideal.ofBits .f32 0x3F000000#32 = ((1 / 2 : ℝ) : EReal) := by
  simp [Ideal.ofBits, Ideal.ieee]; rw [← EReal.coe_mul]; norm_num
/-- The word of one and a half. -/
theorem threeHalves_eq : Ideal.ofBits .f32 0x3FC00000#32 = ((3 / 2 : ℝ) : EReal) := by
  simp [Ideal.ofBits, Ideal.ieee]; rw [← EReal.coe_mul]; norm_num
/-- The word of one. -/
theorem one_eq : Ideal.ofBits .f32 0x3F800000#32 = 1 := by
  simp [Ideal.ofBits, Ideal.ieee]; rw [← EReal.coe_mul]; norm_num

/-- Comparing a stream number with a half and with one and a half picks the clamped row. -/
theorem pick_int (z : ℤ) (f : Fin 3 → EReal) : pick ((z : ℝ) : EReal) (f 0) (f 1) (f 2) = f ⟨min z.toNat 2, by omega⟩ := by
  unfold pick
  rw [half_eq, threeHalves_eq]
  simp only [EReal.coe_lt_coe_iff]
  by_cases h0 : z ≤ 0
  · rw [if_pos (by have : (z : ℝ) ≤ 0 := by exact_mod_cast h0
                   linarith)]
    exact congrArg f (Fin.ext (by show 0 = min z.toNat 2; omega))
  · have h1 : (1 : ℝ) ≤ z := by exact_mod_cast (by omega : (1 : ℤ) ≤ z)
    rw [if_neg (by linarith)]
    by_cases h2 : z = 1
    · rw [if_pos (by rw [h2]; norm_num)]
      exact congrArg f (Fin.ext (by show 1 = min z.toNat 2; omega))
    · have h3 : (2 : ℝ) ≤ z := by exact_mod_cast (by omega : (2 : ℤ) ≤ z)
      rw [if_neg (by linarith)]
      exact congrArg f (Fin.ext (by show 2 = min z.toNat 2; omega))

/-- The layer's shift of a row's stream. -/
theorem v12_at (r : Fin 28160) (d : Fin 1024) : val_main_v12 (F := Ideal) st mod (ix2 r d) = modOf st mod 0 r d := by
  unfold val_main_v12 modOf
  rw [take_at, val_main_v11_apply, val_main_v10_apply]
  have he : val_main_call0_v0 (F := Ideal) st (ix2 r 0) = st (ix1 r) := by
    rw [val_main_call0_v0_apply]; exact congrArg st (funext fun a => by match a with | ⟨0, _⟩ => rfl)
  refine Eq.trans ?_ (pick_int (st (ix1 r)).toInt fun s => mod (ix5 0 3 s 0 d)).symm
  refine congrArg mod (funext fun a => Fin.ext ?_)
  have hd := d.isLt
  match a with
  | ⟨0, _⟩ => rfl
  | ⟨1, _⟩ => rfl
  | ⟨2, _⟩ => show (min (val_main_call0_v0 (F := Ideal) st (ix2 r 0)).toInt.toNat 2 * 1024 + d.val) / 1024 % 3 = min (st (ix1 r)).toInt.toNat 2; rw [he]; omega
  | ⟨3, _⟩ => rfl
  | ⟨4, _⟩ => show (min _ 2 * 1024 + d.val) % 1024 = d.val; omega

/-- The layer's scale of a row's stream. -/
theorem v15_at (r : Fin 28160) (d : Fin 1024) : val_main_v15 (F := Ideal) st mod (ix2 r d) = modOf st mod 1 r d := by
  unfold val_main_v15 modOf
  rw [take_at, val_main_v14_apply, val_main_v13_apply]
  have he : val_main_call1_v0 (F := Ideal) st (ix2 r 0) = st (ix1 r) := by
    rw [val_main_call1_v0_apply]; exact congrArg st (funext fun a => by match a with | ⟨0, _⟩ => rfl)
  refine Eq.trans ?_ (pick_int (st (ix1 r)).toInt fun s => mod (ix5 0 4 s 0 d)).symm
  refine congrArg mod (funext fun a => Fin.ext ?_)
  have hd := d.isLt
  match a with
  | ⟨0, _⟩ => rfl
  | ⟨1, _⟩ => rfl
  | ⟨2, _⟩ => show (min (val_main_call1_v0 (F := Ideal) st (ix2 r 0)).toInt.toNat 2 * 1024 + d.val) / 1024 % 3 = min (st (ix1 r)).toInt.toNat 2; rw [he]; omega
  | ⟨3, _⟩ => rfl
  | ⟨4, _⟩ => show (min _ 2 * 1024 + d.val) % 1024 = d.val; omega

/-- The layer's gate of a row's stream. -/
theorem v18_at (r : Fin 28160) (d : Fin 1024) : val_main_v18 (F := Ideal) st mod (ix2 r d) = modOf st mod 2 r d := by
  unfold val_main_v18 modOf
  rw [take_at, val_main_v17_apply, val_main_v16_apply]
  have he : val_main_call2_v0 (F := Ideal) st (ix2 r 0) = st (ix1 r) := by
    rw [val_main_call2_v0_apply]; exact congrArg st (funext fun a => by match a with | ⟨0, _⟩ => rfl)
  refine Eq.trans ?_ (pick_int (st (ix1 r)).toInt fun s => mod (ix5 0 5 s 0 d)).symm
  refine congrArg mod (funext fun a => Fin.ext ?_)
  have hd := d.isLt
  match a with
  | ⟨0, _⟩ => rfl
  | ⟨1, _⟩ => rfl
  | ⟨2, _⟩ => show (min (val_main_call2_v0 (F := Ideal) st (ix2 r 0)).toInt.toNat 2 * 1024 + d.val) / 1024 % 3 = min (st (ix1 r)).toInt.toNat 2; rw [he]; omega
  | ⟨3, _⟩ => rfl
  | ⟨4, _⟩ => show (min _ 2 * 1024 + d.val) % 1024 = d.val; omega

/-- The reference's sum of squares. -/
theorem v20_at (r : Fin 28160) : val_main_v20 (F := Ideal) x (ix1 r) = ∑ k : Fin 1024, x (ix2 r k) * x (ix2 r k) := by
  rw [val_main_v20_apply, val_main_cst_apply]
  show Ideal.ofBits .f32 0x00000000#32 + _ = _
  rw [Ideal.ofBits_zero, zero_add]
  refine Finset.sum_congr rfl fun k _ => ?_
  rw [val_main_v19_apply]
  have e : idx_main_v20 (ix1 r) k = ix2 r k := by funext a; match a with | ⟨0, _⟩ => rfl | ⟨1, _⟩ => rfl
  rw [e]; rfl

/-- The reference's normalised and modulated token. -/
theorem v37_at (r : Fin 28160) (d : Fin 1024) : val_main_v37 (F := Ideal) x st mod g (ix2 r d) = tokOf x st mod g r d := by
  have e1 : idx_main_v21 (idx_main_v27 (ix2 r d)) = ix1 r := by funext a; match a with | ⟨0, _⟩ => rfl
  have e2 : idx_main_v29 (idx_main_v30 (idx_main_v31 (idx_main_v32 (ix2 r d)))) = ix2 0 d := by
    funext a; have hd := d.isLt
    match a with
    | ⟨0, _⟩ => rfl
    | ⟨1, _⟩ => exact Fin.ext (by show d.val % 1024 = d.val; omega)
  rw [val_main_v37_apply, val_main_v36_apply, val_main_v35_apply, val_main_v34_apply, val_main_cst_2_apply, val_main_v33_apply, val_main_v32_apply, val_main_v31_apply,
    val_main_v30_apply, val_main_v29_apply, e2, val_main_v28_apply, val_main_v27_apply, val_main_v26_apply, val_main_v25_apply, val_main_v24_apply, val_main_cst_1_apply,
    val_main_v23_apply, val_main_v22_apply, val_main_cst_0_apply, val_main_v21_apply, e1, v20_at, v12_at, v15_at]
  unfold tokOf modAt
  rw [← one_eq]
  rfl

/-- A one-hot entry times a number. -/
theorem hot (a b : BitVec 32) (v : EReal) : FloatOps.mulf (F := Ideal) (φ := .f32) (FloatOps.uitofp .f32 (IntOp.cmpi .eq a b)) v = if a = b then v else 0 := by
  show ((((IntOp.cmpi .eq a b).toNat : ℝ) : EReal)) * v = _
  unfold IntOp.cmpi
  by_cases h : a = b <;> simp [h]

/-- The weight a row gives an expert. -/
theorem v42_at (r : Fin 28160) (e : Fin 16) :
    val_main_v42 (F := Ideal) w pl (ix2 r e) = (if pl (ix2 0 ⟨r.val / 512, by omega⟩) = BitVec.ofNat 32 e.val then w (ix2 r 0) else 0)
      + if pl (ix2 1 ⟨r.val / 512, by omega⟩) = BitVec.ofNat 32 e.val then w (ix2 r 1) else 0 := by
  have h : ∀ k : Fin 2, val_main_v41 (F := Ideal) w pl (idx_main_v42 (ix2 r e) k)
      = if pl (ix2 (Fin.castLE (by omega) k) ⟨r.val / 512, by omega⟩) = BitVec.ofNat 32 e.val then w (ix2 r k) else 0 := fun k => by
    rw [val_main_v41_apply, val_main_v38_apply, val_main_call3_v4_apply, val_main_call3_v2_apply, val_main_call3_v0_apply, val_main_call3_v3_apply, val_main_call3_v1_apply,
      val_main_v40_apply, val_main_v39_apply, hot]
    have e1 : idx_main_call3_v0 (idx_main_call3_v2 (idx_main_v42 (ix2 r e) k)) = ix2 r k := by funext a; match a with | ⟨0, _⟩ => rfl | ⟨1, _⟩ => rfl
    have e2 : idx_main_v39 (idx_main_v40 (idx_main_v42 (ix2 r e) k)) = ix2 r k := by funext a; match a with | ⟨0, _⟩ => rfl | ⟨1, _⟩ => rfl
    rw [e1, e2, v3_at]
    rfl
  rw [val_main_v42_apply, val_main_cst_3_apply, Fin.sum_univ_two, h, h]
  show Ideal.ofBits .f32 0x00000000#32 + _ = _
  rw [Ideal.ofBits_zero, zero_add]
  rfl

/-- The reference's gate products. -/
theorem v45_at (r : Fin 28160) (e : Fin 16) (f : Fin 256) :
    val_main_v45 (F := Ideal) x st mod g wg (ix3 r e f) = ∑ k : Fin 1024, tokOf x st mod g r k * wg (ix4 0 e k f) := by
  rw [val_main_v45_apply]
  refine Finset.sum_congr rfl fun k _ => ?_
  have e1 : lidx_main_v45 (ix3 r e f) k = ix2 r k := by funext a; match a with | ⟨0, _⟩ => rfl | ⟨1, _⟩ => rfl
  rw [e1, v37_at, val_main_v44_apply, val_main_v43_apply]
  refine congrArg (tokOf x st mod g r k * ·) (congrArg wg (funext fun a => Fin.ext ?_))
  have := e.isLt; have := f.isLt; have := k.isLt
  match a with
  | ⟨0, _⟩ => rfl
  | ⟨1, _⟩ => show ((e.val * 1024 + k.val) * 256 + f.val) / 262144 % 16 = e.val; omega
  | ⟨2, _⟩ => show ((e.val * 1024 + k.val) * 256 + f.val) / 256 % 1024 = k.val; omega
  | ⟨3, _⟩ => show ((e.val * 1024 + k.val) * 256 + f.val) % 256 = f.val; omega

/-- The reference's up products. -/
theorem v48_at (r : Fin 28160) (e : Fin 16) (f : Fin 256) :
    val_main_v48 (F := Ideal) x st mod g wu (ix3 r e f) = ∑ k : Fin 1024, tokOf x st mod g r k * wu (ix4 0 e k f) := by
  rw [val_main_v48_apply]
  refine Finset.sum_congr rfl fun k _ => ?_
  have e1 : lidx_main_v48 (ix3 r e f) k = ix2 r k := by funext a; match a with | ⟨0, _⟩ => rfl | ⟨1, _⟩ => rfl
  rw [e1, v37_at, val_main_v47_apply, val_main_v46_apply]
  refine congrArg (tokOf x st mod g r k * ·) (congrArg wu (funext fun a => Fin.ext ?_))
  have := e.isLt; have := f.isLt; have := k.isLt
  match a with
  | ⟨0, _⟩ => rfl
  | ⟨1, _⟩ => show ((e.val * 1024 + k.val) * 256 + f.val) / 262144 % 16 = e.val; omega
  | ⟨2, _⟩ => show ((e.val * 1024 + k.val) * 256 + f.val) / 256 % 1024 = k.val; omega
  | ⟨3, _⟩ => show ((e.val * 1024 + k.val) * 256 + f.val) % 256 = f.val; omega

/-- The reference's down weights. -/
theorem v55_at (e : Fin 16) (f : Fin 256) (d : Fin 1024) : val_main_v55 (F := Ideal) wd (ix3 e f d) = wd (ix4 0 e f d) := by
  rw [val_main_v55_apply, val_main_v54_apply]
  refine congrArg wd (funext fun a => Fin.ext ?_)
  have := e.isLt; have := f.isLt; have := d.isLt
  match a with
  | ⟨0, _⟩ => rfl
  | ⟨1, _⟩ => show ((e.val * 256 + f.val) * 1024 + d.val) / 262144 % 16 = e.val; omega
  | ⟨2, _⟩ => show ((e.val * 256 + f.val) * 1024 + d.val) / 1024 % 256 = f.val; omega
  | ⟨3, _⟩ => show ((e.val * 256 + f.val) * 1024 + d.val) % 1024 = d.val; omega

/-- The reference's hidden row of an expert. -/
theorem v53_at (r : Fin 28160) (e : Fin 16) (f : Fin 256) :
    val_main_v53 (F := Ideal) x w st pl mod g wg wu (ix3 r e f)
      = hidAt (tokOf x st mod g r) (fun k => wg (ix4 0 e k f)) (fun k => wu (ix4 0 e k f)) (val_main_v42 (F := Ideal) w pl (ix2 r e)) := by
  have e1 : idx_main_v51 (idx_main_v52 (ix3 r e f)) = ix2 r e := by funext a; match a with | ⟨0, _⟩ => rfl | ⟨1, _⟩ => rfl
  rw [val_main_v53_apply, val_main_v50_apply, val_main_v49_apply, val_main_call4_v5_apply, val_main_call4_v4_apply, val_main_call4_cst_0_apply, val_main_call4_v3_apply,
    val_main_call4_v2_apply, val_main_call4_cst_apply, val_main_call4_v1_apply, val_main_call4_v0_apply, val_main_v52_apply, val_main_v51_apply, e1, v45_at, v48_at]
  unfold hidAt
  have h : ∀ z : EReal, FloatOps.hostDivf (F := Ideal) (φ := .f32) (FloatOps.ofBits .f32 0x3F800000#32)
      (FloatOps.addf (FloatOps.ofBits .f32 0x3F800000#32) (FloatOps.hostUnary .exp (FloatOps.hostNegf z))) = Ideal.logistic z := fun z => by
    show Ideal.div (Ideal.ofBits .f32 0x3F800000#32) (Ideal.ofBits .f32 0x3F800000#32 + Ideal.exp (-z)) = _
    rw [one_eq]; rfl
  rw [h]
  rfl

/-- The product over experts and hidden lanes together. -/
theorem dot_at (a : S28160x16x256.Idx → EReal) (b : S16x256x1024.Idx → EReal) (r : Fin 28160) (d : Fin 1024) :
    Host.dotGeneral (F := Ideal) (φ₁ := .f32) (φ₂ := .f32) dot_S28160x16x256_S16x256x1024_S28160x1024_12_01_0_2_n_n none a b (ix2 r d) = ∑ e : Fin 16, ∑ f : Fin 256, a (ix3 r e f) * b (ix3 e f d) := by
  simp only [Host.dotGeneral]
  rw [Ideal.dotGeneral_apply, ValueIdx.sum_contr2 dot_S28160x16x256_S16x256x1024_S28160x1024_12_01_0_2_n_n 16 256 rfl rfl rfl]
  refine Finset.sum_congr rfl fun e _ => Finset.sum_congr rfl fun f _ => ?_
  have k0 := ValueIdx.contrEquiv2_symm_val0 dot_S28160x16x256_S16x256x1024_S28160x1024_12_01_0_2_n_n 16 256 rfl rfl rfl (e, f)
  have k1 := ValueIdx.contrEquiv2_symm_val1 dot_S28160x16x256_S16x256x1024_S28160x1024_12_01_0_2_n_n 16 256 rfl rfl rfl (e, f)
  generalize (ValueIdx.contrEquiv2 dot_S28160x16x256_S16x256x1024_S28160x1024_12_01_0_2_n_n 16 256 rfl rfl rfl).symm (e, f) = q at k0 k1
  have l0 : (dot_S28160x16x256_S16x256x1024_S28160x1024_12_01_0_2_n_n.lhsIdx (ix2 r d) q 0).val = r.val := by
    unfold DotDims.lhsIdx
    rw [dif_neg (show ¬(0 : Fin S28160x16x256.rank) ∈ dot_S28160x16x256_S16x256x1024_S28160x1024_12_01_0_2_n_n.lhsBatch by decide), dif_pos (show (0 : Fin S28160x16x256.rank) ∈ dot_S28160x16x256_S16x256x1024_S28160x1024_12_01_0_2_n_n.lhsNonContracting by decide)]
    rfl
  have l1 : (dot_S28160x16x256_S16x256x1024_S28160x1024_12_01_0_2_n_n.lhsIdx (ix2 r d) q 1).val = e.val := by
    unfold DotDims.lhsIdx
    rw [dif_neg (show ¬(1 : Fin S28160x16x256.rank) ∈ dot_S28160x16x256_S16x256x1024_S28160x1024_12_01_0_2_n_n.lhsBatch by decide), dif_neg (show ¬(1 : Fin S28160x16x256.rank) ∈ dot_S28160x16x256_S16x256x1024_S28160x1024_12_01_0_2_n_n.lhsNonContracting by decide)]
    exact k0
  have l2 : (dot_S28160x16x256_S16x256x1024_S28160x1024_12_01_0_2_n_n.lhsIdx (ix2 r d) q 2).val = f.val := by
    unfold DotDims.lhsIdx
    rw [dif_neg (show ¬(2 : Fin S28160x16x256.rank) ∈ dot_S28160x16x256_S16x256x1024_S28160x1024_12_01_0_2_n_n.lhsBatch by decide), dif_neg (show ¬(2 : Fin S28160x16x256.rank) ∈ dot_S28160x16x256_S16x256x1024_S28160x1024_12_01_0_2_n_n.lhsNonContracting by decide)]
    exact k1
  have r0 : (dot_S28160x16x256_S16x256x1024_S28160x1024_12_01_0_2_n_n.rhsIdx (ix2 r d) q 0).val = e.val := by
    unfold DotDims.rhsIdx
    rw [dif_neg (show ¬(0 : Fin S16x256x1024.rank) ∈ dot_S28160x16x256_S16x256x1024_S28160x1024_12_01_0_2_n_n.rhsBatch by decide), dif_neg (show ¬(0 : Fin S16x256x1024.rank) ∈ dot_S28160x16x256_S16x256x1024_S28160x1024_12_01_0_2_n_n.rhsNonContracting by decide)]
    exact k0
  have r1 : (dot_S28160x16x256_S16x256x1024_S28160x1024_12_01_0_2_n_n.rhsIdx (ix2 r d) q 1).val = f.val := by
    unfold DotDims.rhsIdx
    rw [dif_neg (show ¬(1 : Fin S16x256x1024.rank) ∈ dot_S28160x16x256_S16x256x1024_S28160x1024_12_01_0_2_n_n.rhsBatch by decide), dif_neg (show ¬(1 : Fin S16x256x1024.rank) ∈ dot_S28160x16x256_S16x256x1024_S28160x1024_12_01_0_2_n_n.rhsNonContracting by decide)]
    exact k1
  have r2 : (dot_S28160x16x256_S16x256x1024_S28160x1024_12_01_0_2_n_n.rhsIdx (ix2 r d) q 2).val = d.val := by
    unfold DotDims.rhsIdx
    rw [dif_neg (show ¬(2 : Fin S16x256x1024.rank) ∈ dot_S28160x16x256_S16x256x1024_S28160x1024_12_01_0_2_n_n.rhsBatch by decide), dif_pos (show (2 : Fin S16x256x1024.rank) ∈ dot_S28160x16x256_S16x256x1024_S28160x1024_12_01_0_2_n_n.rhsNonContracting by decide)]
    rfl
  have el : dot_S28160x16x256_S16x256x1024_S28160x1024_12_01_0_2_n_n.lhsIdx (ix2 r d) q = ix3 r e f := funext fun a => Fin.ext (by match a with | ⟨0, _⟩ => exact l0 | ⟨1, _⟩ => exact l1 | ⟨2, _⟩ => exact l2)
  have er : dot_S28160x16x256_S16x256x1024_S28160x1024_12_01_0_2_n_n.rhsIdx (ix2 r d) q = ix3 e f d := funext fun a => Fin.ext (by match a with | ⟨0, _⟩ => exact r0 | ⟨1, _⟩ => exact r1 | ⟨2, _⟩ => exact r2)
  rw [el, er]

/-- An expert with no weight adds nothing. -/
theorem part_zero (r : Fin 28160) (d : Fin 1024) (e : Fin 16) : partOf x st mod g wg wu wd r d e 0 = 0 := by
  unfold partOf hidAt
  simp

/-- The reference's sum over all experts. -/
theorem v56_at (r : Fin 28160) (d : Fin 1024) :
    val_main_v56 (F := Ideal) x w st pl mod g wg wu wd (ix2 r d) = ∑ e : Fin 16, partOf x st mod g wg wu wd r d e (val_main_v42 (F := Ideal) w pl (ix2 r e)) := by
  unfold val_main_v56
  rw [dot_at]
  refine Finset.sum_congr rfl fun e _ => Finset.sum_congr rfl fun f _ => ?_
  rw [v53_at, v55_at]

/-- A sum of parts of which only two experts have a weight. -/
theorem two_parts (P : Fin 16 → EReal → EReal) (hP : ∀ e, P e 0 = 0) (e0 e1 : Fin 16) (hne : e0 ≠ e1) (a b : EReal) :
    ∑ e, P e ((if e0 = e then a else 0) + if e1 = e then b else 0) = P e0 a + P e1 b := by
  have h : ∀ e, P e ((if e0 = e then a else 0) + if e1 = e then b else 0) = (if e0 = e then P e0 a else 0) + if e1 = e then P e1 b else 0 := fun e => by
    by_cases h0 : e0 = e
    · subst h0
      rw [if_pos rfl, if_pos rfl, if_neg hne.symm, if_neg hne.symm, add_zero, add_zero]
    · rw [if_neg h0, if_neg h0, zero_add, zero_add]
      by_cases h1 : e1 = e
      · subst h1; rw [if_pos rfl, if_pos rfl]
      · rw [if_neg h1, if_neg h1, hP]
  rw [Finset.sum_congr rfl fun e _ => h e, Finset.sum_add_distrib]
  simp

/-- The plan's word is an expert's number when the expert is. -/
theorem word_eq (v : BitVec 32) (hv : v.toNat < 16) (e : Fin 16) : (v = BitVec.ofNat 32 e.val) ↔ Fin.ofNat 16 v.toNat = e := by
  have he := e.isLt
  constructor
  · intro h
    apply Fin.ext
    show v.toNat % 16 = e.val
    rw [h, BitVec.toNat_ofNat]; omega
  · intro h
    have h' : v.toNat % 16 = e.val := congrArg Fin.val h
    apply BitVec.eq_of_toNat_eq
    rw [BitVec.toNat_ofNat]; omega

/-- Which rows the reference keeps: those of the tiles in use. -/
theorem v9_at (h : Cert.ExpertsPlan.Routed pl) (r : Fin 28160) (a b : EReal) :
    Scalar.select (val_main_v9 (F := Ideal) pl (ix1 r)) a b = if r.val / 512 < Cert.ExpertsPlan.used pl then a else b := by
  obtain ⟨u1, u2⟩ := Cert.ExpertsPlan.used_pos h
  have hn : ∀ z : S_.Idx, val_main_v6 (F := Ideal) pl z = pl (ix2 2 0) := by
    intro z
    unfold val_main_v6
    rw [shapeCast_apply _ _ z (ix2 0 0) (by rw [Shape.rowMajor_val_two]; have := (S_.rowMajor z).isLt; have e : S_.numel = 1 := by decide
                                            show 0 * 1 + 0 = _; omega), val_main_v5_apply]
    exact congrArg pl (funext fun a => by match a with | ⟨0, _⟩ => rfl | ⟨1, _⟩ => rfl)
  rw [val_main_v9_apply, val_main_v8_apply, val_main_v7_apply, hn, val_main_c_apply, val_main_v4_apply]
  unfold Cert.ExpertsPlan.used at u1 u2 ⊢
  generalize pl (ix2 2 0) = v at u1 u2 ⊢
  have hr := r.isLt
  have hv : (IntOp.muli v 512#32).toInt = 512 * v.toNat := by
    show (v * 512#32).toInt = _
    rw [BitVec.toInt_eq_toNat_of_lt] <;> rw [BitVec.toNat_mul] <;> simp <;> omega
  have hx : (BitVec.ofNat 32 r.val).toInt = r.val := by
    rw [BitVec.toInt_eq_toNat_of_lt] <;> rw [BitVec.toNat_ofNat] <;> omega
  have hc : IntOp.cmpi .slt (BitVec.ofNat 32 r.val) (IntOp.muli v 512#32) = BitVec.ofBool (decide (r.val / 512 < v.toNat)) := by
    unfold IntOp.cmpi
    refine congrArg BitVec.ofBool ?_
    show (BitVec.ofNat 32 r.val).slt (IntOp.muli v 512#32) = _
    rw [BitVec.slt, hv, hx]
    exact decide_eq_decide.mpr (by omega)
  show Scalar.select (IntOp.cmpi .slt (BitVec.ofNat 32 r.val) (IntOp.muli v 512#32)) a b = _
  rw [hc]
  by_cases hlt : r.val / 512 < v.toNat
  · rw [if_pos hlt, decide_eq_true hlt]; rfl
  · rw [if_neg hlt, decide_eq_false hlt]; rfl

/-- The reference's array is the array of rows. -/
theorem ref_rows (h : Cert.ExpertsPlan.Routed pl) :
    val_main_v60 (F := Ideal) x w st pl mod g wg wu wd = rows x w st mod g wg wu wd (Cert.ExpertsPlan.used pl) (Cert.ExpertsPlan.expert pl) := by
  funext i
  obtain ⟨r, d, rfl⟩ : ∃ (r : Fin 28160) (d : Fin 1024), i = ix2 r d := ⟨i 0, i 1, funext fun a => by match a with | ⟨0, _⟩ => rfl | ⟨1, _⟩ => rfl⟩
  have e1 : idx_main_v57 (idx_main_call5_v1 (ix2 r d)) = ix1 r := by funext a; match a with | ⟨0, _⟩ => rfl
  rw [val_main_v60_apply, val_main_call5_v1_apply, val_main_v57_apply, e1, v9_at pl h, val_main_v59_apply, val_main_v58_apply, v18_at, v56_at,
    val_main_call5_v2_apply, val_main_call5_v0_apply, val_main_cst_4_apply]
  show (if r.val / 512 < _ then _ else Ideal.ofBits .f32 0x00000000#32)
    = if r.val / 512 < _ then rowOf x w st mod g wg wu wd (Fin.ofNat 16 (Cert.ExpertsPlan.expert pl 0 (r.val / 512))) (Fin.ofNat 16 (Cert.ExpertsPlan.expert pl 1 (r.val / 512))) r d else 0
  rw [Ideal.ofBits_zero]
  by_cases hu : r.val / 512 < Cert.ExpertsPlan.used pl
  swap
  · rw [if_neg hu, if_neg hu]
  rw [if_pos hu, if_pos hu]
  obtain ⟨l1, l2, l3⟩ := Cert.ExpertsPlan.expert_lt h (r.val / 512) hu
  have hr := r.isLt
  have hx0 : Cert.ExpertsPlan.expert pl 0 (r.val / 512) = (pl (ix2 0 ⟨r.val / 512, by omega⟩)).toNat :=
    congrArg (fun z => (pl (ix2 0 z)).toNat) (Fin.ext (by show r.val / 512 % 128 = r.val / 512; omega))
  have hx1 : Cert.ExpertsPlan.expert pl 1 (r.val / 512) = (pl (ix2 1 ⟨r.val / 512, by omega⟩)).toNat :=
    congrArg (fun z => (pl (ix2 1 z)).toNat) (Fin.ext (by show r.val / 512 % 128 = r.val / 512; omega))
  rw [hx0, hx1]
  rw [hx0] at l1
  rw [hx1] at l2
  rw [hx0, hx1] at l3
  have hne : Fin.ofNat 16 (pl (ix2 0 ⟨r.val / 512, by omega⟩)).toNat ≠ Fin.ofNat 16 (pl (ix2 1 ⟨r.val / 512, by omega⟩)).toNat := fun hh => by
    have : (pl (ix2 0 ⟨r.val / 512, by omega⟩)).toNat % 16 = (pl (ix2 1 ⟨r.val / 512, by omega⟩)).toNat % 16 := congrArg Fin.val hh
    omega
  have key : ∑ e : Fin 16, partOf x st mod g wg wu wd r d e (val_main_v42 (F := Ideal) w pl (ix2 r e))
      = partOf x st mod g wg wu wd r d (Fin.ofNat 16 (pl (ix2 0 ⟨r.val / 512, by omega⟩)).toNat) (w (ix2 r 0))
        + partOf x st mod g wg wu wd r d (Fin.ofNat 16 (pl (ix2 1 ⟨r.val / 512, by omega⟩)).toNat) (w (ix2 r 1)) := by
    rw [← two_parts (fun e v => partOf x st mod g wg wu wd r d e v) (fun e => part_zero x st mod g wg wu wd r d e) _ _ hne (w (ix2 r 0)) (w (ix2 r 1))]
    refine Finset.sum_congr rfl fun e _ => ?_
    rw [v42_at]
    simp only [word_eq _ l1 e, word_eq _ l2 e]
  rw [key]
  rfl

end Cert.ExpertsRef

end
-- ==== Proof.ExpertsClose.lean ====
/- The experts' call and its reference leave the same array. -/
module

public import proofs.«01_k».proof.Proof.ExpertsRef

@[expose] public section

set_option maxRecDepth 16384

noncomputable section

namespace Cert.ExpertsClose

open Idealize.ShloMosaic Idealize.ShloMosaic.TcCoe Idealize.SL.Sem

/-- What the call leaves, its arguments unchanged. -/
theorem kernel_run (m : (ℓ : Loc Cert.ExpertsIdeal.nD Cert.ExpertsIdeal.τ Cert.ExpertsIdeal.sig) → Buf (Elt Ideal) ℓ) (ρ : Dev Cert.ExpertsIdeal.nD → PrngReg)
    {n : Nat} {e : Fin 2 → Nat → Nat} (ok : Cert.ExpertsIdealBody.TabOK (Cert.ExpertsIdealBody.pf m 0) n e) :
    θ_run Cert.ExpertsIdeal.defs (onTc (τ := Cert.ExpertsIdeal.τ) (Cert.ExpertsIdeal.main (F := Ideal))) ⟨m, fun _ => 0, ρ⟩ (fun r => ∀ c : Dev Cert.ExpertsIdeal.nD,
      r.2.mem ((c.tc : Thread Cert.ExpertsIdeal.nD Cert.ExpertsIdeal.τ).loc Cert.ExpertsIdeal.main_v19) = Cert.ExpertsIdealFinal.outRows m n e c) :=
  (θ_run _ _ _).mono (fun _ h c => ((h c).1 9).trans (Cert.ExpertsIdealFinal.final m ok c)) (Cert.ExpertsIdealBody.run_main (F := Ideal) m ρ ok)

set_option maxHeartbeats 800000 in
/-- The call's values and the reference's meet. -/
theorem algebraic : @Cert.algebraic_ExpertsIdeal_ExpertsRefIdeal Cert.ExpertsIdeal.Gen.facts Cert.ExpertsRefIdeal.Gen.facts Cert.Pre_routed.Gen.facts := by
  letI := Cert.Pre_routed.Gen.facts
  intro m g m' g' hpre hargs
  have hr := Cert.ExpertsPlan.pre_routed _ _ _ _ _ _ _ _ _ (hpre 0)
  have ok := Cert.ExpertsPlan.pf_ok m hr
  refine ⟨fun c => Cert.ExpertsIdealFinal.outRows m (Cert.ExpertsPlan.used (m (((0 : Dev Cert.ExpertsIdeal.nD) : Thread Cert.ExpertsIdeal.nD Cert.ExpertsIdeal.τ).loc Cert.ExpertsIdeal.main_arg3)))
    (Cert.ExpertsPlan.expert (m (((0 : Dev Cert.ExpertsIdeal.nD) : Thread Cert.ExpertsIdeal.nD Cert.ExpertsIdeal.τ).loc Cert.ExpertsIdeal.main_arg3))) c, ?_, ?_⟩
  · refine (θ_run _ _ _).mono (fun r h c => ⟨h.1 c, h.2 c⟩) (θ_run_and (kernel_run m g ok) (Cert.ExpertsIdealBody.unchanged (F := Ideal) m g ok))
  · refine (θ_run Cert.ExpertsRefIdeal.defs _ _).mono (fun r h c => ⟨(h c).1.trans ?_, (h c).2⟩) (Cert.ExpertsRefIdeal.Value.run (F := Ideal) m' g')
    obtain ⟨h0, h1, h2, h3, h4, h5, h6, h7, h8⟩ := hargs c
    have hc : c = 0 := Subsingleton.elim c 0
    subst hc
    rw [Cert.ExpertsRefIdeal.Read.val_main_v60_eq, h0, h1, h2, h3, h4, h5, h6, h7, h8]
    exact Cert.ExpertsRef.ref_rows _ _ _ _ _ _ _ _ _ hr

/-- The reference's frame. -/
theorem ref_frame : @Cert.quiescent_ExpertsRefIdeal Cert.ExpertsRefIdeal.Gen.facts := fun m ρ _ =>
  (θ_run Cert.ExpertsRefIdeal.defs _ _).mono (fun r h => ⟨fun c => (h c).2, Idealize.ShloMosaic.sem_eq_zero_of_no_sems (by decide) r.2⟩) (Cert.ExpertsRefIdeal.Value.run (F := Ideal) m ρ)

end Cert.ExpertsClose

end
-- ==== Proof.OutFinal.lean ====
/- What the output product's call leaves, over exact numbers: each token plus its gated, normalised row through the product. -/
module

public import proofs.«01_k».proof.Proof.Gen.OutIdeal.Value
public import Idealize.ShloMosaic.Lib.Pointwise
public import Idealize.ShloMosaic.Lib.Pointwise.Sums
public import Idealize.ShloMosaic.Lib.Pipeline.ValueKit

@[expose] public section

set_option maxRecDepth 16384

noncomputable section

namespace Cert.OutFinal

open Cert.OutIdeal Cert.OutIdeal.Gen Idealize.ShloMosaic Idealize.ShloMosaic.TcCoe Idealize.SL.Sem

/-- A lane of a row divided by the root of the row's mean square, times its gain. -/
def normAt (a : Fin 2048 → EReal) (g : EReal) (k : Fin 2048) : EReal :=
  a k * Ideal.rsqrt (Ideal.div (∑ j : Fin 2048, a j * a j) (Ideal.ofBits .f32 0x45000000#32) + Ideal.ofBits .f32 0x358637BD#32) * g

/-- The result array: a row for each token, its gate the one of its sample. -/
def rows (a : FVec Ideal S8192x2048 .f32) (x : FVec Ideal S8192x1024 .f32) (mod : FVec Ideal S4x6x3x1x1024 .f32) (g : FVec Ideal S2x2048 .f32)
    (w : FVec Ideal S2x2048x1024 .f32) : FVec Ideal S8192x1024 .f32 := fun i =>
  x i + mod (ix5 1 2 ⟨1 + (i 0).val / 4096, by have := (i 0).isLt; simp at this; omega⟩ 0 (i 1))
    * ∑ k : Fin 2048, normAt (fun j => a (ix2 (i 0) j)) (g (ix2 0 k)) k * w (ix3 0 k (i 1))

/-- The body's result at a row and a lane. -/
theorem pay1_apply (a : FVec Ideal S512x2048 .f32) (g : FVec Ideal S1x2048 .f32) (w : FVec Ideal S2048x1024 .bf16) (x : FVec Ideal S512x1024 .f32)
    (z : FVec Ideal S1x1x1x1x1024 .f32) (p : Fin 512) (d : Fin 1024) :
    k0_pay1 (F := Ideal) a g w x z (ix2 p d)
      = x (ix2 p d) + z (ix5 0 0 0 0 d) * ∑ k : Fin 2048, normAt (fun j => a (ix2 p j)) (g (ix2 0 k)) k * w (ix2 k d) := by
  pointwise [k0_pay1, normAt]

/-- The layer's gain, as the host lays it out. -/
def gLay (g : FVec Ideal S2x2048 .f32) : FVec Ideal S1x2048 .f32 :=
  broadcastInDim S1x2048 ![1] bcast_S2048_S1x2048_1 (shapeCast S2048 (extractStridedSlice S1x2048 ![0, 0] g slices_S2x2048_S1x2048_0_0) shapeCasts_S1x2048_S2048)

/-- The layer's weights, as the host lays them out. -/
def wLay (w : FVec Ideal S2x2048x1024 .f32) : FVec Ideal S2048x1024 .bf16 :=
  truncf .bf16 (shapeCast S2048x1024 (extractStridedSlice S1x2048x1024 ![0, 0, 0] w slices_S2x2048x1024_S1x2048x1024_0_0_0) shapeCasts_S1x2048x1024_S2048x1024 : FVec Ideal S2048x1024 .f32) bitsLt_bf16_f32

/-- The laid out gain is layer 0's. -/
theorem gLay_apply (g : FVec Ideal S2x2048 .f32) (k : Fin 2048) : gLay g (ix2 0 k) = g (ix2 0 k) := by
  pointwise [gLay]

/-- The laid out weights are layer 0's. -/
theorem wLay_apply (w : FVec Ideal S2x2048x1024 .f32) (k : Fin 2048) (d : Fin 1024) : wLay w (ix2 k d) = w (ix3 0 k d) := by
  pointwise [wLay]

variable (m : (ℓ : Loc nD τ sig) → Buf (Elt Ideal) ℓ) (c : Dev nD)

/-- The gain the call is given. -/
theorem V_g : V m c main_v5 = gLay (m ((c : Thread nD τ).loc main_arg3)) := by
  unfold V; entry_read; rfl

/-- The weights the call is given. -/
theorem V_w : V m c main_v2 = wLay (m ((c : Thread nD τ).loc main_arg4)) := by
  unfold V; entry_read; rfl

/-- The activations' block at a grid point. -/
theorem idx0 : ∀ t : Fin cfg0.N, win0_0.index t = ![t.val, 0] := (by decide +kernel : ∀ t : Fin grid0.N, _)
/-- The gain's block at a grid point. -/
theorem idx1 : ∀ t : Fin cfg0.N, win0_1.index t = ![0, 0] := (by decide +kernel : ∀ t : Fin grid0.N, _)
/-- The weights' block at a grid point. -/
theorem idx2 : ∀ t : Fin cfg0.N, win0_2.index t = ![0, 0] := (by decide +kernel : ∀ t : Fin grid0.N, _)
/-- The tokens' block at a grid point. -/
theorem idx3 : ∀ t : Fin cfg0.N, win0_3.index t = ![t.val, 0] := (by decide +kernel : ∀ t : Fin grid0.N, _)
/-- The gate's block at a grid point. -/
theorem idx4 : ∀ t : Fin cfg0.N, win0_4.index t = ![1, 2, 1 + t.val / 8, 0, 0] := (by decide +kernel : ∀ t : Fin grid0.N, _)
/-- The result's block at a grid point. -/
theorem idx5 : ∀ t : Fin cfg0.N, win0_5.index t = ![t.val, 0] := (by decide +kernel : ∀ t : Fin grid0.N, _)

/-- There are 16 grid points. -/
theorem t_lt (t : Fin cfg0.N) : t.val < 16 := t.isLt

/-- An activation of the block. -/
theorem iblk0 (t : Fin cfg0.N) (p : Fin 512) (k : Fin 2048) :
    iblk m c 0 t (ix2 p k) = V m c main_arg0 (ix2 ⟨512 * t.val + p.val, by have := t_lt t; omega⟩ k) := by
  blk_ext [iblk, idx0]

/-- A gain of the block. -/
theorem iblk1 (t : Fin cfg0.N) (k : Fin 2048) : iblk m c 1 t (ix2 0 k) = V m c main_v5 (ix2 0 k) := by
  blk_ext [iblk, idx1]

/-- A weight of the block. -/
theorem iblk2 (t : Fin cfg0.N) (k : Fin 2048) (d : Fin 1024) : iblk m c 2 t (ix2 k d) = V m c main_v2 (ix2 k d) := by
  blk_ext [iblk, idx2]

/-- A token of the block. -/
theorem iblk3 (t : Fin cfg0.N) (p : Fin 512) (d : Fin 1024) :
    iblk m c 3 t (ix2 p d) = V m c main_arg1 (ix2 ⟨512 * t.val + p.val, by have := t_lt t; omega⟩ d) := by
  blk_ext [iblk, idx3]

/-- A gate of the block. -/
theorem iblk4 (t : Fin cfg0.N) (d : Fin 1024) :
    iblk m c 4 t (ix5 0 0 0 0 d) = V m c main_arg2 (ix5 1 2 ⟨1 + t.val / 8, by have := t_lt t; omega⟩ 0 d) := by
  blk_ext [iblk, idx4]

/-- The body's result buffer is its one store. -/
theorem out_eq (x0 : Vec Ideal S512x2048 .f32) (x1 : Vec Ideal S1x2048 .f32) (x2 : Vec Ideal S2048x1024 .bf16) (x3 : Vec Ideal S512x1024 .f32)
    (x4 : Vec Ideal S1x1x1x1x1024 .f32) : out0_5 (F := Ideal) x0 x1 x2 x3 x4 = k0_pay1 (F := Ideal) x0 x1 x2 x3 x4 := by
  have e0 : View.ld x0 r0_0 = x0 := by funext y; exact congrArg x0 (funext fun a => Fin.ext (by show (Rect.emb r0_0 y a).val = _; rw [ValueKit.rect_emb_unit_val]; fin_cases a <;> simp))
  have e1 : View.ld x1 r0_1 = x1 := by funext y; exact congrArg x1 (funext fun a => Fin.ext (by show (Rect.emb r0_1 y a).val = _; rw [ValueKit.rect_emb_unit_val]; fin_cases a <;> simp))
  have e2 : View.ld x2 r0_2 = x2 := by funext y; exact congrArg x2 (funext fun a => Fin.ext (by show (Rect.emb r0_2 y a).val = _; rw [ValueKit.rect_emb_unit_val]; fin_cases a <;> simp))
  have e3 : View.ld x3 r0_3 = x3 := by funext y; exact congrArg x3 (funext fun a => Fin.ext (by show (Rect.emb r0_3 y a).val = _; rw [ValueKit.rect_emb_unit_val]; fin_cases a <;> simp))
  have e4 : View.ld x4 r0_4 = x4 := by funext y; exact congrArg x4 (funext fun a => Fin.ext (by show (Rect.emb r0_4 y a).val = _; rw [ValueKit.rect_emb_unit_val]; fin_cases a <;> simp))
  unfold out0_5
  rw [e0, e1, e2, e3, e4]
  funext y
  refine View.canon_apply_of_pieces (Val := Elt Ideal) (S := S512x1024) (e := .f32) (k0_pay1 (F := Ideal) x0 x1 x2 x3 x4) _ ?_ y (cover0_5 _ y)
  intro p hp x
  obtain rfl := List.mem_singleton.mp hp
  exact congrArg (k0_pay1 (F := Ideal) x0 x1 x2 x3 x4) (funext fun a => Fin.ext (by show _ = (Rect.emb r0_3 x a).val; rw [ValueKit.rect_emb_unit_val]; fin_cases a <;> simp))

/-- The array of rows of the call's arguments. -/
abbrev outRows : FVec Ideal S8192x1024 .f32 :=
  rows (m ((c : Thread nD τ).loc main_arg0)) (m ((c : Thread nD τ).loc main_arg1)) (m ((c : Thread nD τ).loc main_arg2)) (m ((c : Thread nD τ).loc main_arg3))
    (m ((c : Thread nD τ).loc main_arg4))

/-- What the body leaves at a grid point is the point's rows. -/
theorem out_block (t : Fin cfg0.N) (p : Fin 512) (d : Fin 1024) :
    out0_5 (F := Ideal) (iblk m c 0 t) (iblk m c 1 t) (iblk m c 2 t) (iblk m c 3 t) (iblk m c 4 t) (ix2 p d)
      = outRows m c (ix2 ⟨512 * t.val + p.val, by have := t_lt t; omega⟩ d) := by
  have := t_lt t
  rw [out_eq, pay1_apply, iblk3, iblk4, V_main_arg1, V_main_arg2]
  have hs : (⟨1 + t.val / 8, by omega⟩ : Fin 3) = ⟨1 + (512 * t.val + p.val) / 4096, by omega⟩ := Fin.ext (by dsimp only; omega)
  rw [hs]
  have ha : (fun j : Fin 2048 => iblk m c 0 t (ix2 p j)) = fun j => m ((c : Thread nD τ).loc main_arg0) (ix2 ⟨512 * t.val + p.val, by omega⟩ j) := by
    funext j; rw [iblk0, V_main_arg0]
  have hk : ∀ k : Fin 2048, normAt (fun j => iblk m c 0 t (ix2 p j)) (iblk m c 1 t (ix2 0 k)) k * iblk m c 2 t (ix2 k d)
      = normAt (fun j => m ((c : Thread nD τ).loc main_arg0) (ix2 ⟨512 * t.val + p.val, by omega⟩ j)) (m ((c : Thread nD τ).loc main_arg3) (ix2 0 k)) k
        * m ((c : Thread nD τ).loc main_arg4) (ix3 0 k d) := by
    intro k
    rw [ha, iblk1, V_g, gLay_apply, iblk2, V_w, wLay_apply]
  rw [Finset.sum_congr rfl fun k _ => hk k]
  rfl

/-- The call's result is the array of rows. -/
theorem final : (dats (F := Ideal) m 0 c).arrAt 5 cfg0.N = outRows m c := by
  refine (dats m 0 c).arrAt_eq_of_covers 5 _ (by decide +kernel) fun t hf y => ?_
  blk_simp
  rw [after0_5]
  have h0 : ((win0_5.blk t).view.emb y 0 : ℕ) = 512 * t.val + (y 0).val := by
    blk_simp [idx5]; omega
  have h1 : ((win0_5.blk t).view.emb y 1 : ℕ) = (y 1).val := by
    blk_simp [idx5]; try omega
  have := t_lt t
  have key : ∀ y : S512x1024.Idx, out0_5 (F := Ideal) (iblk m c 0 t) (iblk m c 1 t) (iblk m c 2 t) (iblk m c 3 t) (iblk m c 4 t) y
      = outRows m c (ix2 ⟨512 * t.val + (y 0).val, by have h : (y 0).val < 512 := (y 0).isLt; omega⟩ (y 1)) := by
    intro y
    idx_vars y
    exact out_block m c t y0 y1
  refine (key y).trans (congrArg (outRows m c) (funext fun a => Fin.ext ?_))
  match a with
  | ⟨0, _⟩ => exact h0.symm
  | ⟨1, _⟩ => exact h1.symm

end Cert.OutFinal

end
-- ==== Proof.OutClose.lean ====
/- The output product's call and its reference leave equal arrays. -/
module

public import proofs.«01_k».proof.Defs
public import proofs.«01_k».proof.Proof.OutFinal
public import proofs.«01_k».proof.Proof.Gen.OutRefIdeal.Run
public import proofs.«01_k».proof.Proof.Gen.OutRefIdeal.Read

@[expose] public section

set_option maxRecDepth 16384

noncomputable section

namespace Cert.OutClose

open Cert.OutRefIdeal Cert.OutRefIdeal.Gen Cert.OutRefIdeal.Read Cert.OutFinal Idealize.ShloMosaic Idealize.ShloMosaic.TcCoe Idealize.SL.Sem

section Ref
variable (a : FVec Ideal S8192x2048 .f32) (x : FVec Ideal S8192x1024 .f32) (mod : FVec Ideal S4x6x3x1x1024 .f32) (g : FVec Ideal S2x2048 .f32)
  (w : FVec Ideal S2x2048x1024 .f32)

/-- An activation by sample and token. -/
theorem v0_at (s : Fin 2) (T : Fin 4096) (k : Fin 2048) : val_main_v0 (F := Ideal) a (ix3 s T k) = a (ix2 ⟨s.val * 4096 + T.val, by omega⟩ k) := by
  rw [val_main_v0_apply]
  refine congrArg a (funext fun b => Fin.ext ?_)
  match b with
  | ⟨0, _⟩ => show ((s.val * 4096 + T.val) * 2048 + k.val) / 2048 = s.val * 4096 + T.val; omega
  | ⟨1, _⟩ => show ((s.val * 4096 + T.val) * 2048 + k.val) % 2048 = k.val; omega

/-- The sum of a row's squares. -/
theorem v2_at (s : Fin 2) (T : Fin 4096) : val_main_v2 (F := Ideal) a (ix2 s T)
    = ∑ k : Fin 2048, a (ix2 ⟨s.val * 4096 + T.val, by omega⟩ k) * a (ix2 ⟨s.val * 4096 + T.val, by omega⟩ k) := by
  rw [val_main_v2_apply, val_main_cst_apply]
  refine (congrArg (· + _) Ideal.ofBits_zero_f32).trans ((zero_add _).trans (Finset.sum_congr rfl fun k _ => ?_))
  rw [val_main_v1_apply]
  have h : idx_main_v2 (ix2 s T) k = ix3 s T k := funext fun b => by match b with | ⟨0, _⟩ => rfl | ⟨1, _⟩ => rfl | ⟨2, _⟩ => rfl
  rw [h, v0_at]
  rfl

/-- The reciprocal root of a row's mean square. -/
theorem v8_at (s : Fin 2) (T : Fin 4096) : val_main_v8 (F := Ideal) a (ix3 s T 0)
    = Ideal.rsqrt (Ideal.div (∑ k : Fin 2048, a (ix2 ⟨s.val * 4096 + T.val, by omega⟩ k) * a (ix2 ⟨s.val * 4096 + T.val, by omega⟩ k)) (Ideal.ofBits .f32 0x45000000#32)
        + Ideal.ofBits .f32 0x358637BD#32) := by
  rw [val_main_v8_apply, val_main_v7_apply, val_main_v5_apply, val_main_v3_apply, val_main_v4_apply, val_main_v6_apply, val_main_cst_0_apply, val_main_cst_1_apply]
  have h : idx_main_v3 (ix3 s T 0) = ix2 s T := funext fun b => by match b with | ⟨0, _⟩ => rfl | ⟨1, _⟩ => rfl
  rw [h, v2_at]
  rfl

/-- The gain at a lane. -/
theorem v14_at (s : Fin 2) (T : Fin 4096) (k : Fin 2048) : val_main_v14 (F := Ideal) g (ix3 s T k) = g (ix2 0 k) := by
  rw [val_main_v14_apply, val_main_v13_apply, val_main_v12_apply, val_main_v11_apply]
  refine congrArg g (funext fun b => Fin.ext ?_)
  match b with
  | ⟨0, _⟩ => rfl
  | ⟨1, _⟩ => show k.val % 2048 = k.val; omega

/-- The normalised activation. -/
theorem v15_at (s : Fin 2) (T : Fin 4096) (k : Fin 2048) : val_main_v15 (F := Ideal) a g (ix3 s T k)
    = normAt (fun j => a (ix2 ⟨s.val * 4096 + T.val, by omega⟩ j)) (g (ix2 0 k)) k := by
  rw [val_main_v15_apply, val_main_v10_apply, val_main_v9_apply, v14_at, v0_at]
  have h : idx_main_v9 (ix3 s T k) = ix3 s T 0 := funext fun b => by match b with | ⟨0, _⟩ => rfl | ⟨1, _⟩ => rfl | ⟨2, _⟩ => rfl
  rw [h, v8_at]
  rfl

/-- A weight. -/
theorem v20_at (k : Fin 2048) (d : Fin 1024) : val_main_v20 (F := Ideal) w (ix2 k d) = w (ix3 0 k d) := by
  rw [val_main_v20_apply, val_main_v19_apply]
  refine congrArg w (funext fun b => Fin.ext ?_)
  match b with
  | ⟨0, _⟩ => rfl
  | ⟨1, _⟩ => show (k.val * 1024 + d.val) / 1024 % 2048 = k.val; omega
  | ⟨2, _⟩ => show (k.val * 1024 + d.val) % 1024 = d.val; omega

/-- The gate of a sample at a lane. -/
theorem v22_at (s : Fin 2) (T : Fin 4096) (d : Fin 1024) : val_main_v22 (F := Ideal) mod (ix3 s T d) = mod (ix5 1 2 ⟨1 + s.val, by omega⟩ 0 d) := by
  rw [val_main_v22_apply, val_main_v18_apply, val_main_v17_apply]
  refine congrArg mod (funext fun b => Fin.ext ?_)
  match b with
  | ⟨0, _⟩ => rfl
  | ⟨1, _⟩ => rfl
  | ⟨2, _⟩ => show 1 + ((s.val * 1 + 0) * 1024 + d.val) / 1024 % 2 = 1 + s.val; omega
  | ⟨3, _⟩ => rfl
  | ⟨4, _⟩ => show ((s.val * 1 + 0) * 1024 + d.val) % 1024 = d.val; omega

/-- The token by sample and place. -/
theorem v16_at (s : Fin 2) (T : Fin 4096) (d : Fin 1024) : val_main_v16 (F := Ideal) x (ix3 s T d) = x (ix2 ⟨s.val * 4096 + T.val, by omega⟩ d) := by
  rw [val_main_v16_apply]
  refine congrArg x (funext fun b => Fin.ext ?_)
  match b with
  | ⟨0, _⟩ => show ((s.val * 4096 + T.val) * 1024 + d.val) / 1024 = s.val * 4096 + T.val; omega
  | ⟨1, _⟩ => show ((s.val * 4096 + T.val) * 1024 + d.val) % 1024 = d.val; omega

/-- The product at a token and a lane. -/
theorem v21_at (s : Fin 2) (T : Fin 4096) (d : Fin 1024) : val_main_v21 (F := Ideal) a g w (ix3 s T d)
    = ∑ k : Fin 2048, normAt (fun j => a (ix2 ⟨s.val * 4096 + T.val, by omega⟩ j)) (g (ix2 0 k)) k * w (ix3 0 k d) := by
  rw [val_main_v21_apply]
  refine Finset.sum_congr rfl fun k _ => ?_
  have hl : lidx_main_v21 (ix3 s T d) k = ix3 s T k := funext fun b => by match b with | ⟨0, _⟩ => rfl | ⟨1, _⟩ => rfl | ⟨2, _⟩ => rfl
  have hr : ridx_main_v21 (ix3 s T d) k = ix2 k d := funext fun b => by match b with | ⟨0, _⟩ => rfl | ⟨1, _⟩ => rfl
  rw [hl, hr, v15_at, v20_at]

/-- The reference's array is the array of rows. -/
theorem ref_rows : val_main_v25 (F := Ideal) a x mod g w = rows a x mod g w := by
  funext i
  idx_vars i
  rw [val_main_v25_apply]
  have h : idx_main_v25 (ix2 i0 i1) = ix3 ⟨i0.val / 4096, by omega⟩ ⟨i0.val % 4096, by omega⟩ i1 := funext fun b => Fin.ext (by
    match b with
    | ⟨0, _⟩ => show (i0.val * 1024 + i1.val) / 4194304 = i0.val / 4096; omega
    | ⟨1, _⟩ => show (i0.val * 1024 + i1.val) / 1024 % 4096 = i0.val % 4096; omega
    | ⟨2, _⟩ => show (i0.val * 1024 + i1.val) % 1024 = i1.val; omega)
  have e : (⟨i0.val / 4096 * 4096 + i0.val % 4096, by omega⟩ : Fin 8192) = i0 := Fin.ext (by dsimp only; omega)
  rw [h, val_main_v24_apply, val_main_v23_apply, v16_at, v22_at, v21_at]
  dsimp only
  simp only [e]
  rfl

end Ref

/-- The kernel's values and the reference's meet. -/
theorem algebraic : @Cert.algebraic_OutIdeal_OutRefIdeal Cert.OutIdeal.Gen.facts Cert.OutRefIdeal.Gen.facts := by
  intro m g m' g' hpre hargs
  refine ⟨fun c => outRows m c, ?_, ?_⟩
  · refine (θ_run Cert.OutIdeal.defs _ _).mono (fun r h c => ⟨(h c).1.trans ?_, (h c).2⟩) (Cert.OutIdeal.Value.run_blocks (F := Ideal) m g)
    exact final m c
  · refine (θ_run Cert.OutRefIdeal.defs _ _).mono (fun r h c => ⟨(h c).1.trans ?_, (h c).2⟩) (Cert.OutRefIdeal.Value.run (F := Ideal) m' g')
    obtain ⟨h0, h1, h2, h3, h4⟩ := hargs c
    rw [h0, h1, h2, h3, h4, Cert.OutRefIdeal.Read.val_main_v25_eq]
    exact ref_rows _ _ _ _ _

end Cert.OutClose

end
-- ==== Proof.KvFinal.lean ====
/- What the prompt tokens' projection call leaves, over exact numbers: the keys, normalised by head, and the values. -/
module

public import proofs.«01_k».proof.Proof.Gen.KvIdeal.Value
public import Idealize.ShloMosaic.Lib.Pointwise
public import Idealize.ShloMosaic.Lib.Pointwise.Sums
public import Idealize.ShloMosaic.Lib.Pipeline.ValueKit
public import Idealize.ShloMosaic.Lib.Pipeline.ReadBack

@[expose] public section

set_option maxRecDepth 16384

noncomputable section

namespace Cert.KvFinal

open Cert.KvIdeal Cert.KvIdeal.Gen Idealize.ShloMosaic Idealize.ShloMosaic.TcCoe Idealize.SL.Sem

/-- A lane of a token's row divided by the root of the row's mean square, times its gain, scaled and shifted. -/
def modAt (x : Fin 1024 → EReal) (g sh sc : EReal) (k : Fin 1024) : EReal :=
  x k * Ideal.rsqrt (Ideal.div (∑ j : Fin 1024, x j * x j) (Ideal.ofBits .f32 0x44800000#32) + Ideal.ofBits .f32 0x358637BD#32) * g
    * (Ideal.ofBits .f32 0x3F800000#32 + sc) + sh

/-- A lane of a head's row divided by the root of the row's mean square, times its gain. -/
def headAt (y : Fin 64 → EReal) (g : EReal) (k : Fin 64) : EReal :=
  y k * Ideal.rsqrt (Ideal.div (∑ j : Fin 64, y j * y j) (Ideal.ofBits .f32 0x42800000#32) + Ideal.ofBits .f32 0x358637BD#32) * g

/-- The projection the body computes at a row and a lane. -/
theorem pay5_apply (x : FVec Ideal S512x1024 .f32) (g : FVec Ideal S1x1024 .f32) (sh sc : FVec Ideal S1x1x1x1x1024 .f32) (w : FVec Ideal S1024x1536 .bf16)
    (p : Fin 512) (d : Fin 1536) :
    k0_pay5 (F := Ideal) x g sh sc w (ix2 p d)
      = ∑ k : Fin 1024, modAt (fun j => x (ix2 p j)) (g (ix2 0 k)) (sh (ix5 0 0 0 0 k)) (sc (ix5 0 0 0 0 k)) k * w (ix2 k d) := by
  pointwise [k0_pay5, modAt]

/-- The mask of a pair's first head. -/
theorem lane_lt : ∀ c : Fin 128, IntOp.cmpi .slt (BitVec.ofNat 32 c.val) 64#32 = BitVec.ofBool (decide (c.val < 64)) := by decide +kernel

/-- A sum over a pair's lanes that keeps the first head's. -/
theorem sum_lo (f : Fin 128 → EReal) : (∑ x : Fin 128, Scalar.select (IntOp.cmpi .slt (BitVec.ofNat 32 x.val) 64#32) (f x) 0)
    = ∑ j : Fin 64, f ⟨0 * 64 + j.val, by omega⟩ := by
  have h : ∀ x : Fin 128, Scalar.select (IntOp.cmpi .slt (BitVec.ofNat 32 x.val) 64#32) (f x) 0 = if x.val < 64 then f x else 0 := by
    intro x; rw [lane_lt]; by_cases hx : x.val < 64 <;> simp [hx, Scalar.select]
  rw [Finset.sum_congr rfl fun x _ => h x]
  refine (Fin.sum_univ_add (a := 64) (b := 64) fun x : Fin (64 + 64) => if x.val < 64 then f x else 0).trans ?_
  have hz : (∑ i : Fin 64, (if (Fin.natAdd 64 i).val < 64 then f (Fin.natAdd 64 i) else 0)) = 0 :=
    Finset.sum_eq_zero fun i _ => if_neg (by simp [Fin.natAdd])
  rw [hz, add_zero]
  refine Finset.sum_congr rfl fun j _ => ?_
  refine (if_pos (by simp)).trans (congrArg f (Fin.ext (by simp)))

/-- A sum over a pair's lanes that keeps the second head's. -/
theorem sum_hi (f : Fin 128 → EReal) : (∑ x : Fin 128, Scalar.select (IntOp.cmpi .slt (BitVec.ofNat 32 x.val) 64#32) 0 (f x))
    = ∑ j : Fin 64, f ⟨1 * 64 + j.val, by omega⟩ := by
  have h : ∀ x : Fin 128, Scalar.select (IntOp.cmpi .slt (BitVec.ofNat 32 x.val) 64#32) 0 (f x) = if x.val < 64 then 0 else f x := by
    intro x; rw [lane_lt]; by_cases hx : x.val < 64 <;> simp [hx, Scalar.select]
  rw [Finset.sum_congr rfl fun x _ => h x]
  refine (Fin.sum_univ_add (a := 64) (b := 64) fun x : Fin (64 + 64) => if x.val < 64 then 0 else f x).trans ?_
  have hz : (∑ i : Fin 64, (if (Fin.castAdd 64 i).val < 64 then 0 else f (Fin.castAdd 64 i))) = 0 :=
    Finset.sum_eq_zero fun i _ => if_pos (by simp)
  rw [hz, zero_add]
  refine Finset.sum_congr rfl fun j _ => ?_
  refine (if_neg (by simp [Fin.natAdd])).trans (congrArg f (Fin.ext (by simp [Fin.natAdd])))

/-- The normalised keys of the first pair of heads. -/
theorem pay42_apply (y : FVec Ideal S512x128 .f32) (g : FVec Ideal S1x128 .f32) (p : Fin 512) (s : Fin 2) (l : Fin 64) :
    k0_pay42 (F := Ideal) y g (ix2 p ⟨s.val * 64 + l.val, by omega⟩)
      = headAt (fun j => y (ix2 p ⟨s.val * 64 + j.val, by omega⟩)) (g (ix2 0 ⟨s.val * 64 + l.val, by omega⟩)) l := by
  pointwise [k0_pay42, headAt]
  rw [sum_lo fun x => y (ix2 p x) * y (ix2 p x), sum_hi fun x => y (ix2 p x) * y (ix2 p x)]
  rw [lane_lt ⟨s.val * 64 + l.val, by omega⟩]
  match s with
  | ⟨0, _⟩ => rw [show decide ((⟨0 * 64 + l.val, by omega⟩ : Fin 128).val < 64) = true from decide_eq_true (by simp)]; rfl
  | ⟨1, _⟩ => rw [show decide ((⟨1 * 64 + l.val, by omega⟩ : Fin 128).val < 64) = false from decide_eq_false (by simp)]; rfl

/-- The normalised keys of the second pair of heads. -/
theorem pay60_apply (y : FVec Ideal S512x128 .f32) (g : FVec Ideal S1x128 .f32) (p : Fin 512) (s : Fin 2) (l : Fin 64) :
    k0_pay60 (F := Ideal) y (k0_pay59 (F := Ideal) g) (ix2 p ⟨s.val * 64 + l.val, by omega⟩)
      = headAt (fun j => y (ix2 p ⟨s.val * 64 + j.val, by omega⟩)) (g (ix2 0 ⟨s.val * 64 + l.val, by omega⟩)) l := by
  pointwise [k0_pay60, k0_pay59, headAt]
  rw [sum_lo fun x => y (ix2 p x) * y (ix2 p x), sum_hi fun x => y (ix2 p x) * y (ix2 p x)]
  rw [lane_lt ⟨s.val * 64 + l.val, by omega⟩]
  match s with
  | ⟨0, _⟩ => rw [show decide ((⟨0 * 64 + l.val, by omega⟩ : Fin 128).val < 64) = true from decide_eq_true (by simp)]; rfl
  | ⟨1, _⟩ => rw [show decide ((⟨1 * 64 + l.val, by omega⟩ : Fin 128).val < 64) = false from decide_eq_false (by simp)]; rfl

/-- Layer 0's projection of a block of tokens, at a row and a lane. -/
def projAt (x : FVec Ideal S512x1024 .f32) (g : FVec Ideal S1x1024 .f32) (sh sc : FVec Ideal S1x1x1x1x1024 .f32) (w : FVec Ideal S1024x1536 .bf16)
    (p : Fin 512) (d : Fin 1536) : EReal :=
  ∑ k : Fin 1024, modAt (fun j => x (ix2 p j)) (g (ix2 0 k)) (sh (ix5 0 0 0 0 k)) (sc (ix5 0 0 0 0 k)) k * w (ix2 k d)

/-- The block's normalised keys. -/
def keyTile (x : FVec Ideal S512x1024 .f32) (g : FVec Ideal S1x1024 .f32) (sh sc : FVec Ideal S1x1x1x1x1024 .f32) (w : FVec Ideal S1024x1536 .bf16)
    (kg : FVec Ideal S1x128 .f32) : FVec Ideal S512x256 .f32 := fun y =>
  headAt (fun j => projAt x g sh sc w (y 0) ⟨1024 + ((y 1).val / 64 * 64 + j.val), by have := (y 1).isLt; simp at this; omega⟩)
    (kg (ix2 0 ⟨(y 1).val % 128, by omega⟩)) ⟨(y 1).val % 64, by omega⟩

/-- The block's values. -/
def valTile (x : FVec Ideal S512x1024 .f32) (g : FVec Ideal S1x1024 .f32) (sh sc : FVec Ideal S1x1x1x1x1024 .f32) (w : FVec Ideal S1024x1536 .bf16) :
    FVec Ideal S512x256 .f32 := fun y =>
  projAt x g sh sc w (y 0) ⟨1280 + (y 1).val, by have := (y 1).isLt; simp at this; omega⟩

/-- A piece of the projection, read back. -/
theorem ld_proj (x : FVec Ideal S512x1024 .f32) (g : FVec Ideal S1x1024 .f32) (sh sc : FVec Ideal S1x1x1x1x1024 .f32) (w : FVec Ideal S1024x1536 .bf16)
    (o : ℕ) (ho : o + 128 ≤ 1536) (inb : ∀ a, (![0, o] : Fin S512x1536.rank → ℕ) a + S512x128.size a ≤ S512x1536.size a) (p : Fin 512) (l : Fin 128) :
    View.ld (Val := Elt Ideal) (e' := .f32) (k0_pay5 (F := Ideal) x g sh sc w) (Rect.unit (s := S512x1536) ![0, o] S512x128.size inb) (ix2 p l) = projAt x g sh sc w p ⟨o + l.val, by omega⟩ := by
  refine (View.ld_unit_apply_of _ _ _ _ _ (ix2 p ⟨o + l.val, by omega⟩) fun a => ?_).trans (pay5_apply x g sh sc w p ⟨o + l.val, by omega⟩)
  match a with
  | ⟨0, _⟩ => exact (Nat.zero_add _).symm
  | ⟨1, _⟩ => rfl

/-- A pair of heads' keys from the piece of the projection that holds them. -/
theorem key_piece (x : FVec Ideal S512x1024 .f32) (g : FVec Ideal S1x1024 .f32) (sh sc : FVec Ideal S1x1x1x1x1024 .f32) (w : FVec Ideal S1024x1536 .bf16)
    (kg : FVec Ideal S1x128 .f32) (b : ℕ) (hb : b < 2) (Y : FVec Ideal S512x128 .f32)
    (hY : ∀ (p : Fin 512) (l : Fin 128), Y (ix2 p l) = projAt x g sh sc w p ⟨1024 + 128 * b + l.val, by omega⟩) (p : Fin 512) (s : Fin 2) (l : Fin 64) :
    headAt (fun j => Y (ix2 p ⟨s.val * 64 + j.val, by omega⟩)) (kg (ix2 0 ⟨s.val * 64 + l.val, by omega⟩)) l
      = keyTile x g sh sc w kg (ix2 p ⟨128 * b + (s.val * 64 + l.val), by omega⟩) := by
  unfold keyTile
  have h1 : (fun j : Fin 64 => Y (ix2 p ⟨s.val * 64 + j.val, by omega⟩))
      = fun j : Fin 64 => projAt x g sh sc w p ⟨1024 + ((128 * b + (s.val * 64 + l.val)) / 64 * 64 + j.val), by omega⟩ := by
    funext j
    rw [hY]
    exact congrArg (projAt x g sh sc w p) (Fin.ext (by dsimp only; omega))
  have h2 : (⟨s.val * 64 + l.val, by omega⟩ : Fin 128) = ⟨(128 * b + (s.val * 64 + l.val)) % 128, by omega⟩ := Fin.ext (by dsimp only; omega)
  have h3 : l = ⟨(128 * b + (s.val * 64 + l.val)) % 64, by omega⟩ := Fin.ext (by dsimp only; omega)
  rw [h1, h2]
  exact congrArg (headAt _ _) h3

/-- Two offsets of zero. -/
theorem hz2 : (![0, 0] : Fin 2 → Nat) = fun _ => 0 := funext fun a => by fin_cases a <;> rfl
/-- Five offsets of zero. -/
theorem hz5 : (![0, 0, 0, 0, 0] : Fin 5 → Nat) = fun _ => 0 := funext fun a => by fin_cases a <;> rfl

set_option maxHeartbeats 1000000 in
/-- The body's key buffer. -/
theorem out10_eq (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1x1x1x1024 .f32) (harg3 : arg3.IsWhole) (arg4 : Memref sig .tc .vmem S1x1x1x1x1024 .f32) (harg4 : arg4.IsWhole) (arg5 : Memref sig .tc .vmem S1024x1536 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S512x1024 .bf16) (harg8 : arg8.IsWhole) (arg9 : Memref sig .tc .vmem S4x2x128x512 .bf16) (harg9 : arg9.IsWhole) (arg10 : Memref sig .tc .vmem S4x2x512x128 .bf16) (harg10 : arg10.IsWhole) (arg11 : Memref sig .tc .vmem S512x256 .f32) (harg11 : arg11.IsWhole) (arg12 : Memref sig .tc .vmem S512x256 .f32) (harg12 : arg12.IsWhole) (arg13 : Memref sig .tc .vmem S512x1536 .f32) (harg13 : arg13.IsWhole)
    (x0 : Vec Ideal S512x1024 .f32) (x1 : Vec Ideal S1x1024 .f32) (x2 : Vec Ideal S1x1x1x1x1024 .f32) (x3 : Vec Ideal S1x1x1x1x1024 .f32) (x4 : Vec Ideal S1024x1536 .bf16) (x5 : Vec Ideal S1x128 .f32) (x6 : Vec Ideal S1x128 .f32) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6
      = keyTile x0 x1 x2 x3 x4 x6 := by
  unfold out0_A_10
  have hc := cover0_A_10 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6
  rw [View.read_writes_eq_canon _ _ _ hc]
  funext y
  refine View.canon_apply_of_pieces (keyTile x0 x1 x2 x3 x4 x6) _ ?_ y (hc y)
  unfold kernelRun0_A
  dsimp only
  sl_unfold_words
  simp only [View.readAt_eq_ld, harg1.read_unread, harg2.read_unread, harg3.read_unread, harg4.read_unread, harg5.read_unread, harg7.read_unread]
  have e0 : View.ld x0 (Rect.unit ![0, 0] ![512, 1024] inb_S512x1024_S512x1024_0_0) = x0 := View.ld_unit_zero (S := S512x1024) hz2 _ _
  have e1 : View.ld x1 (Rect.unit ![0, 0] ![1, 1024] inb_S1x1024_S1x1024_0_0) = x1 := View.ld_unit_zero (S := S1x1024) hz2 _ _
  have e2 : View.ld x2 (Rect.unit ![0, 0, 0, 0, 0] ![1, 1, 1, 1, 1024] inb_S1x1x1x1x1024_S1x1x1x1x1024_0_0_0_0_0) = x2 := View.ld_unit_zero (S := S1x1x1x1x1024) hz5 _ _
  have e3 : View.ld x3 (Rect.unit ![0, 0, 0, 0, 0] ![1, 1, 1, 1, 1024] inb_S1x1x1x1x1024_S1x1x1x1x1024_0_0_0_0_0) = x3 := View.ld_unit_zero (S := S1x1x1x1x1024) hz5 _ _
  have e4 : View.ld x4 (Rect.unit ![0, 0] ![1024, 1536] inb_S1024x1536_S1024x1536_0_0) = x4 := View.ld_unit_zero (S := S1024x1536) hz2 _ _
  have e6 : View.ld x6 (Rect.unit ![0, 0] ![1, 128] inb_S1x128_S1x128_0_0) = x6 := View.ld_unit_zero (S := S1x128) hz2 _ _
  rw [e0, e1, e2, e3, e4, e6]
  intro q hq
  rcases List.mem_cons.mp hq with rfl | hq
  · intro z
    dsimp only
    erw [View.readCov_fill _ _ _ _ _ (fun a => by fin_cases a <;> rfl)]
    change S512x128.Idx at z
    idx_vars z
    have hz : z1 = ⟨(⟨z1.val / 64, by omega⟩ : Fin 2).val * 64 + (⟨z1.val % 64, by omega⟩ : Fin 64).val, by dsimp only; omega⟩ := Fin.ext (by dsimp only; omega)
    rw [hz]
    refine (pay60_apply _ x6 z0 ⟨z1.val / 64, by omega⟩ ⟨z1.val % 64, by omega⟩).trans ?_
    refine (key_piece x0 x1 x2 x3 x4 x6 1 (by omega) _ (fun p l => ld_proj x0 x1 x2 x3 x4 1152 (by omega) _ p l) z0 ⟨z1.val / 64, by omega⟩ ⟨z1.val % 64, by omega⟩).trans ?_
    refine congrArg (keyTile x0 x1 x2 x3 x4 x6) (funext fun a => Fin.ext ?_)
    match a with
    | ⟨0, _⟩ => show _ = (Rect.emb _ _ _).val; rw [ValueKit.rect_emb_unit_val]; simp
    | ⟨1, _⟩ => show _ = (Rect.emb _ _ _).val; rw [ValueKit.rect_emb_unit_val]; simp
  · obtain rfl := List.mem_singleton.mp hq
    intro z
    dsimp only
    erw [View.readCov_fill _ _ _ _ _ (fun a => by fin_cases a <;> rfl)]
    change S512x128.Idx at z
    idx_vars z
    have hz : z1 = ⟨(⟨z1.val / 64, by omega⟩ : Fin 2).val * 64 + (⟨z1.val % 64, by omega⟩ : Fin 64).val, by dsimp only; omega⟩ := Fin.ext (by dsimp only; omega)
    rw [hz]
    refine (pay42_apply _ x6 z0 ⟨z1.val / 64, by omega⟩ ⟨z1.val % 64, by omega⟩).trans ?_
    refine (key_piece x0 x1 x2 x3 x4 x6 0 (by omega) _ (fun p l => ld_proj x0 x1 x2 x3 x4 1024 (by omega) _ p l) z0 ⟨z1.val / 64, by omega⟩ ⟨z1.val % 64, by omega⟩).trans ?_
    refine congrArg (keyTile x0 x1 x2 x3 x4 x6) (funext fun a => Fin.ext ?_)
    match a with
    | ⟨0, _⟩ => show _ = (Rect.emb _ _ _).val; rw [ValueKit.rect_emb_unit_val]; simp
    | ⟨1, _⟩ => show _ = (Rect.emb _ _ _).val; rw [ValueKit.rect_emb_unit_val]; simp

set_option maxHeartbeats 1000000 in
/-- The body's value buffer. -/
theorem out11_eq (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1x1x1x1024 .f32) (harg3 : arg3.IsWhole) (arg4 : Memref sig .tc .vmem S1x1x1x1x1024 .f32) (harg4 : arg4.IsWhole) (arg5 : Memref sig .tc .vmem S1024x1536 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S512x1024 .bf16) (harg8 : arg8.IsWhole) (arg9 : Memref sig .tc .vmem S4x2x128x512 .bf16) (harg9 : arg9.IsWhole) (arg10 : Memref sig .tc .vmem S4x2x512x128 .bf16) (harg10 : arg10.IsWhole) (arg11 : Memref sig .tc .vmem S512x256 .f32) (harg11 : arg11.IsWhole) (arg12 : Memref sig .tc .vmem S512x256 .f32) (harg12 : arg12.IsWhole) (arg13 : Memref sig .tc .vmem S512x1536 .f32) (harg13 : arg13.IsWhole)
    (x0 : Vec Ideal S512x1024 .f32) (x1 : Vec Ideal S1x1024 .f32) (x2 : Vec Ideal S1x1x1x1x1024 .f32) (x3 : Vec Ideal S1x1x1x1x1024 .f32) (x4 : Vec Ideal S1024x1536 .bf16) (x5 : Vec Ideal S1x128 .f32) (x6 : Vec Ideal S1x128 .f32) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6
      = valTile x0 x1 x2 x3 x4 := by
  unfold out0_A_11
  have hc := cover0_A_11 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6
  rw [View.read_writes_eq_canon _ _ _ hc]
  funext y
  refine View.canon_apply_of_pieces (valTile x0 x1 x2 x3 x4) _ ?_ y (hc y)
  unfold kernelRun0_A
  dsimp only
  sl_unfold_words
  simp only [View.readAt_eq_ld, harg1.read_unread, harg2.read_unread, harg3.read_unread, harg4.read_unread, harg5.read_unread]
  have e0 : View.ld x0 (Rect.unit ![0, 0] ![512, 1024] inb_S512x1024_S512x1024_0_0) = x0 := View.ld_unit_zero (S := S512x1024) hz2 _ _
  have e1 : View.ld x1 (Rect.unit ![0, 0] ![1, 1024] inb_S1x1024_S1x1024_0_0) = x1 := View.ld_unit_zero (S := S1x1024) hz2 _ _
  have e2 : View.ld x2 (Rect.unit ![0, 0, 0, 0, 0] ![1, 1, 1, 1, 1024] inb_S1x1x1x1x1024_S1x1x1x1x1024_0_0_0_0_0) = x2 := View.ld_unit_zero (S := S1x1x1x1x1024) hz5 _ _
  have e3 : View.ld x3 (Rect.unit ![0, 0, 0, 0, 0] ![1, 1, 1, 1, 1024] inb_S1x1x1x1x1024_S1x1x1x1x1024_0_0_0_0_0) = x3 := View.ld_unit_zero (S := S1x1x1x1x1024) hz5 _ _
  have e4 : View.ld x4 (Rect.unit ![0, 0] ![1024, 1536] inb_S1024x1536_S1024x1536_0_0) = x4 := View.ld_unit_zero (S := S1024x1536) hz2 _ _
  rw [e0, e1, e2, e3, e4]
  intro q hq
  rcases List.mem_cons.mp hq with rfl | hq
  · intro z
    dsimp only
    erw [View.readCov_fill _ _ _ _ _ (fun a => by fin_cases a <;> rfl)]
    change S512x128.Idx at z
    idx_vars z
    refine (ld_proj x0 x1 x2 x3 x4 1408 (by omega) _ z0 z1).trans ?_
    refine (show _ = valTile x0 x1 x2 x3 x4 (ix2 z0 ⟨128 * 1 + z1.val, by omega⟩) from congrArg (projAt x0 x1 x2 x3 x4 z0) (Fin.ext (by show 1408 + z1.val = 1280 + (128 * 1 + z1.val); omega))).trans ?_
    refine congrArg (valTile x0 x1 x2 x3 x4) (funext fun a => Fin.ext ?_)
    match a with
    | ⟨0, _⟩ => show _ = (Rect.emb _ _ _).val; rw [ValueKit.rect_emb_unit_val]; simp
    | ⟨1, _⟩ => show _ = (Rect.emb _ _ _).val; rw [ValueKit.rect_emb_unit_val]; simp
  · obtain rfl := List.mem_singleton.mp hq
    intro z
    dsimp only
    erw [View.readCov_fill _ _ _ _ _ (fun a => by fin_cases a <;> rfl)]
    change S512x128.Idx at z
    idx_vars z
    refine (ld_proj x0 x1 x2 x3 x4 1280 (by omega) _ z0 z1).trans ?_
    refine (show _ = valTile x0 x1 x2 x3 x4 (ix2 z0 ⟨128 * 0 + z1.val, by omega⟩) from congrArg (projAt x0 x1 x2 x3 x4 z0) (Fin.ext (by show 1280 + z1.val = 1280 + (128 * 0 + z1.val); omega))).trans ?_
    refine congrArg (valTile x0 x1 x2 x3 x4) (funext fun a => Fin.ext ?_)
    match a with
    | ⟨0, _⟩ => show _ = (Rect.emb _ _ _).val; rw [ValueKit.rect_emb_unit_val]; simp
    | ⟨1, _⟩ => show _ = (Rect.emb _ _ _).val; rw [ValueKit.rect_emb_unit_val]; simp

/-- Layer 0's projection of a token, from the call's arguments. -/
def projRow (x : FVec Ideal S8192x1024 .f32) (m1 m2 : FVec Ideal S4x6x3x1x1024 .f32) (g : FVec Ideal S4x1024 .f32) (w : FVec Ideal S2x1024x1536 .f32)
    (r : Fin 8192) (d : Fin 1536) : EReal :=
  ∑ k : Fin 1024, modAt (fun j => x (ix2 r j)) (g (ix2 0 k)) (m1 (ix5 0 0 0 0 k)) (m2 (ix5 0 1 0 0 k)) k * w (ix3 0 k d)

/-- The keys: a row for each token, each head's lanes normalised. -/
def keys (x : FVec Ideal S8192x1024 .f32) (m1 m2 : FVec Ideal S4x6x3x1x1024 .f32) (g : FVec Ideal S4x1024 .f32) (w : FVec Ideal S2x1024x1536 .f32)
    (kg : FVec Ideal S2x64 .f32) : FVec Ideal S8192x256 .f32 := fun y =>
  headAt (fun j => projRow x m1 m2 g w (y 0) ⟨1024 + ((y 1).val / 64 * 64 + j.val), by have := (y 1).isLt; simp at this; omega⟩)
    (kg (ix2 0 ⟨(y 1).val % 64, by omega⟩)) ⟨(y 1).val % 64, by omega⟩

/-- The values: a row for each token. -/
def vals (x : FVec Ideal S8192x1024 .f32) (m1 m2 : FVec Ideal S4x6x3x1x1024 .f32) (g : FVec Ideal S4x1024 .f32) (w : FVec Ideal S2x1024x1536 .f32) :
    FVec Ideal S8192x256 .f32 := fun y =>
  projRow x m1 m2 g w (y 0) ⟨1280 + (y 1).val, by have := (y 1).isLt; simp at this; omega⟩

/-- The layer's gain, as the host lays it out. -/
def gLay (g : FVec Ideal S4x1024 .f32) : FVec Ideal S1x1024 .f32 :=
  broadcastInDim S1x1024 ![1] bcast_S1024_S1x1024_1 (shapeCast S1024 (extractStridedSlice S1x1024 ![0, 0] g slices_S4x1024_S1x1024_0_0) shapeCasts_S1x1024_S1024)

/-- The layer's weights, as the host lays them out. -/
def wLay (w : FVec Ideal S2x1024x1536 .f32) : FVec Ideal S1024x1536 .bf16 :=
  truncf .bf16 (shapeCast S1024x1536 (extractStridedSlice S1x1024x1536 ![0, 0, 0] w slices_S2x1024x1536_S1x1024x1536_0_0_0) shapeCasts_S1x1024x1536_S1024x1536 : FVec Ideal S1024x1536 .f32) bitsLt_bf16_f32

/-- The layer's key gain, as the host lays it out: twice over, for a pair of heads. -/
def kLay (g : FVec Ideal S2x64 .f32) : FVec Ideal S1x128 .f32 :=
  broadcastInDim S1x128 ![1] bcast_S128_S1x128_1 (shapeCast S128 (broadcastInDim S2x64 ![0, 1] bcast_S1x64_S2x64_0_1
    (shapeCast S1x64 (shapeCast S64 (extractStridedSlice S1x64 ![0, 0] g slices_S2x64_S1x64_0_0) shapeCasts_S1x64_S64) shapeCasts_S64_S1x64)) shapeCasts_S2x64_S128)

/-- The laid out gain is layer 0's. -/
theorem gLay_apply (g : FVec Ideal S4x1024 .f32) (k : Fin 1024) : gLay g (ix2 0 k) = g (ix2 0 k) := by
  pointwise [gLay]

/-- The laid out weights are layer 0's. -/
theorem wLay_apply (w : FVec Ideal S2x1024x1536 .f32) (k : Fin 1024) (d : Fin 1536) : wLay w (ix2 k d) = w (ix3 0 k d) := by
  pointwise [wLay]

/-- The laid out key gain is layer 0's, by the lane of its head. -/
theorem kLay_apply (g : FVec Ideal S2x64 .f32) (l : Fin 128) : kLay g (ix2 0 l) = g (ix2 0 ⟨l.val % 64, by omega⟩) := by
  pointwise [kLay]

variable (m : (ℓ : Loc nD τ sig) → Buf (Elt Ideal) ℓ) (c : Dev nD)

/-- The gain the call is given. -/
theorem V_g : V m c main_v14 = gLay (m ((c : Thread nD τ).loc main_arg3)) := by
  unfold V; entry_read; rfl

/-- The weights the call is given. -/
theorem V_w : V m c main_v17 = wLay (m ((c : Thread nD τ).loc main_arg4)) := by
  unfold V; entry_read; rfl

/-- The key gain the call is given. -/
theorem V_k : V m c main_v11 = kLay (m ((c : Thread nD τ).loc main_arg6)) := by
  unfold V; entry_read; rfl

/-- The tokens' block at a grid point. -/
theorem idx0 : ∀ t : Fin cfg0.N, win0_0.index t = ![t.val, 0] := (by decide +kernel : ∀ t : Fin grid0.N, _)
/-- The gain's block at a grid point. -/
theorem idx1 : ∀ t : Fin cfg0.N, win0_1.index t = ![0, 0] := (by decide +kernel : ∀ t : Fin grid0.N, _)
/-- The shift's block at a grid point. -/
theorem idx2 : ∀ t : Fin cfg0.N, win0_2.index t = ![0, 0, 0, 0, 0] := (by decide +kernel : ∀ t : Fin grid0.N, _)
/-- The scale's block at a grid point. -/
theorem idx3 : ∀ t : Fin cfg0.N, win0_3.index t = ![0, 1, 0, 0, 0] := (by decide +kernel : ∀ t : Fin grid0.N, _)
/-- The weights' block at a grid point. -/
theorem idx4 : ∀ t : Fin cfg0.N, win0_4.index t = ![0, 0] := (by decide +kernel : ∀ t : Fin grid0.N, _)
/-- The key gain's block at a grid point. -/
theorem idx6 : ∀ t : Fin cfg0.N, win0_6.index t = ![0, 0] := (by decide +kernel : ∀ t : Fin grid0.N, _)
/-- The keys' block at a grid point. -/
theorem idx10 : ∀ t : Fin cfg0.N, win0_10.index t = ![t.val, 0] := (by decide +kernel : ∀ t : Fin grid0.N, _)
/-- The values' block at a grid point. -/
theorem idx11 : ∀ t : Fin cfg0.N, win0_11.index t = ![t.val, 0] := (by decide +kernel : ∀ t : Fin grid0.N, _)

/-- There are 16 grid points. -/
theorem t_lt (t : Fin cfg0.N) : t.val < 16 := t.isLt

/-- A token of the block. -/
theorem iblk0 (t : Fin cfg0.N) (p : Fin 512) (k : Fin 1024) :
    iblk m c 0 t (ix2 p k) = V m c main_arg0 (ix2 ⟨512 * t.val + p.val, by have := t_lt t; omega⟩ k) := by
  blk_ext [iblk, idx0]

/-- A gain of the block. -/
theorem iblk1 (t : Fin cfg0.N) (k : Fin 1024) : iblk m c 1 t (ix2 0 k) = V m c main_v14 (ix2 0 k) := by
  blk_ext [iblk, idx1]

/-- A shift of the block. -/
theorem iblk2 (t : Fin cfg0.N) (k : Fin 1024) : iblk m c 2 t (ix5 0 0 0 0 k) = V m c main_arg1 (ix5 0 0 0 0 k) := by
  blk_ext [iblk, idx2]

/-- A scale of the block. -/
theorem iblk3 (t : Fin cfg0.N) (k : Fin 1024) : iblk m c 3 t (ix5 0 0 0 0 k) = V m c main_arg2 (ix5 0 1 0 0 k) := by
  blk_ext [iblk, idx3]

/-- A weight of the block. -/
theorem iblk4 (t : Fin cfg0.N) (k : Fin 1024) (d : Fin 1536) : iblk m c 4 t (ix2 k d) = V m c main_v17 (ix2 k d) := by
  blk_ext [iblk, idx4]

/-- A key gain of the block. -/
theorem iblk6 (t : Fin cfg0.N) (l : Fin 128) : iblk m c 6 t (ix2 0 l) = V m c main_v11 (ix2 0 l) := by
  blk_ext [iblk, idx6]

/-- The keys of the call's arguments. -/
abbrev outKeys : FVec Ideal S8192x256 .f32 :=
  keys (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg6))

/-- The values of the call's arguments. -/
abbrev outVals : FVec Ideal S8192x256 .f32 :=
  vals (m ((c : Thread nD τ).loc main_arg0)) (m ((c : Thread nD τ).loc main_arg1)) (m ((c : Thread nD τ).loc main_arg2)) (m ((c : Thread nD τ).loc main_arg3))
    (m ((c : Thread nD τ).loc main_arg4))

/-- The projection of a grid point's block is the projection of its tokens. -/
theorem proj_block (t : Fin cfg0.N) (p : Fin 512) (d : Fin 1536) :
    projAt (iblk m c 0 t) (iblk m c 1 t) (iblk m c 2 t) (iblk m c 3 t) (iblk m c 4 t) p d
      = projRow (m ((c : Thread nD τ).loc main_arg0)) (m ((c : Thread nD τ).loc main_arg1)) (m ((c : Thread nD τ).loc main_arg2)) (m ((c : Thread nD τ).loc main_arg3))
          (m ((c : Thread nD τ).loc main_arg4)) ⟨512 * t.val + p.val, by have := t_lt t; omega⟩ d := by
  have := t_lt t
  unfold projAt projRow
  refine Finset.sum_congr rfl fun k _ => ?_
  have ha : (fun j : Fin 1024 => iblk m c 0 t (ix2 p j)) = fun j => m ((c : Thread nD τ).loc main_arg0) (ix2 ⟨512 * t.val + p.val, by omega⟩ j) := by
    funext j; rw [iblk0, V_main_arg0]
  rw [ha, iblk1, V_g, gLay_apply, iblk2, V_main_arg1, iblk3, V_main_arg2, iblk4, V_w, wLay_apply]

/-- What the body leaves of the keys at a grid point is the point's rows. -/
theorem key_block (t : Fin cfg0.N) (p : Fin 512) (d : Fin 256) :
    keyTile (iblk m c 0 t) (iblk m c 1 t) (iblk m c 2 t) (iblk m c 3 t) (iblk m c 4 t) (iblk m c 6 t) (ix2 p d)
      = outKeys m c (ix2 ⟨512 * t.val + p.val, by have := t_lt t; omega⟩ d) := by
  have := t_lt t
  show headAt (fun j => projAt (iblk m c 0 t) (iblk m c 1 t) (iblk m c 2 t) (iblk m c 3 t) (iblk m c 4 t) p ⟨1024 + (d.val / 64 * 64 + j.val), by omega⟩)
    (iblk m c 6 t (ix2 0 ⟨d.val % 128, by omega⟩)) ⟨d.val % 64, by omega⟩ = headAt (fun j => projRow _ _ _ _ _ _ ⟨1024 + (d.val / 64 * 64 + j.val), by omega⟩) _ ⟨d.val % 64, by omega⟩
  have hk : (⟨d.val % 128 % 64, by omega⟩ : Fin 64) = ⟨d.val % 64, by omega⟩ := Fin.ext (by dsimp only; omega)
  rw [iblk6, V_k, kLay_apply, hk]
  refine congrArg (fun f => headAt f _ _) (funext fun j => ?_)
  exact proj_block m c t p _

/-- What the body leaves of the values at a grid point is the point's rows. -/
theorem val_block (t : Fin cfg0.N) (p : Fin 512) (d : Fin 256) :
    valTile (iblk m c 0 t) (iblk m c 1 t) (iblk m c 2 t) (iblk m c 3 t) (iblk m c 4 t) (ix2 p d)
      = outVals m c (ix2 ⟨512 * t.val + p.val, by have := t_lt t; omega⟩ d) :=
  proj_block m c t p _

/-- The call's keys are the array of keys. -/
theorem final_keys : (dats (F := Ideal) m 0 c).arrAt 10 cfg0.N = outKeys m c := by
  refine (dats m 0 c).arrAt_eq_of_covers 10 _ (by decide +kernel) fun t hf y => ?_
  blk_simp
  rw [after0_10]
  unfold outsAt0
  dsimp only
  rw [out10_eq]
  have h0 : ((win0_10.blk t).view.emb y 0 : ℕ) = 512 * t.val + (y 0).val := by
    blk_simp [idx10]; omega
  have h1 : ((win0_10.blk t).view.emb y 1 : ℕ) = (y 1).val := by
    blk_simp [idx10]; try omega
  have := t_lt t
  have key : ∀ y : S512x256.Idx, keyTile (iblk m c 0 t) (iblk m c 1 t) (iblk m c 2 t) (iblk m c 3 t) (iblk m c 4 t) (iblk m c 6 t) y
      = outKeys m c (ix2 ⟨512 * t.val + (y 0).val, by have h : (y 0).val < 512 := (y 0).isLt; omega⟩ (y 1)) := by
    intro y
    idx_vars y
    exact key_block m c t y0 y1
  refine (key y).trans (congrArg (outKeys m c) (funext fun a => Fin.ext ?_))
  match a with
  | ⟨0, _⟩ => exact h0.symm
  | ⟨1, _⟩ => exact h1.symm

/-- The call's values are the array of values. -/
theorem final_vals : (dats (F := Ideal) m 0 c).arrAt 11 cfg0.N = outVals m c := by
  refine (dats m 0 c).arrAt_eq_of_covers 11 _ (by decide +kernel) fun t hf y => ?_
  blk_simp
  rw [after0_11]
  unfold outsAt0
  dsimp only
  rw [out11_eq]
  have h0 : ((win0_11.blk t).view.emb y 0 : ℕ) = 512 * t.val + (y 0).val := by
    blk_simp [idx11]; omega
  have h1 : ((win0_11.blk t).view.emb y 1 : ℕ) = (y 1).val := by
    blk_simp [idx11]; try omega
  have := t_lt t
  have key : ∀ y : S512x256.Idx, valTile (iblk m c 0 t) (iblk m c 1 t) (iblk m c 2 t) (iblk m c 3 t) (iblk m c 4 t) y
      = outVals m c (ix2 ⟨512 * t.val + (y 0).val, by have h : (y 0).val < 512 := (y 0).isLt; omega⟩ (y 1)) := by
    intro y
    idx_vars y
    exact val_block m c t y0 y1
  refine (key y).trans (congrArg (outVals m c) (funext fun a => Fin.ext ?_))
  match a with
  | ⟨0, _⟩ => exact h0.symm
  | ⟨1, _⟩ => exact h1.symm

end Cert.KvFinal

end
-- ==== Proof.KvClose.lean ====
/- The prompt tokens' projection call and its reference leave equal keys and values. -/
module

public import proofs.«01_k».proof.Defs
public import proofs.«01_k».proof.Proof.KvFinal
public import proofs.«01_k».proof.Proof.Gen.KvRefIdeal.Run
public import proofs.«01_k».proof.Proof.Gen.KvRefIdeal.Read

@[expose] public section

set_option maxRecDepth 16384

noncomputable section

namespace Cert.KvClose

open Cert.KvRefIdeal Cert.KvRefIdeal.Gen Cert.KvRefIdeal.Read Cert.KvFinal Idealize.ShloMosaic Idealize.ShloMosaic.TcCoe Idealize.SL.Sem

section Ref
variable (x : FVec Ideal S8192x1024 .f32) (m1 m2 : FVec Ideal S4x6x3x1x1024 .f32) (g : FVec Ideal S4x1024 .f32) (w : FVec Ideal S2x1024x1536 .f32)
  (kg : FVec Ideal S2x64 .f32)

/-- The sum of a token's squares. -/
theorem v3_at (r : Fin 8192) : val_main_v3 (F := Ideal) x (ix1 r) = ∑ k : Fin 1024, x (ix2 r k) * x (ix2 r k) := by
  rw [val_main_v3_apply, val_main_cst_apply]
  refine (congrArg (· + _) Ideal.ofBits_zero_f32).trans ((zero_add _).trans (Finset.sum_congr rfl fun k _ => ?_))
  rw [val_main_v2_apply]
  have h : idx_main_v3 (ix1 r) k = ix2 r k := funext fun b => by match b with | ⟨0, _⟩ => rfl | ⟨1, _⟩ => rfl
  rw [h]
  rfl

/-- The reciprocal root of a token's mean square. -/
theorem v9_at (r : Fin 8192) : val_main_v9 (F := Ideal) x (ix2 r 0)
    = Ideal.rsqrt (Ideal.div (∑ k : Fin 1024, x (ix2 r k) * x (ix2 r k)) (Ideal.ofBits .f32 0x44800000#32) + Ideal.ofBits .f32 0x358637BD#32) := by
  rw [val_main_v9_apply, val_main_v8_apply, val_main_v6_apply, val_main_v4_apply, val_main_v5_apply, val_main_v7_apply, val_main_cst_0_apply, val_main_cst_1_apply]
  have h : idx_main_v4 (ix2 r 0) = ix1 r := funext fun b => by match b with | ⟨0, _⟩ => rfl
  rw [h, v3_at]
  rfl

/-- The gain at a lane. -/
theorem v13_at (r : Fin 8192) (k : Fin 1024) : val_main_v13 (F := Ideal) g (ix2 r k) = g (ix2 0 k) := by
  rw [val_main_v13_apply, val_main_v12_apply, val_main_v1_apply, val_main_v0_apply]
  refine congrArg g (funext fun b => Fin.ext ?_)
  match b with
  | ⟨0, _⟩ => rfl
  | ⟨1, _⟩ => show k.val % 1024 = k.val; omega

/-- The scale at a lane, with the one it is added to. -/
theorem v19_at (r : Fin 8192) (k : Fin 1024) : val_main_v19 (F := Ideal) m2 (ix2 r k) = Ideal.ofBits .f32 0x3F800000#32 + m2 (ix5 0 1 0 0 k) := by
  rw [val_main_v19_apply, val_main_v18_apply, val_main_v17_apply, val_main_cst_2_apply, val_main_v16_apply, val_main_v15_apply]
  refine congrArg (_ + ·) (congrArg m2 (funext fun b => Fin.ext ?_))
  match b with
  | ⟨0, _⟩ => rfl
  | ⟨1, _⟩ => rfl
  | ⟨2, _⟩ => rfl
  | ⟨3, _⟩ => rfl
  | ⟨4, _⟩ => show (0 * 1024 + k.val) % 1024 = k.val; omega

/-- The shift at a lane. -/
theorem v23_at (r : Fin 8192) (k : Fin 1024) : val_main_v23 (F := Ideal) m1 (ix2 r k) = m1 (ix5 0 0 0 0 k) := by
  rw [val_main_v23_apply, val_main_v22_apply, val_main_v21_apply]
  refine congrArg m1 (funext fun b => Fin.ext ?_)
  match b with
  | ⟨0, _⟩ => rfl
  | ⟨1, _⟩ => rfl
  | ⟨2, _⟩ => rfl
  | ⟨3, _⟩ => rfl
  | ⟨4, _⟩ => show (0 * 1024 + k.val) % 1024 = k.val; omega

/-- The modulated token. -/
theorem v24_at (r : Fin 8192) (k : Fin 1024) : val_main_v24 (F := Ideal) x m1 m2 g (ix2 r k)
    = modAt (fun j => x (ix2 r j)) (g (ix2 0 k)) (m1 (ix5 0 0 0 0 k)) (m2 (ix5 0 1 0 0 k)) k := by
  rw [val_main_v24_apply, val_main_v20_apply, val_main_v14_apply, val_main_v11_apply, val_main_v10_apply, v13_at, v19_at, v23_at]
  have h : idx_main_v10 (ix2 r k) = ix2 r 0 := funext fun b => by match b with | ⟨0, _⟩ => rfl | ⟨1, _⟩ => rfl
  rw [h, v9_at]
  rfl

/-- A weight. -/
theorem v26_at (k : Fin 1024) (d : Fin 1536) : val_main_v26 (F := Ideal) w (ix2 k d) = w (ix3 0 k d) := by
  rw [val_main_v26_apply, val_main_v25_apply]
  refine congrArg w (funext fun b => Fin.ext ?_)
  match b with
  | ⟨0, _⟩ => rfl
  | ⟨1, _⟩ => show (k.val * 1536 + d.val) / 1536 % 1024 = k.val; omega
  | ⟨2, _⟩ => show (k.val * 1536 + d.val) % 1536 = d.val; omega

/-- The projection at a token and a lane. -/
theorem v27_at (r : Fin 8192) (d : Fin 1536) : val_main_v27 (F := Ideal) x m1 m2 g w (ix2 r d) = projRow x m1 m2 g w r d := by
  rw [val_main_v27_apply]
  refine Finset.sum_congr rfl fun k _ => ?_
  have hl : lidx_main_v27 (ix2 r d) k = ix2 r k := funext fun b => by match b with | ⟨0, _⟩ => rfl | ⟨1, _⟩ => rfl
  have hr : ridx_main_v27 (ix2 r d) k = ix2 k d := funext fun b => by match b with | ⟨0, _⟩ => rfl | ⟨1, _⟩ => rfl
  rw [hl, hr, v24_at, v26_at]

/-- A key before its norm, by token, head and lane. -/
theorem v31_at (r : Fin 8192) (h : Fin 4) (l : Fin 64) : val_main_v31 (F := Ideal) x m1 m2 g w (ix3 r h l)
    = projRow x m1 m2 g w r ⟨1024 + (h.val * 64 + l.val), by omega⟩ := by
  rw [val_main_v31_apply, val_main_v29_apply]
  refine Eq.trans (congrArg _ ?_) (v27_at x m1 m2 g w r ⟨1024 + (h.val * 64 + l.val), by omega⟩)
  refine funext fun b => Fin.ext ?_
  match b with
  | ⟨0, _⟩ => show ((r.val * 4 + h.val) * 64 + l.val) / 256 = r.val; omega
  | ⟨1, _⟩ => show 1024 + ((r.val * 4 + h.val) * 64 + l.val) % 256 = 1024 + (h.val * 64 + l.val); omega

/-- The sum of a head's squares. -/
theorem v35_at (r : Fin 8192) (h : Fin 4) : val_main_v35 (F := Ideal) x m1 m2 g w (ix2 r h)
    = ∑ k : Fin 64, projRow x m1 m2 g w r ⟨1024 + (h.val * 64 + k.val), by omega⟩ * projRow x m1 m2 g w r ⟨1024 + (h.val * 64 + k.val), by omega⟩ := by
  rw [val_main_v35_apply, val_main_cst_3_apply]
  refine (congrArg (· + _) Ideal.ofBits_zero_f32).trans ((zero_add _).trans (Finset.sum_congr rfl fun k _ => ?_))
  rw [val_main_v34_apply]
  have e : idx_main_v35 (ix2 r h) k = ix3 r h k := funext fun b => by match b with | ⟨0, _⟩ => rfl | ⟨1, _⟩ => rfl | ⟨2, _⟩ => rfl
  rw [e, v31_at]
  rfl

/-- The reciprocal root of a head's mean square. -/
theorem v41_at (r : Fin 8192) (h : Fin 4) : val_main_v41 (F := Ideal) x m1 m2 g w (ix3 r h 0)
    = Ideal.rsqrt (Ideal.div (∑ k : Fin 64, projRow x m1 m2 g w r ⟨1024 + (h.val * 64 + k.val), by omega⟩ * projRow x m1 m2 g w r ⟨1024 + (h.val * 64 + k.val), by omega⟩)
        (Ideal.ofBits .f32 0x42800000#32) + Ideal.ofBits .f32 0x358637BD#32) := by
  rw [val_main_v41_apply, val_main_v40_apply, val_main_v38_apply, val_main_v36_apply, val_main_v37_apply, val_main_v39_apply, val_main_cst_4_apply, val_main_cst_5_apply]
  have e : idx_main_v36 (ix3 r h 0) = ix2 r h := funext fun b => by match b with | ⟨0, _⟩ => rfl | ⟨1, _⟩ => rfl
  rw [e, v35_at]
  rfl

/-- The key gain at a lane. -/
theorem v45_at (r : Fin 8192) (h : Fin 4) (l : Fin 64) : val_main_v45 (F := Ideal) kg (ix3 r h l) = kg (ix2 0 l) := by
  rw [val_main_v45_apply, val_main_v44_apply, val_main_v33_apply, val_main_v32_apply]
  refine congrArg kg (funext fun b => Fin.ext ?_)
  match b with
  | ⟨0, _⟩ => rfl
  | ⟨1, _⟩ => show l.val % 64 = l.val; omega

/-- The normalised key. -/
theorem v46_at (r : Fin 8192) (h : Fin 4) (l : Fin 64) : val_main_v46 (F := Ideal) x m1 m2 g w kg (ix3 r h l)
    = headAt (fun j => projRow x m1 m2 g w r ⟨1024 + (h.val * 64 + j.val), by omega⟩) (kg (ix2 0 l)) l := by
  rw [val_main_v46_apply, val_main_v43_apply, val_main_v42_apply, v45_at, v31_at]
  have e : idx_main_v42 (ix3 r h l) = ix3 r h 0 := funext fun b => by match b with | ⟨0, _⟩ => rfl | ⟨1, _⟩ => rfl | ⟨2, _⟩ => rfl
  rw [e, v41_at]
  rfl

/-- The reference's keys are the array of keys. -/
theorem ref_keys : val_main_v47 (F := Ideal) x m1 m2 g w kg = keys x m1 m2 g w kg := by
  funext i
  idx_vars i
  rw [val_main_v47_apply]
  have e : idx_main_v47 (ix2 i0 i1) = ix3 i0 ⟨i1.val / 64, by omega⟩ ⟨i1.val % 64, by omega⟩ := funext fun b => Fin.ext (by
    match b with
    | ⟨0, _⟩ => show (i0.val * 256 + i1.val) / 256 = i0.val; omega
    | ⟨1, _⟩ => show (i0.val * 256 + i1.val) / 64 % 4 = i1.val / 64; omega
    | ⟨2, _⟩ => show (i0.val * 256 + i1.val) % 64 = i1.val % 64; omega)
  rw [e, v46_at]
  rfl

/-- The reference's values are the array of values. -/
theorem ref_vals : val_main_v30 (F := Ideal) x m1 m2 g w = vals x m1 m2 g w := by
  funext i
  idx_vars i
  rw [val_main_v30_apply]
  have e : idx_main_v30 (ix2 i0 i1) = ix2 i0 ⟨1280 + i1.val, by omega⟩ := funext fun b => Fin.ext (by match b with | ⟨0, _⟩ => rfl | ⟨1, _⟩ => rfl)
  rw [e, v27_at]
  rfl

end Ref

/-- The kernel's keys and values and the reference's meet. -/
theorem algebraic : @Cert.algebraic_KvIdeal_KvRefIdeal Cert.KvIdeal.Gen.facts Cert.KvRefIdeal.Gen.facts := by
  intro m g m' g' hpre hargs
  refine ⟨fun c => outKeys m c, fun c => outVals m c, ?_, ?_⟩
  · refine (θ_run Cert.KvIdeal.defs _ _).mono (fun r h c => ?_) (Cert.KvIdeal.Value.run_blocks (F := Ideal) m g)
    obtain ⟨-, -, -, hk, hv, hrest⟩ := h c
    exact ⟨hk.trans (final_keys m c), hv.trans (final_vals m c), hrest⟩
  · refine (θ_run Cert.KvRefIdeal.defs _ _).mono (fun r h c => ⟨(h c).1.trans ?_, (h c).2.1.trans ?_, (h c).2.2⟩) (Cert.KvRefIdeal.Value.run (F := Ideal) m' g')
    · obtain ⟨h0, h1, h2, h3, h4, h5, h6⟩ := hargs c
      rw [Cert.KvRefIdeal.Read.val_main_v47_eq, h0, h1, h2, h3, h4, h6]
      exact ref_keys _ _ _ _ _ _
    · obtain ⟨h0, h1, h2, h3, h4, h5, h6⟩ := hargs c
      rw [h0, h1, h2, h3, h4, Cert.KvRefIdeal.Read.val_main_v30_eq]
      exact ref_vals _ _ _ _ _

end Cert.KvClose

end
-- ==== Proof.lean ====
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Experts
public import proofs.«01_k».proof.Proof.Gen.Experts.Skeleton
public import proofs.«01_k».proof.Proof.Gen.Experts.Launch
public import proofs.«01_k».proof.Proof.Gen.Experts.Flash
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsIdeal.Flash
public import proofs.«01_k».proof.Proof.Gen.ExpertsRefIdeal
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.OutRefIdeal.Read
public import proofs.«01_k».proof.Proof.Gen.Kv
public import proofs.«01_k».proof.Proof.Gen.Kv.Skeleton
public import proofs.«01_k».proof.Proof.Gen.Kv.Launch
public import proofs.«01_k».proof.Proof.Gen.Kv.Points
public import proofs.«01_k».proof.Proof.Gen.Kv.Frame
public import proofs.«01_k».proof.Proof.Gen.KvIdeal
public import proofs.«01_k».proof.Proof.Gen.KvIdeal.Skeleton
public import proofs.«01_k».proof.Proof.Gen.KvIdeal.Launch
public import proofs.«01_k».proof.Proof.Gen.KvIdeal.Points
public import proofs.«01_k».proof.Proof.Gen.KvIdeal.Frame
public import proofs.«01_k».proof.Proof.Gen.KvIdeal.Value
public import proofs.«01_k».proof.Proof.Gen.KvRefIdeal
public import proofs.«01_k».proof.Proof.Gen.KvRefIdeal.Run
public import proofs.«01_k».proof.Proof.Gen.KvRefIdeal.Read
public import proofs.«01_k».proof.Proof.Gen.Pre_finite_qk
public import proofs.«01_k».proof.Proof.Gen.Pre_routed
public import proofs.«01_k».proof.Proof.Gen.AttnIdeal.Value
public import proofs.«01_k».proof.Proof.Gen.AttnRefIdeal.Run
public import proofs.«01_k».proof.Proof.Gen.AttnRefIdeal.Read
public import proofs.«01_k».proof.Proof.AttnClose
public import proofs.«01_k».proof.Proof.Gen.ExpertsRefIdeal.Run
public import proofs.«01_k».proof.Proof.Gen.ExpertsRefIdeal.Read
public import proofs.«01_k».proof.Proof.ExpertsClose
public import proofs.«01_k».proof.Proof.OutClose
public import proofs.«01_k».proof.Proof.KvClose
public import Idealize.ShloMosaic.Adequacy
public import Idealize.ShloMosaic.Init

@[expose] public section

noncomputable section

namespace Cert.Proof

open Idealize.ShloMosaic Idealize.SL.Sem

/-- The attention reference's frame: its run's, its arguments kept; it has no semaphores. -/
theorem attn_ref_frame : @Cert.quiescent_AttnRefIdeal Cert.AttnRefIdeal.Gen.facts := fun m ρ _ =>
  (θ_run Cert.AttnRefIdeal.defs _ _).mono (fun r h => ⟨fun c => (h c).2, Idealize.ShloMosaic.sem_eq_zero_of_no_sems (by decide) r.2⟩)
    (Cert.AttnRefIdeal.Value.run (F := Ideal) m ρ)

/-- The output product's reference's frame: its run's, its arguments kept; it has no semaphores. -/
theorem out_ref_frame : @Cert.quiescent_OutRefIdeal Cert.OutRefIdeal.Gen.facts := fun m ρ _ =>
  (θ_run Cert.OutRefIdeal.defs _ _).mono (fun r h => ⟨fun c => (h c).2, Idealize.ShloMosaic.sem_eq_zero_of_no_sems (by decide) r.2⟩)
    (Cert.OutRefIdeal.Value.run (F := Ideal) m ρ)

/-- The reference of the prompt tokens' projection call runs, changes no argument and leaves the semaphores at zero. -/
theorem kv_ref_frame : @Cert.quiescent_KvRefIdeal Cert.KvRefIdeal.Gen.facts := fun m ρ _ =>
  (θ_run Cert.KvRefIdeal.defs _ _).mono (fun r h => ⟨fun c => (h c).2.2, Idealize.ShloMosaic.sem_eq_zero_of_no_sems (by decide) r.2⟩)
    (Cert.KvRefIdeal.Value.run (F := Ideal) m ρ)

/-- The claim: of each call the frames, the idealization kept as it is, and the equality of the arrays. -/
theorem claim : Cert.Claim := ⟨Cert.Attn.Gen.facts, Cert.AttnIdeal.Gen.facts, Cert.AttnRefIdeal.Gen.facts, Cert.Experts.Gen.facts, Cert.ExpertsIdeal.Gen.facts,
  Cert.ExpertsRefIdeal.Gen.facts, Cert.Out.Gen.facts, Cert.OutIdeal.Gen.facts, Cert.OutRefIdeal.Gen.facts, Cert.Kv.Gen.facts, Cert.KvIdeal.Gen.facts, Cert.KvRefIdeal.Gen.facts,
  Cert.Pre_finite_qk.Gen.facts, Cert.Pre_routed.Gen.facts,
  fun m ρ _ => Cert.Attn.Gen.frame m ρ,
  fun m ρ _ => Cert.AttnIdeal.Gen.frame m ρ,
  fun m ρ _ => Cert.AttnIdeal.Gen.frame m ρ,
  attn_ref_frame,
  fun m ρ _ => attn_ref_frame m ρ trivial,
  Cert.ExpertsPlan.frame_bits,
  Cert.ExpertsPlan.frame_ideal,
  Cert.ExpertsClose.ref_frame,
  fun m ρ _ => Cert.ExpertsClose.ref_frame m ρ trivial,
  fun m ρ _ => Cert.Out.Gen.frame m ρ,
  fun m ρ _ => Cert.OutIdeal.Gen.frame m ρ,
  out_ref_frame,
  fun m ρ _ => Cert.Kv.Gen.frame m ρ,
  fun m ρ _ => Cert.KvIdeal.Gen.frame m ρ,
  kv_ref_frame,
  trivial,
  Cert.AttnClose.algebraic,
  trivial,
  Cert.ExpertsClose.algebraic,
  trivial,
  Cert.OutClose.algebraic,
  trivial,
  Cert.KvClose.algebraic⟩

end Cert.Proof

end
